-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_FfnEnd (m : (ℓ : Loc Cert.FfnEnd.nD Cert.FfnEnd.τ Cert.FfnEnd.sig) → Buf (Elt Bits) ℓ) : Prop :=
  True

def Pre_FfnEndIdeal (m : (ℓ : Loc Cert.FfnEndIdeal.nD Cert.FfnEndIdeal.τ Cert.FfnEndIdeal.sig) → Buf (Elt Ideal) ℓ) : Prop :=
  True

def Pre_FfnEndRefIdeal (m : (ℓ : Loc Cert.FfnEndRefIdeal.nD Cert.FfnEndRefIdeal.τ Cert.FfnEndRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInIdeal_finite_even_in [hPre_finite_even_in : Cert.Pre_finite_even_in.Facts] (m : (ℓ : Loc Cert.EvenInIdeal.nD Cert.EvenInIdeal.τ Cert.EvenInIdeal.sig) → Buf (Elt Ideal) ℓ) : Prop :=
  ∀ c : Dev Cert.EvenInIdeal.nD,
    (Cert.Pre_finite_even_in.fn (F := Ideal) (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)) (m ((c.tc : Thread Cert.EvenInIdeal.nD Cert.EvenInIdeal.τ).loc Cert.EvenInIdeal.main_arg4)) (m ((c.tc : Thread Cert.EvenInIdeal.nD Cert.EvenInIdeal.τ).loc Cert.EvenInIdeal.main_arg5))).1 = (fun _ => 1#1)
    ∧ (Cert.Pre_finite_even_in.fn (F := Ideal) (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)) (m ((c.tc : Thread Cert.EvenInIdeal.nD Cert.EvenInIdeal.τ).loc Cert.EvenInIdeal.main_arg4)) (m ((c.tc : Thread Cert.EvenInIdeal.nD Cert.EvenInIdeal.τ).loc Cert.EvenInIdeal.main_arg5))).2.1 = (fun _ => 1#1)
    ∧ (Cert.Pre_finite_even_in.fn (F := Ideal) (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)) (m ((c.tc : Thread Cert.EvenInIdeal.nD Cert.EvenInIdeal.τ).loc Cert.EvenInIdeal.main_arg4)) (m ((c.tc : Thread Cert.EvenInIdeal.nD Cert.EvenInIdeal.τ).loc Cert.EvenInIdeal.main_arg5))).2.2.1 = (fun _ => 1#1)
    ∧ (Cert.Pre_finite_even_in.fn (F := Ideal) (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2)) (m ((c.tc : Thread Cert.EvenInIdeal.nD Cert.EvenInIdeal.τ).loc Cert.EvenInIdeal.main_arg3)) (m ((c.tc : Thread Cert.EvenInIdeal.nD Cert.EvenInIdeal.τ).loc Cert.EvenInIdeal.main_arg4)) (m ((c.tc : Thread Cert.EvenInIdeal.nD Cert.EvenInIdeal.τ).loc Cert.EvenInIdeal.main_arg5))).2.2.2 = (fun _ => 1#1)

def Pre_EvenInRefIdeal (m : (ℓ : Loc Cert.EvenInRefIdeal.nD Cert.EvenInRefIdeal.τ Cert.EvenInRefIdeal.sig) → Buf (Elt Ideal) ℓ) : Prop :=
  True

def Pre_EvenInRefIdeal_finite_even_in [hPre_finite_even_in : Cert.Pre_finite_even_in.Facts] (m : (ℓ : Loc Cert.EvenInRefIdeal.nD Cert.EvenInRefIdeal.τ Cert.EvenInRefIdeal.sig) → Buf (Elt Ideal) ℓ) : Prop :=
  ∀ c : Dev Cert.EvenInRefIdeal.nD,
    (Cert.Pre_finite_even_in.fn (F := Ideal) (m ((c.tc : Thread Cert.EvenInRefIdeal.nD Cert.EvenInRefIdeal.τ).loc Cert.EvenInRefIdeal.main_arg0)) (m ((c.tc : Thread Cert.EvenInRefIdeal.nD Cert.EvenInRefIdeal.τ).loc Cert.EvenInRefIdeal.main_arg1)) (m ((c.tc : Thread Cert.EvenInRefIdeal.nD Cert.EvenInRefIdeal.τ).loc Cert.EvenInRefIdeal.main_arg2)) (m ((c.tc : Thread Cert.EvenInRefIdeal.nD Cert.EvenInRefIdeal.τ).loc Cert.EvenInRefIdeal.main_arg3)) (m ((c.tc : Thread Cert.EvenInRefIdeal.nD Cert.EvenInRefIdeal.τ).loc Cert.EvenInRefIdeal.main_arg4)) (m ((c.tc : Thread Cert.EvenInRefIdeal.nD Cert.EvenInRefIdeal.τ).loc Cert.EvenInRefIdeal.main_arg5))).1 = (fun _ => 1#1)
    ∧ (Cert.Pre_finite_even_in.fn (F := Ideal) (m ((c.tc : Thread Cert.EvenInRefIdeal.nD Cert.EvenInRefIdeal.τ).loc Cert.EvenInRefIdeal.main_arg0)) (m ((c.tc : Thread Cert.EvenInRefIdeal.nD Cert.EvenInRefIdeal.τ).loc Cert.EvenInRefIdeal.main_arg1)) (m ((c.tc : Thread Cert.EvenInRefIdeal.nD Cert.EvenInRefIdeal.τ).loc Cert.EvenInRefIdeal.main_arg2)) (m ((c.tc : Thread Cert.EvenInRefIdeal.nD Cert.EvenInRefIdeal.τ).loc Cert.EvenInRefIdeal.main_arg3)) (m ((c.tc : Thread Cert.EvenInRefIdeal.nD Cert.EvenInRefIdeal.τ).loc Cert.EvenInRefIdeal.main_arg4)) (m ((c.tc : Thread Cert.EvenInRefIdeal.nD Cert.EvenInRefIdeal.τ).loc Cert.EvenInRefIdeal.main_arg5))).2.1 = (fun _ => 1#1)
    ∧ (Cert.Pre_finite_even_in.fn (F := Ideal) (m ((c.tc : Thread Cert.EvenInRefIdeal.nD Cert.EvenInRefIdeal.τ).loc Cert.EvenInRefIdeal.main_arg0)) (m ((c.tc : Thread Cert.EvenInRefIdeal.nD Cert.EvenInRefIdeal.τ).loc Cert.EvenInRefIdeal.main_arg1)) (m ((c.tc : Thread Cert.EvenInRefIdeal.nD Cert.EvenInRefIdeal.τ).loc Cert.EvenInRefIdeal.main_arg2)) (m ((c.tc : Thread Cert.EvenInRefIdeal.nD Cert.EvenInRefIdeal.τ).loc Cert.EvenInRefIdeal.main_arg3)) (m ((c.tc : Thread Cert.EvenInRefIdeal.nD Cert.EvenInRefIdeal.τ).loc Cert.EvenInRefIdeal.main_arg4)) (m ((c.tc : Thread Cert.EvenInRefIdeal.nD Cert.EvenInRefIdeal.τ).loc Cert.EvenInRefIdeal.main_arg5))).2.2.1 = (fun _ => 1#1)
    ∧ (Cert.Pre_finite_even_in.fn (F := Ideal) (m ((c.tc : Thread Cert.EvenInRefIdeal.nD Cert.EvenInRefIdeal.τ).loc Cert.EvenInRefIdeal.main_arg0)) (m ((c.tc : Thread Cert.EvenInRefIdeal.nD Cert.EvenInRefIdeal.τ).loc Cert.EvenInRefIdeal.main_arg1)) (m ((c.tc : Thread Cert.EvenInRefIdeal.nD Cert.EvenInRefIdeal.τ).loc Cert.EvenInRefIdeal.main_arg2)) (m ((c.tc : Thread Cert.EvenInRefIdeal.nD Cert.EvenInRefIdeal.τ).loc Cert.EvenInRefIdeal.main_arg3)) (m ((c.tc : Thread Cert.EvenInRefIdeal.nD Cert.EvenInRefIdeal.τ).loc Cert.EvenInRefIdeal.main_arg4)) (m ((c.tc : Thread Cert.EvenInRefIdeal.nD Cert.EvenInRefIdeal.τ).loc Cert.EvenInRefIdeal.main_arg5))).2.2.2 = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5)
      ∧ r.2.mem ((c.tc : Thread Cert.FfnMid.nD Cert.FfnMid.τ).loc Cert.FfnMid.main_arg6) = m ((c.tc : Thread Cert.FfnMid.nD Cert.FfnMid.τ).loc Cert.FfnMid.main_arg6))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
      ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5)
      ∧ r.2.mem ((c.tc : Thread Cert.FfnMidRefIdeal.nD Cert.FfnMidRefIdeal.τ).loc Cert.FfnMidRefIdeal.main_arg6) = m ((c.tc : Thread Cert.FfnMidRefIdeal.nD Cert.FfnMidRefIdeal.τ).loc Cert.FfnMidRefIdeal.main_arg6))
      ∧ r.2.sem = fun _ => 0)

def quiescent_FfnEnd [hFfnEnd : Cert.FfnEnd.Facts] : Prop :=
  ∀ (m : (ℓ : Loc Cert.FfnEnd.nD Cert.FfnEnd.τ Cert.FfnEnd.sig) → Buf (Elt Bits) ℓ) (g : Dev Cert.FfnEnd.nD → PrngReg), Pre_FfnEnd m →
    θ_run (Cert.FfnEnd.defs (F := Bits)) (onTc (τ := Cert.FfnEnd.τ) (Cert.FfnEnd.main (F := Bits))) ⟨m, fun _ => 0, g⟩ (fun r => (∀ c : Dev Cert.FfnEnd.nD,
      r.2.mem ((c.tc : Thread Cert.FfnEnd.nD Cert.FfnEnd.τ).loc Cert.FfnEnd.main_arg0) = m ((c.tc : Thread Cert.FfnEnd.nD Cert.FfnEnd.τ).loc Cert.FfnEnd.main_arg0)
      ∧ r.2.mem ((c.tc : Thread Cert.FfnEnd.nD Cert.FfnEnd.τ).loc Cert.FfnEnd.main_arg1) = m ((c.tc : Thread Cert.FfnEnd.nD Cert.FfnEnd.τ).loc Cert.FfnEnd.main_arg1)
      ∧ r.2.mem ((c.tc : Thread Cert.FfnEnd.nD Cert.FfnEnd.τ).loc Cert.FfnEnd.main_arg2) = m ((c.tc : Thread Cert.FfnEnd.nD Cert.FfnEnd.τ).loc Cert.FfnEnd.main_arg2)
      ∧ r.2.mem ((c.tc : Thread Cert.FfnEnd.nD Cert.FfnEnd.τ).loc Cert.FfnEnd.main_arg3) = m ((c.tc : Thread Cert.FfnEnd.nD Cert.FfnEnd.τ).loc Cert.FfnEnd.main_arg3)
      ∧ r.2.mem ((c.tc : Thread Cert.FfnEnd.nD Cert.FfnEnd.τ).loc Cert.FfnEnd.main_arg4) = m ((c.tc : Thread Cert.FfnEnd.nD Cert.FfnEnd.τ).loc Cert.FfnEnd.main_arg4)
      ∧ r.2.mem ((c.tc : Thread Cert.FfnEnd.nD Cert.FfnEnd.τ).loc Cert.FfnEnd.main_arg5) = m ((c.tc : Thread Cert.FfnEnd.nD Cert.FfnEnd.τ).loc Cert.FfnEnd.main_arg5)
      ∧ r.2.mem ((c.tc : Thread Cert.FfnEnd.nD Cert.FfnEnd.τ).loc Cert.FfnEnd.main_arg6) = m ((c.tc : Thread Cert.FfnEnd.nD Cert.FfnEnd.τ).loc Cert.FfnEnd.main_arg6))
      ∧ r.2.sem = fun _ => 0)

def quiescent_FfnEndIdeal [hFfnEndIdeal : Cert.FfnEndIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg), Pre_FfnEndIdeal m →
    θ_run (Cert.FfnEndIdeal.defs (F := Ideal)) (onTc (τ := Cert.FfnEndIdeal.τ) (Cert.FfnEndIdeal.main (F := Ideal))) ⟨m, fun _ => 0, g⟩ (fun r => (∀ c : Dev Cert.FfnEndIdeal.nD,
      r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
      ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
      ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
      ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
      ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
      ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5)
      ∧ r.2.mem ((c.tc : Thread Cert.FfnEndIdeal.nD Cert.FfnEndIdeal.τ).loc Cert.FfnEndIdeal.main_arg6) = m ((c.tc : Thread Cert.FfnEndIdeal.nD Cert.FfnEndIdeal.τ).loc Cert.FfnEndIdeal.main_arg6))
      ∧ r.2.sem = fun _ => 0)

def quiescent_FfnEndRefIdeal [hFfnEndRefIdeal : Cert.FfnEndRefIdeal.Facts] : Prop :=
  ∀ (m : (ℓ : Loc Cert.FfnEndRefIdeal.nD Cert.FfnEndRefIdeal.τ Cert.FfnEndRefIdeal.sig) → Buf (Elt Ideal) ℓ) (g : Dev Cert.FfnEndRefIdeal.nD → PrngReg), Pre_FfnEndRefIdeal m →
    θ_run (Cert.FfnEndRefIdeal.defs (F := Ideal)) (onTc (τ := Cert.FfnEndRefIdeal.τ) (Cert.FfnEndRefIdeal.main (F := Ideal))) ⟨m, fun _ => 0, g⟩ (fun r => (∀ c : Dev Cert.FfnEndRefIdeal.nD,
      r.2.mem ((c.tc : Thread Cert.FfnEndRefIdeal.nD Cert.FfnEndRefIdeal.τ).loc Cert.FfnEndRefIdeal.main_arg0) = m ((c.tc : Thread Cert.FfnEndRefIdeal.nD Cert.FfnEndRefIdeal.τ).loc Cert.FfnEndRefIdeal.main_arg0)
      ∧ r.2.mem ((c.tc : Thread Cert.FfnEndRefIdeal.nD Cert.FfnEndRefIdeal.τ).loc Cert.FfnEndRefIdeal.main_arg1) = m ((c.tc : Thread Cert.FfnEndRefIdeal.nD Cert.FfnEndRefIdeal.τ).loc Cert.FfnEndRefIdeal.main_arg1)
      ∧ r.2.mem ((c.tc : Thread Cert.FfnEndRefIdeal.nD Cert.FfnEndRefIdeal.τ).loc Cert.FfnEndRefIdeal.main_arg2) = m ((c.tc : Thread Cert.FfnEndRefIdeal.nD Cert.FfnEndRefIdeal.τ).loc Cert.FfnEndRefIdeal.main_arg2)
      ∧ r.2.mem ((c.tc : Thread Cert.FfnEndRefIdeal.nD Cert.FfnEndRefIdeal.τ).loc Cert.FfnEndRefIdeal.main_arg3) = m ((c.tc : Thread Cert.FfnEndRefIdeal.nD Cert.FfnEndRefIdeal.τ).loc Cert.FfnEndRefIdeal.main_arg3)
      ∧ r.2.mem ((c.tc : Thread Cert.FfnEndRefIdeal.nD Cert.FfnEndRefIdeal.τ).loc Cert.FfnEndRefIdeal.main_arg4) = m ((c.tc : Thread Cert.FfnEndRefIdeal.nD Cert.FfnEndRefIdeal.τ).loc Cert.FfnEndRefIdeal.main_arg4)
      ∧ r.2.mem ((c.tc : Thread Cert.FfnEndRefIdeal.nD Cert.FfnEndRefIdeal.τ).loc Cert.FfnEndRefIdeal.main_arg5) = m ((c.tc : Thread Cert.FfnEndRefIdeal.nD Cert.FfnEndRefIdeal.τ).loc Cert.FfnEndRefIdeal.main_arg5)
      ∧ r.2.mem ((c.tc : Thread Cert.FfnEndRefIdeal.nD Cert.FfnEndRefIdeal.τ).loc Cert.FfnEndRefIdeal.main_arg6) = m ((c.tc : Thread Cert.FfnEndRefIdeal.nD Cert.FfnEndRefIdeal.τ).loc Cert.FfnEndRefIdeal.main_arg6))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ r.2.sem = fun _ => 0)

def quiescent_EvenInIdeal_pre_finite_even_in [hEvenInIdeal : Cert.EvenInIdeal.Facts] [hPre_finite_even_in : Cert.Pre_finite_even_in.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal_finite_even_in m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5))
      ∧ r.2.sem = fun _ => 0)

def quiescent_EvenInRefIdeal_pre_finite_even_in [hEvenInRefIdeal : Cert.EvenInRefIdeal.Facts] [hPre_finite_even_in : Cert.Pre_finite_even_in.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal_finite_even_in m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)
      ∧ m' ((c.tc : Thread Cert.FfnMidRefIdeal.nD Cert.FfnMidRefIdeal.τ).loc Cert.FfnMidRefIdeal.main_arg6) = m ((c.tc : Thread Cert.FfnMidIdeal.nD Cert.FfnMidIdeal.τ).loc Cert.FfnMidIdeal.main_arg6)) →
    ∃ (v0 : (c : Dev Cert.FfnMidIdeal.nD) → Buf (Elt Ideal) ((c.tc : Thread Cert.FfnMidIdeal.nD Cert.FfnMidIdeal.τ).loc Cert.FfnMidIdeal.main_v1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v1) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
          ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v42) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5)
          ∧ r.2.mem ((c.tc : Thread Cert.FfnMidRefIdeal.nD Cert.FfnMidRefIdeal.τ).loc Cert.FfnMidRefIdeal.main_arg6) = m' ((c.tc : Thread Cert.FfnMidRefIdeal.nD Cert.FfnMidRefIdeal.τ).loc Cert.FfnMidRefIdeal.main_arg6))

def preserves_FfnEnd_FfnEndIdeal : Prop :=
  True

def algebraic_FfnEndIdeal_FfnEndRefIdeal [hFfnEndIdeal : Cert.FfnEndIdeal.Facts] [hFfnEndRefIdeal : Cert.FfnEndRefIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg)
    (m' : (ℓ : Loc Cert.FfnEndRefIdeal.nD Cert.FfnEndRefIdeal.τ Cert.FfnEndRefIdeal.sig) → Buf (Elt Ideal) ℓ) (g' : Dev Cert.FfnEndRefIdeal.nD → PrngReg), Pre_FfnEndIdeal m →
    (∀ c : Dev Cert.FfnEndIdeal.nD,
      m' ((c.tc : Thread Cert.FfnEndRefIdeal.nD Cert.FfnEndRefIdeal.τ).loc Cert.FfnEndRefIdeal.main_arg0) = m ((c.tc : Thread Cert.FfnEndIdeal.nD Cert.FfnEndIdeal.τ).loc Cert.FfnEndIdeal.main_arg0)
      ∧ m' ((c.tc : Thread Cert.FfnEndRefIdeal.nD Cert.FfnEndRefIdeal.τ).loc Cert.FfnEndRefIdeal.main_arg1) = m ((c.tc : Thread Cert.FfnEndIdeal.nD Cert.FfnEndIdeal.τ).loc Cert.FfnEndIdeal.main_arg1)
      ∧ m' ((c.tc : Thread Cert.FfnEndRefIdeal.nD Cert.FfnEndRefIdeal.τ).loc Cert.FfnEndRefIdeal.main_arg2) = m ((c.tc : Thread Cert.FfnEndIdeal.nD Cert.FfnEndIdeal.τ).loc Cert.FfnEndIdeal.main_arg2)
      ∧ m' ((c.tc : Thread Cert.FfnEndRefIdeal.nD Cert.FfnEndRefIdeal.τ).loc Cert.FfnEndRefIdeal.main_arg3) = m ((c.tc : Thread Cert.FfnEndIdeal.nD Cert.FfnEndIdeal.τ).loc Cert.FfnEndIdeal.main_arg3)
      ∧ m' ((c.tc : Thread Cert.FfnEndRefIdeal.nD Cert.FfnEndRefIdeal.τ).loc Cert.FfnEndRefIdeal.main_arg4) = m ((c.tc : Thread Cert.FfnEndIdeal.nD Cert.FfnEndIdeal.τ).loc Cert.FfnEndIdeal.main_arg4)
      ∧ m' ((c.tc : Thread Cert.FfnEndRefIdeal.nD Cert.FfnEndRefIdeal.τ).loc Cert.FfnEndRefIdeal.main_arg5) = m ((c.tc : Thread Cert.FfnEndIdeal.nD Cert.FfnEndIdeal.τ).loc Cert.FfnEndIdeal.main_arg5)
      ∧ m' ((c.tc : Thread Cert.FfnEndRefIdeal.nD Cert.FfnEndRefIdeal.τ).loc Cert.FfnEndRefIdeal.main_arg6) = m ((c.tc : Thread Cert.FfnEndIdeal.nD Cert.FfnEndIdeal.τ).loc Cert.FfnEndIdeal.main_arg6)) →
    ∃ (v0 : (c : Dev Cert.FfnEndIdeal.nD) → Buf (Elt Ideal) ((c.tc : Thread Cert.FfnEndIdeal.nD Cert.FfnEndIdeal.τ).loc Cert.FfnEndIdeal.main_v2)),
      θ_run (Cert.FfnEndIdeal.defs (F := Ideal)) (onTc (τ := Cert.FfnEndIdeal.τ) (Cert.FfnEndIdeal.main (F := Ideal))) ⟨m, fun _ => 0, g⟩ (fun r => ∀ c : Dev Cert.FfnEndIdeal.nD,
          r.2.mem ((c.tc : Thread Cert.FfnEndIdeal.nD Cert.FfnEndIdeal.τ).loc Cert.FfnEndIdeal.main_v2) = v0 c
          ∧ r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
          ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
          ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
          ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
          ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
          ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5)
          ∧ r.2.mem ((c.tc : Thread Cert.FfnEndIdeal.nD Cert.FfnEndIdeal.τ).loc Cert.FfnEndIdeal.main_arg6) = m ((c.tc : Thread Cert.FfnEndIdeal.nD Cert.FfnEndIdeal.τ).loc Cert.FfnEndIdeal.main_arg6))
      ∧ θ_run (Cert.FfnEndRefIdeal.defs (F := Ideal)) (onTc (τ := Cert.FfnEndRefIdeal.τ) (Cert.FfnEndRefIdeal.main (F := Ideal))) ⟨m', fun _ => 0, g'⟩ (fun r => ∀ c : Dev Cert.FfnEndRefIdeal.nD,
          r.2.mem ((c.tc : Thread Cert.FfnEndRefIdeal.nD Cert.FfnEndRefIdeal.τ).loc Cert.FfnEndRefIdeal.main_v55) = v0 c
          ∧ r.2.mem ((c.tc : Thread Cert.FfnEndRefIdeal.nD Cert.FfnEndRefIdeal.τ).loc Cert.FfnEndRefIdeal.main_arg0) = m' ((c.tc : Thread Cert.FfnEndRefIdeal.nD Cert.FfnEndRefIdeal.τ).loc Cert.FfnEndRefIdeal.main_arg0)
          ∧ r.2.mem ((c.tc : Thread Cert.FfnEndRefIdeal.nD Cert.FfnEndRefIdeal.τ).loc Cert.FfnEndRefIdeal.main_arg1) = m' ((c.tc : Thread Cert.FfnEndRefIdeal.nD Cert.FfnEndRefIdeal.τ).loc Cert.FfnEndRefIdeal.main_arg1)
          ∧ r.2.mem ((c.tc : Thread Cert.FfnEndRefIdeal.nD Cert.FfnEndRefIdeal.τ).loc Cert.FfnEndRefIdeal.main_arg2) = m' ((c.tc : Thread Cert.FfnEndRefIdeal.nD Cert.FfnEndRefIdeal.τ).loc Cert.FfnEndRefIdeal.main_arg2)
          ∧ r.2.mem ((c.tc : Thread Cert.FfnEndRefIdeal.nD Cert.FfnEndRefIdeal.τ).loc Cert.FfnEndRefIdeal.main_arg3) = m' ((c.tc : Thread Cert.FfnEndRefIdeal.nD Cert.FfnEndRefIdeal.τ).loc Cert.FfnEndRefIdeal.main_arg3)
          ∧ r.2.mem ((c.tc : Thread Cert.FfnEndRefIdeal.nD Cert.FfnEndRefIdeal.τ).loc Cert.FfnEndRefIdeal.main_arg4) = m' ((c.tc : Thread Cert.FfnEndRefIdeal.nD Cert.FfnEndRefIdeal.τ).loc Cert.FfnEndRefIdeal.main_arg4)
          ∧ r.2.mem ((c.tc : Thread Cert.FfnEndRefIdeal.nD Cert.FfnEndRefIdeal.τ).loc Cert.FfnEndRefIdeal.main_arg5) = m' ((c.tc : Thread Cert.FfnEndRefIdeal.nD Cert.FfnEndRefIdeal.τ).loc Cert.FfnEndRefIdeal.main_arg5)
          ∧ r.2.mem ((c.tc : Thread Cert.FfnEndRefIdeal.nD Cert.FfnEndRefIdeal.τ).loc Cert.FfnEndRefIdeal.main_arg6) = m' ((c.tc : Thread Cert.FfnEndRefIdeal.nD Cert.FfnEndRefIdeal.τ).loc Cert.FfnEndRefIdeal.main_arg6))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v5)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v5) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v11) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)) →
    ∃ (v0 : (c : Dev Cert.OutOddIdeal.nD) → Buf (Elt Ideal) ((c.tc : Thread Cert.OutOddIdeal.nD Cert.OutOddIdeal.τ).loc Cert.OutOddIdeal.main_v1)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v1) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v10) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v24_0)) (v1 : (c : Dev Cert.OddInIdeal.nD) → Buf (Elt Ideal) ((c.tc : Thread Cert.OddInIdeal.nD Cert.OddInIdeal.τ).loc Cert.OddInIdeal.main_v24_1)) (v2 : (c : Dev Cert.OddInIdeal.nD) → Buf (Elt Ideal) ((c.tc : Thread Cert.OddInIdeal.nD Cert.OddInIdeal.τ).loc Cert.OddInIdeal.main_v24_2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v24_0) = v0 c
          ∧ r.2.mem ((c.tc : Thread Cert.OddInIdeal.nD Cert.OddInIdeal.τ).loc Cert.OddInIdeal.main_v24_1) = v1 c
          ∧ r.2.mem ((c.tc : Thread Cert.OddInIdeal.nD Cert.OddInIdeal.τ).loc Cert.OddInIdeal.main_v24_2) = v2 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v41) = v0 c
          ∧ r.2.mem ((c.tc : Thread Cert.OddInRefIdeal.nD Cert.OddInRefIdeal.τ).loc Cert.OddInRefIdeal.main_v42) = v1 c
          ∧ r.2.mem ((c.tc : Thread Cert.OddInRefIdeal.nD Cert.OddInRefIdeal.τ).loc Cert.OddInRefIdeal.main_v43) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_EvenIn_EvenInIdeal : Prop :=
  True

def algebraic_EvenInIdeal_EvenInRefIdeal_pre_finite_even_in [hEvenInIdeal : Cert.EvenInIdeal.Facts] [hEvenInRefIdeal : Cert.EvenInRefIdeal.Facts] [hPre_finite_even_in : Cert.Pre_finite_even_in.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal_finite_even_in m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)) →
    ∃ (v0 : (c : Dev Cert.EvenInIdeal.nD) → Buf (Elt Ideal) ((c.tc : Thread Cert.EvenInIdeal.nD Cert.EvenInIdeal.τ).loc Cert.EvenInIdeal.main_v5_0)) (v1 : (c : Dev Cert.EvenInIdeal.nD) → Buf (Elt Ideal) ((c.tc : Thread Cert.EvenInIdeal.nD Cert.EvenInIdeal.τ).loc Cert.EvenInIdeal.main_v5_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v5_0) = v0 c
          ∧ r.2.mem ((c.tc : Thread Cert.EvenInIdeal.nD Cert.EvenInIdeal.τ).loc Cert.EvenInIdeal.main_v5_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v104) = v0 c
          ∧ r.2.mem ((c.tc : Thread Cert.EvenInRefIdeal.nD Cert.EvenInRefIdeal.τ).loc Cert.EvenInRefIdeal.main_v105) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v19) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Mlstm_MlstmIdeal : Prop :=
  True

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hFfnEnd : Cert.FfnEnd.Facts) (hFfnEndIdeal : Cert.FfnEndIdeal.Facts) (hFfnEndRefIdeal : Cert.FfnEndRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hOddIn : Cert.OddIn.Facts) (hOddInIdeal : Cert.OddInIdeal.Facts) (hOddInRefIdeal : Cert.OddInRefIdeal.Facts) (hEvenIn : Cert.EvenIn.Facts) (hEvenInIdeal : Cert.EvenInIdeal.Facts) (hEvenInRefIdeal : Cert.EvenInRefIdeal.Facts) (hModulation : Cert.Modulation.Facts) (hModulationIdeal : Cert.ModulationIdeal.Facts) (hModulationRefIdeal : Cert.ModulationRefIdeal.Facts) (hMlstm : Cert.Mlstm.Facts) (hMlstmIdeal : Cert.MlstmIdeal.Facts) (hKernel : Cert.Kernel.Facts) (hKernelIdeal : Cert.KernelIdeal.Facts) (hReferenceIdeal : Cert.ReferenceIdeal.Facts) (hPre_finite_even_in : Cert.Pre_finite_even_in.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_FfnEnd (hFfnEnd := hFfnEnd)
    ∧ quiescent_FfnEndIdeal (hFfnEndIdeal := hFfnEndIdeal)
    ∧ quiescent_FfnEndRefIdeal (hFfnEndRefIdeal := hFfnEndRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_EvenIn (hEvenIn := hEvenIn)
    ∧ quiescent_EvenInIdeal (hEvenInIdeal := hEvenInIdeal)
    ∧ quiescent_EvenInIdeal_pre_finite_even_in (hEvenInIdeal := hEvenInIdeal) (hPre_finite_even_in := hPre_finite_even_in)
    ∧ quiescent_EvenInRefIdeal (hEvenInRefIdeal := hEvenInRefIdeal)
    ∧ quiescent_EvenInRefIdeal_pre_finite_even_in (hEvenInRefIdeal := hEvenInRefIdeal) (hPre_finite_even_in := hPre_finite_even_in)
    ∧ quiescent_Modulation (hModulation := hModulation)
    ∧ quiescent_ModulationIdeal (hModulationIdeal := hModulationIdeal)
    ∧ quiescent_ModulationRefIdeal (hModulationRefIdeal := hModulationRefIdeal)
    ∧ quiescent_Mlstm (hMlstm := hMlstm)
    ∧ quiescent_MlstmIdeal (hMlstmIdeal := hMlstmIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_FfnEnd_FfnEndIdeal
    ∧ algebraic_FfnEndIdeal_FfnEndRefIdeal (hFfnEndIdeal := hFfnEndIdeal) (hFfnEndRefIdeal := hFfnEndRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_OddIn_OddInIdeal
    ∧ algebraic_OddInIdeal_OddInRefIdeal (hOddInIdeal := hOddInIdeal) (hOddInRefIdeal := hOddInRefIdeal)
    ∧ preserves_EvenIn_EvenInIdeal
    ∧ algebraic_EvenInIdeal_EvenInRefIdeal_pre_finite_even_in (hEvenInIdeal := hEvenInIdeal) (hEvenInRefIdeal := hEvenInRefIdeal) (hPre_finite_even_in := hPre_finite_even_in)
    ∧ preserves_Modulation_ModulationIdeal
    ∧ algebraic_ModulationIdeal_ModulationRefIdeal (hModulationIdeal := hModulationIdeal) (hModulationRefIdeal := hModulationRefIdeal)
    ∧ preserves_Mlstm_MlstmIdeal
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x1536 : Shape := ⟨3, ![2, 8192, 1536]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S2x8192x1536 : S_.BroadcastsInDim S2x8192x1536 (![] : Fin 0 → Fin S2x8192x1536.rank)
  bcast_S_S4x64 : S_.BroadcastsInDim S4x64 (![] : Fin 0 → Fin S4x64.rank)

variable [Facts]

def fn {F : FTy → Type} [FloatOps F] (main_arg0 : FVec F S2x8192x1536 .bf16) (main_arg1 : FVec F S4x64 .f32) (main_arg2 : FVec F S128 .f32) : IVec S2x8192x1536 1 × IVec S4x64 1 :=
  let main_v0 : FVec F S2x8192x1536 .f32 := (extf .f32 · bitsLt_bf16_f32) main_arg0
  let main_v1 : FVec F S2x8192x1536 .f32 := Host.absf main_v0
  let main_cst : FVec F S_ .f32 := constant S_ .f32 0x7F800000#32
  let main_v2 : FVec F S2x8192x1536 .f32 := broadcastInDim S2x8192x1536 ![] bcast_S_S2x8192x1536 main_cst
  let main_v3 : IVec S2x8192x1536 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Pre_finite_even_in.lean ====
abbrev S16384x1024 : Shape := ⟨2, ![16384, 1024]⟩
abbrev S2x9x1024 : Shape := ⟨3, ![2, 9, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S_ : Shape := ⟨0, ![]⟩

class Facts : Prop where
  bcast_S_S16384x1024 : S_.BroadcastsInDim S16384x1024 (![] : Fin 0 → Fin S16384x1024.rank)
  bcast_S_S2x9x1024 : S_.BroadcastsInDim S2x9x1024 (![] : Fin 0 → Fin S2x9x1024.rank)
  bcast_S_S1024 : S_.BroadcastsInDim S1024 (![] : Fin 0 → Fin S1024.rank)
  bcast_S_S1024x2048 : S_.BroadcastsInDim S1024x2048 (![] : Fin 0 → Fin S1024x2048.rank)

variable [Facts]

def fn {F : FTy → Type} [FloatOps F] (main_arg0 : FVec F S16384x1024 .f32) (main_arg1 : FVec F S2x9x1024 .f32) (main_arg2 : FVec F S1024 .f32) (main_arg3 : FVec F S1024x2048 .f32) (main_arg4 : FVec F S4x128x128 .f32) (main_arg5 : FVec F S512 .f32) : IVec S16384x1024 1 × IVec S2x9x1024 1 × IVec S1024 1 × IVec S1024x2048 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S2x9x1024 .f32 := Host.absf main_arg1
  let main_cst_0 : FVec F S_ .f32 := constant S_ .f32 0x7F800000#32
  let main_v4 : FVec F S2x9x1024 .f32 := broadcastInDim S2x9x1024 ![] bcast_S_S2x9x1024 main_cst_0
  let main_v5 : IVec S2x9x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  (main_v2, main_v5, main_v8, main_v11)
-- ==== Ffn.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S512x2816 : Shape := ⟨2, ![512, 2816]⟩
abbrev S9x1024 : Shape := ⟨2, ![9, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S2x1x1024 : Shape := ⟨3, ![2, 1, 1024]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S1024x2816, .f32⟩
  | .hbm, ⟨40, _⟩ => ⟨S1024x2816, .f32⟩
  | .hbm, ⟨41, _⟩ => ⟨S2816x1024, .f32⟩
  | .hbm, ⟨42, _⟩ => ⟨S2x1x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S_, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== FfnMid.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S512x2816 : Shape := ⟨2, ![512, 2816]⟩
abbrev S9x1024 : Shape := ⟨2, ![9, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnMidRefIdeal.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S2x1x1024 : Shape := ⟨3, ![2, 1, 1024]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S1024x2816, .f32⟩
  | .hbm, ⟨40, _⟩ => ⟨S1024x2816, .f32⟩
  | .hbm, ⟨41, _⟩ => ⟨S2816x1024, .f32⟩
  | .hbm, ⟨42, _⟩ => ⟨S2x1x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S_, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== FfnEnd.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S512x2816 : Shape := ⟨2, ![512, 2816]⟩
abbrev S9x1024 : Shape := ⟨2, ![9, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnEndRefIdeal.lean ====
abbrev S16384x1024 : Shape := ⟨2, ![16384, 1024]⟩
abbrev S2x9x1024 : Shape := ⟨3, ![2, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1024, .f32⟩
  | .hbm, ⟨13, _⟩ => ⟨S2x8192x1024, .f32⟩
  | .hbm, ⟨14, _⟩ => ⟨S2x8192x1024, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x1024, .f32⟩
  | .hbm, ⟨26, _⟩ => ⟨S2x8192x1024, .f32⟩
  | .hbm, ⟨27, _⟩ => ⟨S1x1x1024, .f32⟩
  | .hbm, ⟨28, _⟩ => ⟨S2x8192x1024, .f32⟩
  | .hbm, ⟨29, _⟩ => ⟨S2x8192x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S1024x2816, .f32⟩
  | .hbm, ⟨40, _⟩ => ⟨S1024x2816, .f32⟩
  | .hbm, ⟨41, _⟩ => ⟨S2816x1024, .f32⟩
  | .hbm, ⟨42, _⟩ => ⟨S2x1x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x8192x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S_, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x8192, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S_, .f32⟩
  | .hbm, ⟨70, _⟩ => ⟨S2x8192x1, .f32⟩
  | .hbm, ⟨71, _⟩ => ⟨S2x8192x1, .f32⟩
  | .hbm, ⟨72, _⟩ => ⟨S2x8192x1, .f32⟩
  | .hbm, ⟨73, _⟩ => ⟨S2x8192x1024, .f32⟩
  | .hbm, ⟨74, _⟩ => ⟨S2x8192x1024, .f32⟩
  | .hbm, ⟨75, _⟩ => ⟨S1x1x1024, .f32⟩
  | .hbm, ⟨76, _⟩ => ⟨S2x8192x1024, .f32⟩
  | .hbm, ⟨77, _⟩ => ⟨S2x8192x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== OutEven.lean ====
abbrev S16384x1024 : Shape := ⟨2, ![16384, 1024]⟩
abbrev S2x9x1024 : Shape := ⟨3, ![2, 9, 1024]⟩
abbrev S2x8192x512 : Shape := ⟨3, ![2, 8192, 512]⟩
abbrev S1024x1024 : Shape := ⟨2, ![1024, 1024]⟩
abbrev S16384x512 : Shape := ⟨2, ![16384, 512]⟩
abbrev S512x1024 : Shape := ⟨2, ![512, 1024]⟩
abbrev S1x9x1024 : Shape := ⟨3, ![1, 9, 1024]⟩
abbrev S512x512 : Shape := ⟨2, ![512, 512]⟩
abbrev S9x1024 : Shape := ⟨2, ![9, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S2x8192x512, .bf16⟩
  | .hbm, ⟨3, _⟩ => ⟨S2x8192x512, .bf16⟩
  | .hbm, ⟨4, _⟩ => ⟨S1024x1024, .f32⟩
  | .hbm, ⟨5, _⟩ => ⟨S1024x1024, .bf16⟩
  | .hbm, ⟨6, _⟩ => ⟨S16384x512, .bf16⟩
  | .hbm, ⟨7, _⟩ => ⟨S16384x512, .bf16⟩
  | .hbm, ⟨8, _⟩ => ⟨S512x1024, .bf16⟩
  | .hbm, ⟨9, _⟩ => ⟨S512x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutEvenRefIdeal.lean ====
abbrev S16384x1024 : Shape := ⟨2, ![16384, 1024]⟩
abbrev S2x9x1024 : Shape := ⟨3, ![2, 9, 1024]⟩
abbrev S2x8192x512 : Shape := ⟨3, ![2, 8192, 512]⟩
abbrev S1024x1024 : Shape := ⟨2, ![1024, 1024]⟩
abbrev S2x1x1024 : Shape := ⟨3, ![2, 1, 1024]⟩
abbrev S2x1024 : Shape := ⟨2, ![2, 1024]⟩
abbrev S2x8192x1024 : Shape := ⟨3, ![2, 8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S2x8192x512, .bf16⟩
  | .hbm, ⟨3, _⟩ => ⟨S2x8192x512, .bf16⟩
  | .hbm, ⟨4, _⟩ => ⟨S1024x1024, .f32⟩
  | .hbm, ⟨5, _⟩ => ⟨S2x1x1024, .f32⟩
  | .hbm, ⟨6, _⟩ => ⟨S2x1024, .f32⟩
  | .hbm, ⟨7, _⟩ => ⟨S2x8192x512, .f32⟩
  | .hbm, ⟨8, _⟩ => ⟨S2x8192x512, .f32⟩
  | .hbm, ⟨9, _⟩ => ⟨S2x8192x1024, .f32⟩
  | .hbm, ⟨10, _⟩ => ⟨S2x8192x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutOdd.lean ====
abbrev S16384x1024 : Shape := ⟨2, ![16384, 1024]⟩
abbrev S2x9x1024 : Shape := ⟨3, ![2, 9, 1024]⟩
abbrev S1024x1024 : Shape := ⟨2, ![1024, 1024]⟩
abbrev S512x1024 : Shape := ⟨2, ![512, 1024]⟩
abbrev S1x9x1024 : Shape := ⟨3, ![1, 9, 1024]⟩
abbrev S9x1024 : Shape := ⟨2, ![9, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S16384x1024, .bf16⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutOddRefIdeal.lean ====
abbrev S16384x1024 : Shape := ⟨2, ![16384, 1024]⟩
abbrev S2x9x1024 : Shape := ⟨3, ![2, 9, 1024]⟩
abbrev S1024x1024 : Shape := ⟨2, ![1024, 1024]⟩
abbrev S2x1x1024 : Shape := ⟨3, ![2, 1, 1024]⟩
abbrev S2x1024 : Shape := ⟨2, ![2, 1024]⟩
abbrev S2x8192x1024 : Shape := ⟨3, ![2, 8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S16384x1024, .bf16⟩
  | .hbm, ⟨3, _⟩ => ⟨S1024x1024, .f32⟩
  | .hbm, ⟨4, _⟩ => ⟨S2x1x1024, .f32⟩
  | .hbm, ⟨5, _⟩ => ⟨S2x1024, .f32⟩
  | .hbm, ⟨6, _⟩ => ⟨S16384x1024, .f32⟩
  | .hbm, ⟨7, _⟩ => ⟨S2x8192x1024, .f32⟩
  | .hbm, ⟨8, _⟩ => ⟨S2x8192x1024, .f32⟩
  | .hbm, ⟨9, _⟩ => ⟨S2x1x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OddIn.lean ====
abbrev S16384x1024 : Shape := ⟨2, ![16384, 1024]⟩
abbrev S2x9x1024 : Shape := ⟨3, ![2, 9, 1024]⟩
abbrev S1024 : Shape := ⟨1, ![1024]⟩
abbrev S1024x3080 : Shape := ⟨2, ![1024, 3080]⟩
abbrev S2x4 : Shape := ⟨2, ![2, 4]⟩
abbrev S_ : Shape := ⟨0, ![]⟩
abbrev S1024x256 : Shape := ⟨2, ![1024, 256]⟩
abbrev S1024x4 : Shape := ⟨2, ![1024, 4]⟩
abbrev S1 : Shape := ⟨1, ![1]⟩
abbrev S1x256 : Shape := ⟨2, ![1, 256]⟩
abbrev S1x4 : Shape := ⟨2, ![1, 4]⟩
abbrev S4 : Shape := ⟨1, ![4]⟩
abbrev S2 : Shape := ⟨1, ![2]⟩
abbrev S1x1024 : Shape := ⟨2, ![1, 1024]⟩
abbrev S1024x3072 : Shape := ⟨2, ![1024, 3072]⟩
abbrev S16384x3072 : Shape := ⟨2, ![16384, 3072]⟩
abbrev S16384x128 : Shape := ⟨2, ![16384, 128]⟩
abbrev S512x1024 : Shape := ⟨2, ![512, 1024]⟩
abbrev S1x9x1024 : Shape := ⟨3, ![1, 9, 1024]⟩
abbrev S512x3072 : Shape := ⟨2, ![512, 3072]⟩
abbrev S512x128 : Shape := ⟨2, ![512, 128]⟩
abbrev S9x1024 : Shape := ⟨2, ![9, 1024]⟩
abbrev S512 : Shape := ⟨1, ![512]⟩
abbrev S512x1 : Shape := ⟨2, ![512, 1]⟩
abbrev S512x256 : Shape := ⟨2, ![512, 256]⟩

abbrev nBuf : Space → Nat
  | .hbm => 40
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x3080, .f32⟩
  | .hbm, ⟨4, _⟩ => ⟨S2x4, .f32⟩
  | .hbm, ⟨5, _⟩ => ⟨S_, .f32⟩
  | .hbm, ⟨6, _⟩ => ⟨S1024x256, .f32⟩
  | .hbm, ⟨7, _⟩ => ⟨S1024x4, .f32⟩
  | .hbm, ⟨8, _⟩ => ⟨S_, .i32⟩
  | .hbm, ⟨9, _⟩ => ⟨S1, .i32⟩
  | .hbm, ⟨10, _⟩ => ⟨S1024x256, .f32⟩
  | .hbm, ⟨11, _⟩ => ⟨S1024x4, .f32⟩
  | .hbm, ⟨12, _⟩ => ⟨S_, .i32⟩
  | .hbm, ⟨13, _⟩ => ⟨S1, .i32⟩
  | .hbm, ⟨14, _⟩ => ⟨S1024x256, .f32⟩
  | .hbm, ⟨15, _⟩ => ⟨S_, .f32⟩
  | .hbm, ⟨16, _⟩ => ⟨S1x256, .f32⟩
  | .hbm, ⟨17, _⟩ => ⟨S1x4, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x256, .f32⟩
  | .hbm, ⟨25, _⟩ => ⟨S1x4, .f32⟩
  | .hbm, ⟨26, _⟩ => ⟨S4, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x256, .f32⟩
  | .hbm, ⟨33, _⟩ => ⟨S1x1024, .f32⟩
  | .hbm, ⟨34, _⟩ => ⟨S1024x3072, .f32⟩
  | .hbm, ⟨35, _⟩ => ⟨S1024x3072, .bf16⟩
  | .hbm, ⟨36, _⟩ => ⟨S1024x256, .bf16⟩
  | .hbm, ⟨37, _⟩ => ⟨S16384x3072, .bf16⟩
  | .hbm, ⟨38, _⟩ => ⟨S16384x128, .f32⟩
  | .hbm, ⟨39, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x3072, .bf16⟩
  | .local _ .vmem, ⟨6, _⟩ => ⟨S1024x256, .bf16⟩
  | .local _ .vmem, ⟨7, _⟩ => ⟨S1x256, .f32⟩
  | .local _ .vmem, ⟨8, _⟩ => ⟨S512x3072, .bf16⟩
  | .local _ .vmem, ⟨9, _⟩ => ⟨S512x3072, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OddInRefIdeal.lean ====
abbrev S16384x1024 : Shape := ⟨2, ![16384, 1024]⟩
abbrev S2x9x1024 : Shape := ⟨3, ![2, 9, 1024]⟩
abbrev S1024 : Shape := ⟨1, ![1024]⟩
abbrev S1024x3080 : Shape := ⟨2, ![1024, 3080]⟩
abbrev S2x4 : Shape := ⟨2, ![2, 4]⟩
abbrev S2x1x1024 : Shape := ⟨3, ![2, 1, 1024]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3080 : Shape := ⟨3, ![2, 8192, 3080]⟩
abbrev S16384x3080 : Shape := ⟨2, ![16384, 3080]⟩
abbrev S16384x4 : Shape := ⟨2, ![16384, 4]⟩
abbrev S1x4 : Shape := ⟨2, ![1, 4]⟩
abbrev S4 : Shape := ⟨1, ![4]⟩
abbrev S16384x3072 : Shape := ⟨2, ![16384, 3072]⟩
abbrev S16384x128 : Shape := ⟨2, ![16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x3080, .f32⟩
  | .hbm, ⟨4, _⟩ => ⟨S2x4, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x8192x3080, .f32⟩
  | .hbm, ⟨36, _⟩ => ⟨S16384x3080, .f32⟩
  | .hbm, ⟨37, _⟩ => ⟨S16384x4, .f32⟩
  | .hbm, ⟨38, _⟩ => ⟨S1x4, .f32⟩
  | .hbm, ⟨39, _⟩ => ⟨S4, .f32⟩
  | .hbm, ⟨40, _⟩ => ⟨S1x4, .f32⟩
  | .hbm, ⟨41, _⟩ => ⟨S16384x4, .f32⟩
  | .hbm, ⟨42, _⟩ => ⟨S16384x4, .f32⟩
  | .hbm, ⟨43, _⟩ => ⟨S16384x4, .f32⟩
  | .hbm, ⟨44, _⟩ => ⟨S1x4, .f32⟩
  | .hbm, ⟨45, _⟩ => ⟨S4, .f32⟩
  | .hbm, ⟨46, _⟩ => ⟨S1x4, .f32⟩
  | .hbm, ⟨47, _⟩ => ⟨S16384x4, .f32⟩
  | .hbm, ⟨48, _⟩ => ⟨S16384x4, .f32⟩
  | .hbm, ⟨49, _⟩ => ⟨S16384x3072, .f32⟩
  | .hbm, ⟨50, _⟩ => ⟨S16384x3072, .bf16⟩
  | .hbm, ⟨51, _⟩ => ⟨S_, .i32⟩
  | .hbm, ⟨52, _⟩ => ⟨S_, .f32⟩
  | .hbm, ⟨53, _⟩ => ⟨S16384x128, .f32⟩
  | .hbm, ⟨54, _⟩ => ⟨S_, .i32⟩
  | .hbm, ⟨55, _⟩ => ⟨S_, .f32⟩
  | .hbm, ⟨56, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_call0_v0 : Ref sig .tc := ⟨.hbm, 52, rfl⟩
abbrev main_v42 : Ref sig .tc := ⟨.hbm, 53, rfl⟩
abbrev main_c_3 : Ref sig .tc := ⟨.hbm, 54, rfl⟩
abbrev main_call1_v0 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== EvenIn.lean ====
abbrev S16384x1024 : Shape := ⟨2, ![16384, 1024]⟩
abbrev S2x9x1024 : Shape := ⟨3, ![2, 9, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S2x8192x1024 : Shape := ⟨3, ![2, 8192, 1024]⟩
abbrev S1x1024 : Shape := ⟨2, ![1, 1024]⟩
abbrev S1x512 : Shape := ⟨2, ![1, 512]⟩
abbrev S2x8192x512 : Shape := ⟨3, ![2, 8192, 512]⟩
abbrev S2x8192x1536 : Shape := ⟨3, ![2, 8192, 1536]⟩
abbrev S1x512x1024 : Shape := ⟨3, ![1, 512, 1024]⟩
abbrev S1x9x1024 : Shape := ⟨3, ![1, 9, 1024]⟩
abbrev S1x512x512 : Shape := ⟨3, ![1, 512, 512]⟩
abbrev S1x512x1536 : Shape := ⟨3, ![1, 512, 1536]⟩
abbrev S16x512 : Shape := ⟨2, ![16, 512]⟩
abbrev S9x1024 : Shape := ⟨2, ![9, 1024]⟩
abbrev S512x1024 : Shape := ⟨2, ![512, 1024]⟩
abbrev S512x1 : Shape := ⟨2, ![512, 1]⟩
abbrev S512x2048 : Shape := ⟨2, ![512, 2048]⟩
abbrev S512x512 : Shape := ⟨2, ![512, 512]⟩
abbrev S528x512 : Shape := ⟨2, ![528, 512]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x9x1024, .f32⟩
  | .hbm, ⟨2, _⟩ => ⟨S1024, .f32⟩
  | .hbm, ⟨3, _⟩ => ⟨S1024x2048, .f32⟩
  | .hbm, ⟨4, _⟩ => ⟨S4x128x128, .f32⟩
  | .hbm, ⟨5, _⟩ => ⟨S512, .f32⟩
  | .hbm, ⟨6, _⟩ => ⟨S2x8192x1024, .f32⟩
  | .hbm, ⟨7, _⟩ => ⟨S1x1024, .f32⟩
  | .hbm, ⟨8, _⟩ => ⟨S1024x2048, .bf16⟩
  | .hbm, ⟨9, _⟩ => ⟨S4x128x128, .bf16⟩
  | .hbm, ⟨10, _⟩ => ⟨S1x512, .f32⟩
  | .hbm, ⟨11, _⟩ => ⟨S2x8192x512, .bf16⟩
  | .hbm, ⟨12, _⟩ => ⟨S2x8192x1536, .bf16⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x1536, .bf16⟩
  | .local _ .vmem, ⟨11, _⟩ => ⟨S1x512x1536, .bf16⟩
  | .local _ .vmem, ⟨12, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== EvenInRefIdeal.lean ====
abbrev S16384x1024 : Shape := ⟨2, ![16384, 1024]⟩
abbrev S2x9x1024 : Shape := ⟨3, ![2, 9, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S2x1x1024 : Shape := ⟨3, ![2, 1, 1024]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x512 : Shape := ⟨3, ![2, 8192, 512]⟩
abbrev S2x8192x1536 : Shape := ⟨3, ![2, 8192, 1536]⟩
abbrev S2x8192x4x128 : Shape := ⟨4, ![2, 8192, 4, 128]⟩
abbrev S8192 : Shape := ⟨1, ![8192]⟩
abbrev S2x8192x1x128 : Shape := ⟨4, ![2, 8192, 1, 128]⟩
abbrev S2x8192x128 : Shape := ⟨3, ![2, 8192, 128]⟩
abbrev S2x8194x128 : Shape := ⟨3, ![2, 8194, 128]⟩
abbrev S1x8192x1 : Shape := ⟨3, ![1, 8192, 1]⟩
abbrev S2x8196x128 : Shape := ⟨3, ![2, 8196, 128]⟩
abbrev S2x8200x128 : Shape := ⟨3, ![2, 8200, 128]⟩
abbrev S2x8208x128 : Shape := ⟨3, ![2, 8208, 128]⟩
abbrev S4x128x2x8192 : Shape := ⟨4, ![4, 128, 2, 8192]⟩
abbrev S1x1x512 : Shape := ⟨3, ![1, 1, 512]⟩

abbrev nBuf : Space → Nat
  | .hbm => 135
  | .vmem => 0
  | .smem => 0
  | _ => 0

abbrev hbmTy0_0 (i : Nat) : BufTy := match i % 128 with
  | 0 => ⟨S16384x1024, .f32⟩
  | 1 => ⟨S2x9x1024, .f32⟩
  | 2 => ⟨S1024, .f32⟩
  | 3 => ⟨S1024x2048, .f32⟩
  | 4 => ⟨S4x128x128, .f32⟩
  | 5 => ⟨S512, .f32⟩
  | 6 => ⟨S2x1x1024, .f32⟩
  | 7 => ⟨S2x1024, .f32⟩
  | 8 => ⟨S2x1x1024, .f32⟩
  | 9 => ⟨S2x1024, .f32⟩
  | 10 => ⟨S2x8192x1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x1x1024, .f32⟩
  | 28 => ⟨S_, .f32⟩
  | 29 => ⟨S2x1x1024, .f32⟩
  | 30 => ⟨S2x1x1024, .f32⟩
  | 31 => ⟨S2x8192x1024, .f32⟩
  | 32 => ⟨S2x8192x1024, .f32⟩
  | 33 => ⟨S2x1x1024, .f32⟩
  | 34 => ⟨S2x8192x1024, .f32⟩
  | 35 => ⟨S2x8192x1024, .f32⟩
  | 36 => ⟨S2x8192x2048, .f32⟩
  | 37 => ⟨S2x8192x512, .f32⟩
  | 38 => ⟨S2x8192x512, .f32⟩
  | 39 => ⟨S2x8192x1024, .f32⟩
  | 40 => ⟨S_, .f32⟩
  | 41 => ⟨S2x8192x512, .f32⟩
  | 42 => ⟨S2x8192x512, .f32⟩
  | 43 => ⟨S2x8192x1536, .f32⟩
  | 44 => ⟨S2x8192x4x128, .f32⟩
  | 45 => ⟨S_, .f32⟩
  | 46 => ⟨S_, .f32⟩
  | 47 => ⟨S2x8192x4x128, .f32⟩
  | 48 => ⟨S8192, .i32⟩
  | 49 => ⟨S2x8192x1x128, .f32⟩
  | 50 => ⟨S2x8192x128, .f32⟩
  | 51 => ⟨S_, .i32⟩
  | 52 => ⟨S_, .f32⟩
  | 53 => ⟨S2x8194x128, .f32⟩
  | 54 => ⟨S2x8192x128, .f32⟩
  | 55 => ⟨S2x8192x128, .f32⟩
  | 56 => ⟨S2x8192x128, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S1x8192x1, .f32⟩
  | 65 => ⟨S2x8192x128, .f32⟩
  | 66 => ⟨S2x8192x128, .f32⟩
  | 67 => ⟨S2x8192x1x128, .f32⟩
  | 68 => ⟨S2x8192x128, .f32⟩
  | 69 => ⟨S_, .i32⟩
  | 70 => ⟨S_, .f32⟩
  | 71 => ⟨S2x8196x128, .f32⟩
  | 72 => ⟨S2x8192x128, .f32⟩
  | 73 => ⟨S2x8192x128, .f32⟩
  | 74 => ⟨S2x8192x128, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S1x8192x1, .f32⟩
  | 83 => ⟨S2x8192x128, .f32⟩
  | 84 => ⟨S2x8192x128, .f32⟩
  | 85 => ⟨S2x8192x1x128, .f32⟩
  | 86 => ⟨S2x8192x128, .f32⟩
  | 87 => ⟨S_, .i32⟩
  | 88 => ⟨S_, .f32⟩
  | 89 => ⟨S2x8200x128, .f32⟩
  | 90 => ⟨S2x8192x128, .f32⟩
  | 91 => ⟨S2x8192x128, .f32⟩
  | 92 => ⟨S2x8192x128, .f32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S8192, .f32⟩
  | 100 => ⟨S1x8192x1, .f32⟩
  | 101 => ⟨S2x8192x128, .f32⟩
  | 102 => ⟨S2x8192x128, .f32⟩
  | 103 => ⟨S2x8192x1x128, .f32⟩
  | 104 => ⟨S2x8192x128, .f32⟩
  | 105 => ⟨S_, .i32⟩
  | 106 => ⟨S_, .f32⟩
  | 107 => ⟨S2x8208x128, .f32⟩
  | 108 => ⟨S2x8192x128, .f32⟩
  | 109 => ⟨S2x8192x128, .f32⟩
  | 110 => ⟨S2x8192x128, .f32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S8192, .f32⟩
  | 118 => ⟨S1x8192x1, .f32⟩
  | 119 => ⟨S2x8192x128, .f32⟩
  | 120 => ⟨S2x8192x128, .f32⟩
  | 121 => ⟨S2x8192x1x128, .f32⟩
  | 122 => ⟨S2x8192x1x128, .f32⟩
  | 123 => ⟨S2x8192x1x128, .f32⟩
  | 124 => ⟨S2x8192x1x128, .f32⟩
  | 125 => ⟨S2x8192x4x128, .f32⟩
  | 126 => ⟨S2x8192x4x128, .f32⟩
  | 127 => ⟨S4x128x2x8192, .f32⟩
  | _ => ⟨S16384x1024, .f32⟩

abbrev hbmTy0_1 (i : Nat) : BufTy := match i % 128 with
  | 0 => ⟨S2x8192x4x128, .f32⟩
  | 1 => ⟨S2x8192x512, .f32⟩
  | 2 => ⟨S1x1x512, .f32⟩
  | 3 => ⟨S2x8192x512, .f32⟩
  | 4 => ⟨S2x8192x512, .f32⟩
  | 5 => ⟨S2x8192x512, .bf16⟩
  | 6 => ⟨S2x8192x1536, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_call0_cst : Ref sig .tc := ⟨.hbm, 45, rfl⟩
abbrev main_call0_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_call2_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_7 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_call3_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_10 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_12 : Ref sig .tc := ⟨.hbm, 105, rfl⟩
abbrev main_call4_v0 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_13 : Ref sig .tc := ⟨.hbm, 111, rfl⟩
abbrev main_v84 : Ref sig .tc := ⟨.hbm, 112, rfl⟩
abbrev main_v85 : Ref sig .tc := ⟨.hbm, 113, rfl⟩
abbrev main_c_14 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Modulation.lean ====
abbrev S8x1024 : Shape := ⟨2, ![8, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x8x9216 : Shape := ⟨3, ![2, 8, 9216]⟩
abbrev S1x1024x1152 : Shape := ⟨3, ![1, 1024, 1152]⟩
abbrev S1x1x1152 : Shape := ⟨3, ![1, 1, 1152]⟩
abbrev S1x8x1152 : Shape := ⟨3, ![1, 8, 1152]⟩
abbrev S1024x1152 : Shape := ⟨2, ![1024, 1152]⟩
abbrev S8x1152 : Shape := ⟨2, ![8, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x8x9216, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x8x1152, .f32⟩
  | .local _ .vmem, ⟨6, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S8x1024 : Shape := ⟨2, ![8, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S8x9216 : Shape := ⟨2, ![8, 9216]⟩
abbrev S1x9216 : Shape := ⟨2, ![1, 9216]⟩
abbrev S9216 : Shape := ⟨1, ![9216]⟩
abbrev S1x8x9216 : Shape := ⟨3, ![1, 8, 9216]⟩
abbrev S2x8x9216 : Shape := ⟨3, ![2, 8, 9216]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x9216, .f32⟩
  | .hbm, ⟨13, _⟩ => ⟨S1024x9216, .f32⟩
  | .hbm, ⟨14, _⟩ => ⟨S8x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S8x9216, .f32⟩
  | .hbm, ⟨19, _⟩ => ⟨S8x9216, .f32⟩
  | .hbm, ⟨20, _⟩ => ⟨S1x1024x9216, .f32⟩
  | .hbm, ⟨21, _⟩ => ⟨S1024x9216, .f32⟩
  | .hbm, ⟨22, _⟩ => ⟨S8x9216, .f32⟩
  | .hbm, ⟨23, _⟩ => ⟨S1x9216, .f32⟩
  | .hbm, ⟨24, _⟩ => ⟨S9216, .f32⟩
  | .hbm, ⟨25, _⟩ => ⟨S1x9216, .f32⟩
  | .hbm, ⟨26, _⟩ => ⟨S8x9216, .f32⟩
  | .hbm, ⟨27, _⟩ => ⟨S8x9216, .f32⟩
  | .hbm, ⟨28, _⟩ => ⟨S1x8x9216, .f32⟩
  | .hbm, ⟨29, _⟩ => ⟨S1x8x9216, .f32⟩
  | .hbm, ⟨30, _⟩ => ⟨S2x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Mlstm.lean ====
abbrev S16384x3072 : Shape := ⟨2, ![16384, 3072]⟩
abbrev S16384x128 : Shape := ⟨2, ![16384, 128]⟩
abbrev S1024 : Shape := ⟨1, ![1024]⟩
abbrev S1x1024 : Shape := ⟨2, ![1, 1024]⟩
abbrev S16384x1024 : Shape := ⟨2, ![16384, 1024]⟩
abbrev S128x3072 : Shape := ⟨2, ![128, 3072]⟩
abbrev S128x128 : Shape := ⟨2, ![128, 128]⟩
abbrev S128x1024 : Shape := ⟨2, ![128, 1024]⟩
abbrev S4x128x256 : Shape := ⟨3, ![4, 128, 256]⟩
abbrev S4x1x128 : Shape := ⟨3, ![4, 1, 128]⟩
abbrev S1x128 : Shape := ⟨2, ![1, 128]⟩
abbrev S128 : Shape := ⟨1, ![128]⟩
abbrev S128x256 : Shape := ⟨2, ![128, 256]⟩
abbrev S128x1 : Shape := ⟨2, ![128, 1]⟩
abbrev S1x128x256 : Shape := ⟨3, ![1, 128, 256]⟩
abbrev S1x1x128 : Shape := ⟨3, ![1, 1, 128]⟩
abbrev S1x256 : Shape := ⟨2, ![1, 256]⟩
abbrev S1x1 : Shape := ⟨2, ![1, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x3072, .bf16⟩
  | .hbm, ⟨1, _⟩ => ⟨S16384x128, .f32⟩
  | .hbm, ⟨2, _⟩ => ⟨S16384x128, .f32⟩
  | .hbm, ⟨3, _⟩ => ⟨S1024, .f32⟩
  | .hbm, ⟨4, _⟩ => ⟨S1x1024, .f32⟩
  | .hbm, ⟨5, _⟩ => ⟨S16384x1024, .bf16⟩
  | .local _ .vmem, ⟨0, _⟩ => ⟨S128x3072, .bf16⟩
  | .local _ .vmem, ⟨1, _⟩ => ⟨S128x3072, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x1024, .f32⟩
  | .local _ .vmem, ⟨7, _⟩ => ⟨S128x1024, .bf16⟩
  | .local _ .vmem, ⟨8, _⟩ => ⟨S128x1024, .bf16⟩
  | .local _ .vmem, ⟨9, _⟩ => ⟨S4x128x256, .f32⟩
  | .local _ .vmem, ⟨10, _⟩ => ⟨S4x1x128, .f32⟩
  | .local _ .vmem, ⟨11, _⟩ => ⟨S1x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel.lean ====
abbrev S2x8192x1536 : Shape := ⟨3, ![2, 8192, 1536]⟩
abbrev S4x64 : Shape := ⟨2, ![4, 64]⟩
abbrev S128 : Shape := ⟨1, ![128]⟩
abbrev S1x128 : Shape := ⟨2, ![1, 128]⟩
abbrev S2x8192x512 : Shape := ⟨3, ![2, 8192, 512]⟩
abbrev S1x512x128 : Shape := ⟨3, ![1, 512, 128]⟩
abbrev S1x8192x128 : Shape := ⟨3, ![1, 8192, 128]⟩
abbrev S512x1 : Shape := ⟨2, ![512, 1]⟩
abbrev S512x128 : Shape := ⟨2, ![512, 128]⟩
abbrev S512x512 : Shape := ⟨2, ![512, 512]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 16
  | .smem => 0
  | _ => 0

abbrev bufTy : (tb : Table) → Fin (tcTables nBuf tb) → BufTy
  | .hbm, ⟨0, _⟩ => ⟨S2x8192x1536, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x512x128, .bf16⟩
  | .local _ .vmem, ⟨9, _⟩ => ⟨S1x512x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | .local _ .vmem, ⟨13, _⟩ => ⟨S512x1, .f32⟩
  | .local _ .vmem, ⟨14, _⟩ => ⟨S512x1, .f32⟩
  | .local _ .vmem, ⟨15, _⟩ => ⟨S512x128, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_21 : BitVec 32 := 0#32
  let arg2 : BitVec 32 := BitVec.ofNat 32 (i 2).val
  let v34 : BitVec 32 := Scalar.subi arg2 c0_i32_21
  let c1_i32 : BitVec 32 := 1#32
  let v36 : BitVec 32 := Scalar.divsi v34 c1_i32
  let v37 : BitVec 32 := Scalar.muli v36 c1_i32
  let v38 : BitVec 32 := Scalar.addi c0_i32_21 v37
  let c1_i32_22 : BitVec 32 := 1#32
  ⟨c0_i32_21, v38, c1_i32_22⟩
def k0_mult1 (i : grid0.Coords) (k0_t1 : Fin (k0_t1_loop i).trips) : BitVec 32 :=
  let c0_i32_21 : BitVec 32 := 0#32
  let c1_i32_22 : BitVec 32 := 1#32
  let arg15 : BitVec 32 := Scf.iv c0_i32_21 c1_i32_22 k0_t1
  let c512_i32_84 : BitVec 32 := 512#32
  let v161 : BitVec 32 := Scalar.muli arg15 c512_i32_84
  v161
def k0_off1 (i : grid0.Coords) (k0_t1 : Fin (k0_t1_loop i).trips) : Fin 3 → Nat :=
  let c0_85 : Index := 0#32
  let c0_i32_21 : BitVec 32 := 0#32
  let c1_i32_22 : BitVec 32 := 1#32
  let arg15 : BitVec 32 := Scf.iv c0_i32_21 c1_i32_22 k0_t1
  let c512_i32_84 : BitVec 32 := 512#32
  let v161 : BitVec 32 := Scalar.muli arg15 c512_i32_84
  let v162 : BitVec 32 := v161
  let v163 : Index := Scalar.indexCast v162
  let c0_86 : Index := 0#32
  ![0, v163.toNat, 0]
@[reducible] def k0_t2_loop (i : grid0.Coords) : Scf.Loop 32 :=
  let c0_i32_21 : BitVec 32 := 0#32
  let arg2 : BitVec 32 := BitVec.ofNat 32 (i 2).val
  let v34 : BitVec 32 := Scalar.subi arg2 c0_i32_21
  let c1_i32 : BitVec 32 := 1#32
  let v36 : BitVec 32 := Scalar.divsi v34 c1_i32
  let v37 : BitVec 32 := Scalar.muli v36 c1_i32
  let v38 : BitVec 32 := Scalar.addi c0_i32_21 v37
  let v35 : BitVec 32 := Scalar.addi c0_i32_21 v34
  let c1_i32_23 : BitVec 32 := 1#32
  ⟨v38, v35, c1_i32_23⟩
def k0_mult2 (i : grid0.Coords) (k0_t2 : Fin (k0_t2_loop i).trips) : BitVec 32 :=
  let c0_i32_21 : BitVec 32 := 0#32
  let arg2 : BitVec 32 := BitVec.ofNat 32 (i 2).val
  let v34 : BitVec 32 := Scalar.subi arg2 c0_i32_21
  let c1_i32 : BitVec 32 := 1#32
  let v36 : BitVec 32 := Scalar.divsi v34 c1_i32
  let v37 : BitVec 32 := Scalar.muli v36 c1_i32
  let v38 : BitVec 32 := Scalar.addi c0_i32_21 v37
  let c1_i32_23 : BitVec 32 := 1#32
  let arg15 : BitVec 32 := Scf.iv v38 c1_i32_23 k0_t2
  let c512_i32_84 : BitVec 32 := 512#32
  let v161 : BitVec 32 := Scalar.muli arg15 c512_i32_84
  v161
def k0_off2 (i : grid0.Coords) (k0_t2 : Fin (k0_t2_loop i).trips) : Fin 3 → Nat :=
  let c0_85 : Index := 0#32
  let c0_i32_21 : BitVec 32 := 0#32
  let arg2 : BitVec 32 := BitVec.ofNat 32 (i 2).val
  let v34 : BitVec 32 := Scalar.subi arg2 c0_i32_21
  let c1_i32 : BitVec 32 := 1#32
  let v36 : BitVec 32 := Scalar.divsi v34 c1_i32
  let v37 : BitVec 32 := Scalar.muli v36 c1_i32
  let v38 : BitVec 32 := Scalar.addi c0_i32_21 v37
  let c1_i32_23 : BitVec 32 := 1#32
  let arg15 : BitVec 32 := Scf.iv v38 c1_i32_23 k0_t2
  let c512_i32_84 : BitVec 32 := 512#32
  let v161 : BitVec 32 := Scalar.muli arg15 c512_i32_84
  let v162 : BitVec 32 := v161
  let v163 : Index := Scalar.indexCast v162
  let c0_86 : Index := 0#32
  ![0, v163.toNat, 0]
def k0_mult3 (i : grid0.Coords) : BitVec 32 :=
  let arg2 : BitVec 32 := BitVec.ofNat 32 (i 2).val
  let c512_i32 : BitVec 32 := 512#32
  let v39 : BitVec 32 := Scalar.muli arg2 c512_i32
  v39
def k0_off3 (i : grid0.Coords) : Fin 3 → Nat :=
  let c0_24 : Index := 0#32
  let arg2 : BitVec 32 := BitVec.ofNat 32 (i 2).val
  let c512_i32 : BitVec 32 := 512#32
  let v39 : BitVec 32 := Scalar.muli arg2 c512_i32
  let v40 : BitVec 32 := v39
  let v41 : Index := Scalar.indexCast v40
  let c0_25 : Index := 0#32
  ![0, v41.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x1536 : Shape := ⟨3, ![2, 8192, 1536]⟩
abbrev S4x64 : Shape := ⟨2, ![4, 64]⟩
abbrev S128 : Shape := ⟨1, ![128]⟩
abbrev S2x8192x512 : Shape := ⟨3, ![2, 8192, 512]⟩
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S64 : Shape := ⟨1, ![64]⟩
abbrev S_ : Shape := ⟨0, ![]⟩
abbrev S8192 : Shape := ⟨1, ![8192]⟩
abbrev S2x4x2x8192x8192 : Shape := ⟨5, ![2, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1536, .bf16⟩
  | .hbm, ⟨1, _⟩ => ⟨S4x64, .f32⟩
  | .hbm, ⟨2, _⟩ => ⟨S128, .f32⟩
  | .hbm, ⟨3, _⟩ => ⟨S2x8192x1536, .f32⟩
  | .hbm, ⟨4, _⟩ => ⟨S2x8192x512, .f32⟩
  | .hbm, ⟨5, _⟩ => ⟨S2x8192x4x2x64, .f32⟩
  | .hbm, ⟨6, _⟩ => ⟨S2x8192x512, .f32⟩
  | .hbm, ⟨7, _⟩ => ⟨S2x8192x4x2x64, .f32⟩
  | .hbm, ⟨8, _⟩ => ⟨S2x8192x512, .f32⟩
  | .hbm, ⟨9, _⟩ => ⟨S2x8192x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S2x4x2x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S2x4x2x8192x8192, .i1⟩
  | .hbm, ⟨39, _⟩ => ⟨S2x4x2x8192x8192, .f32⟩
  | .hbm, ⟨40, _⟩ => ⟨S2x4x2x8192x8192, .f32⟩
  | .hbm, ⟨41, _⟩ => ⟨S_, .f32⟩
  | .hbm, ⟨42, _⟩ => ⟨S2x4x2x8192, .f32⟩
  | .hbm, ⟨43, _⟩ => ⟨S_, .f32⟩
  | .hbm, ⟨44, _⟩ => ⟨S2x4x2x8192, .f32⟩
  | .hbm, ⟨45, _⟩ => ⟨S2x4x2x8192, .f32⟩
  | .hbm, ⟨46, _⟩ => ⟨S2x4x2x8192x1, .f32⟩
  | .hbm, ⟨47, _⟩ => ⟨S2x4x2x8192x8192, .f32⟩
  | .hbm, ⟨48, _⟩ => ⟨S2x4x2x8192x8192, .f32⟩
  | .hbm, ⟨49, _⟩ => ⟨S2x4x2x8192x8192, .f32⟩
  | .hbm, ⟨50, _⟩ => ⟨S_, .f32⟩
  | .hbm, ⟨51, _⟩ => ⟨S2x4x2x8192, .f32⟩
  | .hbm, ⟨52, _⟩ => ⟨S2x4x2x8192x1, .f32⟩
  | .hbm, ⟨53, _⟩ => ⟨S2x4x2x8192x8192, .f32⟩
  | .hbm, ⟨54, _⟩ => ⟨S2x4x2x8192x8192, .f32⟩
  | .hbm, ⟨55, _⟩ => ⟨S2x4x1x8192x8192, .f32⟩
  | .hbm, ⟨56, _⟩ => ⟨S2x4x8192x8192, .f32⟩
  | .hbm, ⟨57, _⟩ => ⟨S2x4x1x8192x8192, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S2x4x128x8192, .f32⟩
  | .hbm, ⟨63, _⟩ => ⟨S2x8192x4x128, .f32⟩
  | .hbm, ⟨64, _⟩ => ⟨S2x8192x4x128, .f32⟩
  | .hbm, ⟨65, _⟩ => ⟨S_, .f32⟩
  | .hbm, ⟨66, _⟩ => ⟨S2x8192x4, .f32⟩
  | .hbm, ⟨67, _⟩ => ⟨S2x8192x4x1, .f32⟩
  | .hbm, ⟨68, _⟩ => ⟨S_, .f32⟩
  | .hbm, ⟨69, _⟩ => ⟨S2x8192x4x1, .f32⟩
  | .hbm, ⟨70, _⟩ => ⟨S2x8192x4x1, .f32⟩
  | .hbm, ⟨71, _⟩ => ⟨S_, .f32⟩
  | .hbm, ⟨72, _⟩ => ⟨S2x8192x4x1, .f32⟩
  | .hbm, ⟨73, _⟩ => ⟨S2x8192x4x1, .f32⟩
  | .hbm, ⟨74, _⟩ => ⟨S2x8192x4x1, .f32⟩
  | .hbm, ⟨75, _⟩ => ⟨S2x8192x4x128, .f32⟩
  | .hbm, ⟨76, _⟩ => ⟨S2x8192x4x128, .f32⟩
  | .hbm, ⟨77, _⟩ => ⟨S1x1x1x128, .f32⟩
  | .hbm, ⟨78, _⟩ => ⟨S2x8192x4x128, .f32⟩
  | .hbm, ⟨79, _⟩ => ⟨S2x8192x4x128, .f32⟩
  | .hbm, ⟨80, _⟩ => ⟨S_, .f32⟩
  | .hbm, ⟨81, _⟩ => ⟨S2x8192x4x128, .f32⟩
  | .hbm, ⟨82, _⟩ => ⟨S2x8192x4x128, .f32⟩
  | .hbm, ⟨83, _⟩ => ⟨S2x8192x512, .f32⟩
  | .hbm, ⟨84, _⟩ => ⟨S2x8192x512, .bf16⟩
  | _, _ => ⟨S2x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.Ffn.Row.lean ====
module

public import Idealize.ShloMosaic.PureOps.Ideal
public import Idealize.ShloMosaic.Lib.Pointwise

/-!
One row of the feed-forward sublayer over the extended reals, as a plain function of the row, the three modulation
rows (shift, scale, gate), the gain and the three weight matrices. The kernel's blocks and the reference's arrays are
both read down to it.
-/

@[expose] public section

noncomputable section

namespace Cert.Proof.FfnRow

open Idealize.ShloMosaic

/-- The mean square of a row plus the small constant, the constants being the words the two programs share. -/
def meanSq (x : Fin 1024 → EReal) : EReal :=
  Ideal.div (∑ k, x k * x k) (Ideal.ofBits .f32 0x44800000#32) + Ideal.ofBits .f32 0x358637BD#32

/-- The row normalised, scaled by the gain and modulated. -/
def normed (x sh sc g : Fin 1024 → EReal) (k : Fin 1024) : EReal :=
  x k * Ideal.rsqrt (meanSq x) * g k * (1 + sc k) + sh k

/-- `u` times the logistic function of `u`. -/
def silu (u : EReal) : EReal := u * Ideal.div 1 (1 + Ideal.exp (-u))

/-- One entry of the hidden row: `silu` of the gate product times the up product. -/
def gated (h : Fin 1024 → EReal) (wg wu : Fin 1024 → EReal) : EReal :=
  silu (∑ k, h k * wg k) * ∑ k, h k * wu k

/-- One entry of the row that the sublayer returns. -/
def rowOut (x sh sc ga g : Fin 1024 → EReal) (wg wu : Fin 1024 → Fin 2816 → EReal) (wd : Fin 2816 → Fin 1024 → EReal)
    (d : Fin 1024) : EReal :=
  x d + Ideal.ofBits .f32 0x3F000000#32 * ga d
    * ∑ f, gated (normed x sh sc g) (fun k => wg k f) (fun k => wu k f) * wd f d

/-- One entry of the row after the closing normalisation of the whole row. -/
def rowEnd (y fg : Fin 1024 → EReal) (d : Fin 1024) : EReal := y d * Ideal.rsqrt (meanSq y) * fg d

end Cert.Proof.FfnRow

end
-- ==== Proof.Ffn.Kernel.lean ====
module

public import proofs.«01_k».proof.Proof.Ffn.Row
public import proofs.«01_k».proof.Proof.Gen.FfnIdeal.Value
public import Idealize.ShloMosaic.Lib.Pipeline.ValueKit
public import Idealize.ShloMosaic.Lib.Pipeline.ReadBack
public import Idealize.ShloMosaic.Lib.Pointwise

/-!
What one grid point of the feed-forward kernel stores, read element by element: `FfnRow.rowOut` of its blocks.
-/

@[expose] public section

set_option maxRecDepth 16384

noncomputable section

namespace Cert.Proof.FfnIdeal

open Cert.FfnIdeal Cert.FfnIdeal.Gen Cert.Proof.FfnRow Idealize.ShloMosaic Idealize.ShloMosaic.TcCoe Idealize.SL.Sem
open Idealize.ShloMosaic.Pipeline (Dat)

/-- The hidden block: every row of `h` against every column of the two weight matrices. -/
def act (h : Vec Ideal S512x1024 .bf16) (wg wu : Vec Ideal S1024x2816 .bf16) : Vec Ideal S512x2816 .bf16 :=
  fun j => gated (fun k => h (ix2 (j 0) k)) (fun k => wg (ix2 k (j 1))) (fun k => wu (ix2 k (j 1)))

/-- The normalised block at an element. -/
theorem pay3_apply (x0 : Vec Ideal S512x1024 .f32) (x1 : Vec Ideal S1x9x1024 .f32) (x2 : Vec Ideal S1x1024 .f32) (r : Fin 512) (k : Fin 1024) :
    k0_pay3 x0 x1 x2 (ix2 r k) = normed (fun k => x0 (ix2 r k)) (fun k => x1 (ix3 0 0 k)) (fun k => x1 (ix3 0 1 k)) (fun k => x2 (ix2 0 k)) k := by
  pointwise [k0_pay3, k0_pay1, normed, meanSq]

/-- The last product and the gated addition at an element. -/
theorem pay20_apply (x0 : Vec Ideal S512x1024 .f32) (x1 : Vec Ideal S1x9x1024 .f32) (a : Vec Ideal S512x2816 .bf16) (x5 : Vec Ideal S2816x1024 .bf16) (r : Fin 512) (d : Fin 1024) :
    k0_pay20 x0 (k0_pay2 x1) a x5 (ix2 r d)
      = x0 (ix2 r d) + Ideal.ofBits .f32 0x3F000000#32 * x1 (ix3 0 2 d) * ∑ f : Fin 2816, a (ix2 r f) * x5 (ix2 f d) := by
  pointwise [k0_pay20, k0_pay2, k0_pay1]

/-! ## The eleven column tiles of the hidden block -/

/-- Columns 0 to 255. -/
theorem tile0 (h : Vec Ideal S512x1024 .bf16) (wg wu : Vec Ideal S1024x2816 .bf16) (r : Fin 512) (l : Fin 256) :
    k0_pay7 (k0_pay4 h (View.ld wg (Rect.unit ![0, 0] ![1024, 256] inb_S1024x2816_S1024x256_0_0))) (k0_pay5 h (View.ld wu (Rect.unit ![0, 0] ![1024, 256] inb_S1024x2816_S1024x256_0_0))) k0_pay6 (ix2 r l)
      = act h wg wu (ix2 r ⟨0 + l.val, by omega⟩) := by
  pointwise [k0_pay7, k0_pay4, k0_pay5, k0_pay6, act, gated, silu]
  rw [zero_sub]

/-- Columns 256 to 511. -/
theorem tile1 (h : Vec Ideal S512x1024 .bf16) (wg wu : Vec Ideal S1024x2816 .bf16) (r : Fin 512) (l : Fin 256) :
    k0_pay8 h (View.ld wg (Rect.unit ![0, 256] ![1024, 256] inb_S1024x2816_S1024x256_0_256)) (View.ld wu (Rect.unit ![0, 256] ![1024, 256] inb_S1024x2816_S1024x256_0_256)) (ix2 r l)
      = act h wg wu (ix2 r ⟨256 + l.val, by omega⟩) := by
  pointwise [k0_pay8, act, gated, silu]
  rw [zero_sub]

/-- Columns 512 to 767. -/
theorem tile2 (h : Vec Ideal S512x1024 .bf16) (wg wu : Vec Ideal S1024x2816 .bf16) (r : Fin 512) (l : Fin 256) :
    k0_pay10 h (k0_pay9 h (View.ld wg (Rect.unit ![0, 512] ![1024, 256] inb_S1024x2816_S1024x256_0_512))) (View.ld wu (Rect.unit ![0, 512] ![1024, 256] inb_S1024x2816_S1024x256_0_512)) (ix2 r l)
      = act h wg wu (ix2 r ⟨512 + l.val, by omega⟩) := by
  pointwise [k0_pay10, k0_pay9, act, gated, silu]
  rw [zero_sub]

/-- Columns 768 to 1023. -/
theorem tile3 (h : Vec Ideal S512x1024 .bf16) (wg wu : Vec Ideal S1024x2816 .bf16) (r : Fin 512) (l : Fin 256) :
    k0_pay11 h (View.ld wg (Rect.unit ![0, 768] ![1024, 256] inb_S1024x2816_S1024x256_0_768)) (View.ld wu (Rect.unit ![0, 768] ![1024, 256] inb_S1024x2816_S1024x256_0_768)) (ix2 r l)
      = act h wg wu (ix2 r ⟨768 + l.val, by omega⟩) := by
  pointwise [k0_pay11, act, gated, silu]
  rw [zero_sub]

/-- Columns 1024 to 1279. -/
theorem tile4 (h : Vec Ideal S512x1024 .bf16) (wg wu : Vec Ideal S1024x2816 .bf16) (r : Fin 512) (l : Fin 256) :
    k0_pay12 h (View.ld wg (Rect.unit ![0, 1024] ![1024, 256] inb_S1024x2816_S1024x256_0_1024)) (constant S512x256 FTy.f32 0#32) (View.ld wu (Rect.unit ![0, 1024] ![1024, 256] inb_S1024x2816_S1024x256_0_1024)) (ix2 r l)
      = act h wg wu (ix2 r ⟨1024 + l.val, by omega⟩) := by
  pointwise [k0_pay12, act, gated, silu]
  rw [zero_sub]

/-- Columns 1280 to 1535. -/
theorem tile5 (h : Vec Ideal S512x1024 .bf16) (wg wu : Vec Ideal S1024x2816 .bf16) (r : Fin 512) (l : Fin 256) :
    k0_pay13 h (View.ld wg (Rect.unit ![0, 1280] ![1024, 256] inb_S1024x2816_S1024x256_0_1280)) (View.ld wu (Rect.unit ![0, 1280] ![1024, 256] inb_S1024x2816_S1024x256_0_1280)) (ix2 r l)
      = act h wg wu (ix2 r ⟨1280 + l.val, by omega⟩) := by
  pointwise [k0_pay13, act, gated, silu]
  rw [zero_sub]

/-- Columns 1536 to 1791. -/
theorem tile6 (h : Vec Ideal S512x1024 .bf16) (wg wu : Vec Ideal S1024x2816 .bf16) (r : Fin 512) (l : Fin 256) :
    k0_pay14 h (View.ld wg (Rect.unit ![0, 1536] ![1024, 256] inb_S1024x2816_S1024x256_0_1536)) (View.ld wu (Rect.unit ![0, 1536] ![1024, 256] inb_S1024x2816_S1024x256_0_1536)) (ix2 r l)
      = act h wg wu (ix2 r ⟨1536 + l.val, by omega⟩) := by
  pointwise [k0_pay14, act, gated, silu]
  rw [zero_sub]

/-- Columns 1792 to 2047. -/
theorem tile7 (h : Vec Ideal S512x1024 .bf16) (wg wu : Vec Ideal S1024x2816 .bf16) (r : Fin 512) (l : Fin 256) :
    k0_pay15 h (View.ld wg (Rect.unit ![0, 1792] ![1024, 256] inb_S1024x2816_S1024x256_0_1792)) (View.ld wu (Rect.unit ![0, 1792] ![1024, 256] inb_S1024x2816_S1024x256_0_1792)) (ix2 r l)
      = act h wg wu (ix2 r ⟨1792 + l.val, by omega⟩) := by
  pointwise [k0_pay15, act, gated, silu]
  rw [zero_sub]

/-- Columns 2048 to 2303. -/
theorem tile8 (h : Vec Ideal S512x1024 .bf16) (wg wu : Vec Ideal S1024x2816 .bf16) (r : Fin 512) (l : Fin 256) :
    k0_pay16 h (View.ld wg (Rect.unit ![0, 2048] ![1024, 256] inb_S1024x2816_S1024x256_0_2048)) (View.ld wu (Rect.unit ![0, 2048] ![1024, 256] inb_S1024x2816_S1024x256_0_2048)) (ix2 r l)
      = act h wg wu (ix2 r ⟨2048 + l.val, by omega⟩) := by
  pointwise [k0_pay16, act, gated, silu]
  rw [zero_sub]

/-- Columns 2304 to 2559. -/
theorem tile9 (h : Vec Ideal S512x1024 .bf16) (wg wu : Vec Ideal S1024x2816 .bf16) (r : Fin 512) (l : Fin 256) :
    k0_pay18 (k0_pay17 h (View.ld wg (Rect.unit ![0, 2304] ![1024, 256] inb_S1024x2816_S1024x256_0_2304)) (View.ld wu (Rect.unit ![0, 2304] ![1024, 256] inb_S1024x2816_S1024x256_0_2304))) (ix2 r l)
      = act h wg wu (ix2 r ⟨2304 + l.val, by omega⟩) := by
  pointwise [k0_pay18, k0_pay17, act, gated, silu]
  rw [zero_sub]

/-- Columns 2560 to 2815. -/
theorem tile10 (h : Vec Ideal S512x1024 .bf16) (wg wu : Vec Ideal S1024x2816 .bf16) (r : Fin 512) (l : Fin 256) :
    k0_pay19 h (View.ld wg (Rect.unit ![0, 2560] ![1024, 256] inb_S1024x2816_S1024x256_0_2560)) (View.ld wu (Rect.unit ![0, 2560] ![1024, 256] inb_S1024x2816_S1024x256_0_2560)) (ix2 r l)
      = act h wg wu (ix2 r ⟨2560 + l.val, by omega⟩) := by
  pointwise [k0_pay19, act, gated, silu]
  rw [zero_sub]

/-- The eleven tiles, loaded back whole, are the hidden block. -/
theorem hidden_eq {sg : RefSig} (v : View sg .tc .vmem S512x2816 .bf16) (h : Vec Ideal S512x1024 .bf16) (wg wu : Vec Ideal S1024x2816 .bf16) :
    v.readCov (Val := Elt Ideal)
        [⟨Rect.unit ![0, 2560] ![512, 256] inb_S512x2816_S512x256_0_2560,
            k0_pay19 h (View.ld wg (Rect.unit ![0, 2560] ![1024, 256] inb_S1024x2816_S1024x256_0_2560)) (View.ld wu (Rect.unit ![0, 2560] ![1024, 256] inb_S1024x2816_S1024x256_0_2560))⟩,
          ⟨Rect.unit ![0, 2304] ![512, 256] inb_S512x2816_S512x256_0_2304,
            k0_pay18 (k0_pay17 h (View.ld wg (Rect.unit ![0, 2304] ![1024, 256] inb_S1024x2816_S1024x256_0_2304)) (View.ld wu (Rect.unit ![0, 2304] ![1024, 256] inb_S1024x2816_S1024x256_0_2304)))⟩,
          ⟨Rect.unit ![0, 2048] ![512, 256] inb_S512x2816_S512x256_0_2048,
            k0_pay16 h (View.ld wg (Rect.unit ![0, 2048] ![1024, 256] inb_S1024x2816_S1024x256_0_2048)) (View.ld wu (Rect.unit ![0, 2048] ![1024, 256] inb_S1024x2816_S1024x256_0_2048))⟩,
          ⟨Rect.unit ![0, 1792] ![512, 256] inb_S512x2816_S512x256_0_1792,
            k0_pay15 h (View.ld wg (Rect.unit ![0, 1792] ![1024, 256] inb_S1024x2816_S1024x256_0_1792)) (View.ld wu (Rect.unit ![0, 1792] ![1024, 256] inb_S1024x2816_S1024x256_0_1792))⟩,
          ⟨Rect.unit ![0, 1536] ![512, 256] inb_S512x2816_S512x256_0_1536,
            k0_pay14 h (View.ld wg (Rect.unit ![0, 1536] ![1024, 256] inb_S1024x2816_S1024x256_0_1536)) (View.ld wu (Rect.unit ![0, 1536] ![1024, 256] inb_S1024x2816_S1024x256_0_1536))⟩,
          ⟨Rect.unit ![0, 1280] ![512, 256] inb_S512x2816_S512x256_0_1280,
            k0_pay13 h (View.ld wg (Rect.unit ![0, 1280] ![1024, 256] inb_S1024x2816_S1024x256_0_1280)) (View.ld wu (Rect.unit ![0, 1280] ![1024, 256] inb_S1024x2816_S1024x256_0_1280))⟩,
          ⟨Rect.unit ![0, 1024] ![512, 256] inb_S512x2816_S512x256_0_1024,
            k0_pay12 h (View.ld wg (Rect.unit ![0, 1024] ![1024, 256] inb_S1024x2816_S1024x256_0_1024)) (constant S512x256 FTy.f32 0#32) (View.ld wu (Rect.unit ![0, 1024] ![1024, 256] inb_S1024x2816_S1024x256_0_1024))⟩,
          ⟨Rect.unit ![0, 768] ![512, 256] inb_S512x2816_S512x256_0_768,
            k0_pay11 h (View.ld wg (Rect.unit ![0, 768] ![1024, 256] inb_S1024x2816_S1024x256_0_768)) (View.ld wu (Rect.unit ![0, 768] ![1024, 256] inb_S1024x2816_S1024x256_0_768))⟩,
          ⟨Rect.unit ![0, 512] ![512, 256] inb_S512x2816_S512x256_0_512,
            k0_pay10 h (k0_pay9 h (View.ld wg (Rect.unit ![0, 512] ![1024, 256] inb_S1024x2816_S1024x256_0_512))) (View.ld wu (Rect.unit ![0, 512] ![1024, 256] inb_S1024x2816_S1024x256_0_512))⟩,
          ⟨Rect.unit ![0, 256] ![512, 256] inb_S512x2816_S512x256_0_256,
            k0_pay8 h (View.ld wg (Rect.unit ![0, 256] ![1024, 256] inb_S1024x2816_S1024x256_0_256)) (View.ld wu (Rect.unit ![0, 256] ![1024, 256] inb_S1024x2816_S1024x256_0_256))⟩,
          ⟨Rect.unit ![0, 0] ![512, 256] inb_S512x2816_S512x256_0_0,
            k0_pay7 (k0_pay4 h (View.ld wg (Rect.unit ![0, 0] ![1024, 256] inb_S1024x2816_S1024x256_0_0))) (k0_pay5 h (View.ld wu (Rect.unit ![0, 0] ![1024, 256] inb_S1024x2816_S1024x256_0_0))) k0_pay6⟩]
        (Rect.unit ![0, 0] ![512, 2816] inb_S512x2816_S512x2816_0_0).toLoadRect = act h wg wu := by
  rw [View.readCov_eq_canon_ld _ _ _ (View.cover_of_tiledL _ ![512, 256] (by sl_kernel_rfl)), View.ld_unit_lit]
  swap; · decide
  funext j
  idx_vars j
  canon_tiles x hx
  · idx_vars x
    obtain rfl : j0 = x0 := Fin.ext hx0
    exact (tile10 _ _ _ _ _).trans (congrArg (fun b => act h wg wu (ix2 j0 b)) (Fin.ext (by exact hx1.symm)))
  · idx_vars x
    obtain rfl : j0 = x0 := Fin.ext hx0
    exact (tile9 _ _ _ _ _).trans (congrArg (fun b => act h wg wu (ix2 j0 b)) (Fin.ext (by exact hx1.symm)))
  · idx_vars x
    obtain rfl : j0 = x0 := Fin.ext hx0
    exact (tile8 _ _ _ _ _).trans (congrArg (fun b => act h wg wu (ix2 j0 b)) (Fin.ext (by exact hx1.symm)))
  · idx_vars x
    obtain rfl : j0 = x0 := Fin.ext hx0
    exact (tile7 _ _ _ _ _).trans (congrArg (fun b => act h wg wu (ix2 j0 b)) (Fin.ext (by exact hx1.symm)))
  · idx_vars x
    obtain rfl : j0 = x0 := Fin.ext hx0
    exact (tile6 _ _ _ _ _).trans (congrArg (fun b => act h wg wu (ix2 j0 b)) (Fin.ext (by exact hx1.symm)))
  · idx_vars x
    obtain rfl : j0 = x0 := Fin.ext hx0
    exact (tile5 _ _ _ _ _).trans (congrArg (fun b => act h wg wu (ix2 j0 b)) (Fin.ext (by exact hx1.symm)))
  · idx_vars x
    obtain rfl : j0 = x0 := Fin.ext hx0
    exact (tile4 _ _ _ _ _).trans (congrArg (fun b => act h wg wu (ix2 j0 b)) (Fin.ext (by exact hx1.symm)))
  · idx_vars x
    obtain rfl : j0 = x0 := Fin.ext hx0
    exact (tile3 _ _ _ _ _).trans (congrArg (fun b => act h wg wu (ix2 j0 b)) (Fin.ext (by exact hx1.symm)))
  · idx_vars x
    obtain rfl : j0 = x0 := Fin.ext hx0
    exact (tile2 _ _ _ _ _).trans (congrArg (fun b => act h wg wu (ix2 j0 b)) (Fin.ext (by exact hx1.symm)))
  · idx_vars x
    obtain rfl : j0 = x0 := Fin.ext hx0
    exact (tile1 _ _ _ _ _).trans (congrArg (fun b => act h wg wu (ix2 j0 b)) (Fin.ext (by exact hx1.symm)))
  · idx_vars x
    obtain rfl : j0 = x0 := Fin.ext hx0
    exact (tile0 _ _ _ _ _).trans (congrArg (fun b => act h wg wu (ix2 j0 b)) (Fin.ext (by simpa using hx1.symm)))

/-- What point `t` stores, at an element. -/
theorem out_apply (m : (ℓ : Loc nD τ sig) → Buf (Elt Ideal) ℓ) (c : Dev nD) (t : Fin cfg0.N) (r : Fin 512) (d : Fin 1024) :
    outsAt0 m c t (ix2 r d)
      = rowOut (fun k => iblk m c 0 t (ix2 r k)) (fun k => iblk m c 1 t (ix3 0 0 k)) (fun k => iblk m c 1 t (ix3 0 1 k))
          (fun k => iblk m c 1 t (ix3 0 2 k)) (fun k => iblk m c 2 t (ix2 0 k)) (fun k f => iblk m c 3 t (ix2 k f))
          (fun k f => iblk m c 4 t (ix2 k f)) (fun f d => iblk m c 5 t (ix2 f d)) d := by
  unfold outsAt0
  generalize iblk m c 0 t = x0
  generalize iblk m c 1 t = x1
  generalize iblk m c 2 t = x2
  generalize iblk m c 3 t = x3
  generalize iblk m c 4 t = x4
  generalize iblk m c 5 t = x5
  frame_open
  simp (disch := decide) only [↓ View.readCov_skip, ↓ View.readCov_cons_toLoadRect, ↓ View.readCov_fill]
  frame_out
  rw [hidden_eq, pay20_apply]
  simp only [act, ix2_0, ix2_1, pay3_apply]
  rfl

end Cert.Proof.FfnIdeal
end
-- ==== Proof.Ffn.Value.lean ====
module

public import proofs.«01_k».proof.Proof.Ffn.Kernel
public import proofs.«01_k».proof.Proof.Gen.FfnRefIdeal.Run
public import Idealize.ShloMosaic.Lib.Claim
public import Idealize.ShloMosaic.Lib.Tactic.CleanTypes
public import Idealize.ShloMosaic.Lib.Pipeline.ValueKit.Point

/-!
The feed-forward sublayer: the array that the kernel leaves is the array that the reference computes.
-/

@[expose] public section

set_option maxRecDepth 16384

noncomputable section

namespace Cert.Proof.FfnIdeal

open Cert.FfnIdeal Cert.FfnIdeal.Gen Cert.Proof.FfnRow Idealize.ShloMosaic Idealize.ShloMosaic.TcCoe Idealize.SL.Sem
open Idealize.ShloMosaic.Pipeline (Dat)

/-- The sublayer as one function of its argument arrays. -/
def spec (X : Vec Ideal S16384x1024 .f32) (M : Vec Ideal S2x9x1024 .f32) (g : Vec Ideal S1024 .f32)
    (WG WU : Vec Ideal S1024x2816 .bf16) (WD : Vec Ideal S2816x1024 .bf16) : Vec Ideal S16384x1024 .f32 := fun j =>
  have b : Fin 2 := ⟨(j 0).val / 8192, by have := (j 0).isLt; simp at this; omega⟩
  rowOut (fun k => X (ix2 (j 0) k)) (fun k => M (ix3 b 0 k)) (fun k => M (ix3 b 1 k))
    (fun k => M (ix3 b 2 k)) (fun k => g (ix1 k)) (fun k f => WG (ix2 k f)) (fun k f => WU (ix2 k f)) (fun f d => WD (ix2 f d)) (j 1)

/-- The reference's composed term is `spec`. -/
theorem ref_eq (m : (ℓ : Loc Cert.FfnRefIdeal.nD Cert.FfnRefIdeal.τ Cert.FfnRefIdeal.sig) → Buf (Elt Ideal) ℓ) (c : Dev Cert.FfnRefIdeal.nD) :
    Cert.FfnRefIdeal.Value.res_out0 m c
      = spec (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1))
          (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))
          (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) := by
  unfold Cert.FfnRefIdeal.Value.res_out0 Cert.FfnRefIdeal.Value.res_main_v42
  clean_types
  funext j
  idx_vars j
  pointwise [spec, rowOut, gated, silu, normed, meanSq]

/-- The blocks' places: which block of each array grid point `t` reads and writes. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_7.index t = ![t.val, 0] :=
  (by decide +kernel : ∀ t : Fin grid0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_7.index t = ![t.val, 0])

/-- The array the kernel leaves is `spec` of its arguments. -/
theorem kernel_eq (m : (ℓ : Loc nD τ sig) → Buf (Elt Ideal) ℓ) (c : Dev nD) :
    (dats m 0 c).arrAt 7 cfg0.N
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, eq_ix2 y⟩
  rw [out_apply]
  obtain ⟨e0, e1, e2, e3, e4, e5, e7⟩ := idx t
  have h0 : ∀ k : Fin 1024, iblk m c 0 t (ix2 r k) = m ((c.tc : Thread nD τ).loc main_arg0) (ix2 ((win0_7.blk t).view.emb (ix2 r d) 0) k) := by
    intro k; blk_ext [iblk, V, idx t]
  have h1 : ∀ (a : Fin 9) (k : Fin 1024) (hb : ((win0_7.blk t).view.emb (ix2 r d) 0).val / 8192 < 2), iblk m c 1 t (ix3 0 a k) = m ((c.tc : Thread nD τ).loc main_arg1) (ix3 ⟨((win0_7.blk t).view.emb (ix2 r d) 0).val / 8192, hb⟩ a k) := by
    intro a k hb; blk_ext [iblk, V, idx t]
  have h2 : ∀ k : Fin 1024, iblk m c 2 t (ix2 0 k) = m ((c.tc : Thread nD τ).loc main_arg2) (ix1 k) := by
    intro k
    have e : (win0_2.blk t).view.emb (ix2 0 k) = ix2 0 k := by blk_ext [idx t]
    show V m c main_v0 ((win0_2.blk t).view.emb (ix2 0 k)) = _
    rw [e]
    entry_read
    pointwise
  have h3 : ∀ (k : Fin 1024) (f : Fin 2816), iblk m c 3 t (ix2 k f) = m ((c.tc : Thread nD τ).loc main_arg3) (ix2 k f) := by
    intro k f; blk_ext [iblk, V, idx t]
  have h4 : ∀ (k : Fin 1024) (f : Fin 2816), iblk m c 4 t (ix2 k f) = m ((c.tc : Thread nD τ).loc main_arg4) (ix2 k f) := by
    intro k f; blk_ext [iblk, V, idx t]
  have h5 : ∀ (f : Fin 2816) (e : Fin 1024), iblk m c 5 t (ix2 f e) = m ((c.tc : Thread nD τ).loc main_arg5) (ix2 f e) := by
    intro f e; blk_ext [iblk, V, idx t]
  have h7 : (win0_7.blk t).view.emb (ix2 r d) 1 = d := by
    refine Fin.ext ?_
    blk_simp [idx t]
  have hb : ((win0_7.blk t).view.emb (ix2 r d) 0).val / 8192 < 2 := by
    have h : ((win0_7.blk t).view.emb (ix2 r d) 0).val < 16384 := ((win0_7.blk t).view.emb (ix2 r d) 0).isLt
    omega
  rw [funext h0, funext fun k => h1 0 k hb, funext fun k => h1 1 k hb, funext fun k => h1 2 k hb, funext h2,
    funext fun k => funext fun f => h3 k f, funext fun k => funext fun f => h4 k f, funext fun k => funext fun f => h5 k f]
  unfold spec
  rw [h7]

end Cert.Proof.FfnIdeal
end
-- ==== Proof.FfnMid.Kernel.lean ====
module

public import proofs.«01_k».proof.Proof.Ffn.Kernel
public import proofs.«01_k».proof.Proof.Gen.FfnMidIdeal.Value
public import Idealize.ShloMosaic.Lib.Pipeline.ValueKit
public import Idealize.ShloMosaic.Lib.Pipeline.ReadBack
public import Idealize.ShloMosaic.Lib.Pointwise

/-!
What one grid point of the second feed-forward kernel stores, read element by element: `FfnRow.rowOut` of its blocks.
-/

@[expose] public section

set_option maxRecDepth 16384

noncomputable section

namespace Cert.Proof.FfnMidIdeal

open Cert.Proof.FfnIdeal (act)
open Cert.FfnMidIdeal Cert.FfnMidIdeal.Gen Cert.Proof.FfnRow Idealize.ShloMosaic Idealize.ShloMosaic.TcCoe Idealize.SL.Sem
open Idealize.ShloMosaic.Pipeline (Dat)

/-- The normalised block at an element. -/
theorem pay3_apply (x0 : Vec Ideal S512x1024 .f32) (x1 : Vec Ideal S1x9x1024 .f32) (x2 : Vec Ideal S1x1024 .f32) (r : Fin 512) (k : Fin 1024) :
    k0_pay3 x0 x1 x2 (ix2 r k) = normed (fun k => x0 (ix2 r k)) (fun k => x1 (ix3 0 6 k)) (fun k => x1 (ix3 0 7 k)) (fun k => x2 (ix2 0 k)) k := by
  pointwise [k0_pay3, k0_pay1, normed, meanSq]

/-- The last product and the gated addition at an element. -/
theorem pay20_apply (x0 : Vec Ideal S512x1024 .f32) (x1 : Vec Ideal S1x9x1024 .f32) (a : Vec Ideal S512x2816 .bf16) (x5 : Vec Ideal S2816x1024 .bf16) (r : Fin 512) (d : Fin 1024) :
    k0_pay20 x0 (k0_pay2 x1) a x5 (ix2 r d)
      = x0 (ix2 r d) + Ideal.ofBits .f32 0x3F000000#32 * x1 (ix3 0 8 d) * ∑ f : Fin 2816, a (ix2 r f) * x5 (ix2 f d) := by
  pointwise [k0_pay20, k0_pay2, k0_pay1]

/-- The eleven tiles, loaded back whole, are the hidden block: they are the tiles of the first half step. -/
theorem hidden_eq {sg : RefSig} (v : View sg .tc .vmem S512x2816 .bf16) (h : Vec Ideal S512x1024 .bf16) (wg wu : Vec Ideal S1024x2816 .bf16) :
    v.readCov (Val := Elt Ideal)
        [⟨Rect.unit ![0, 2560] ![512, 256] inb_S512x2816_S512x256_0_2560,
            k0_pay19 h (View.ld wg (Rect.unit ![0, 2560] ![1024, 256] inb_S1024x2816_S1024x256_0_2560)) (View.ld wu (Rect.unit ![0, 2560] ![1024, 256] inb_S1024x2816_S1024x256_0_2560))⟩,
          ⟨Rect.unit ![0, 2304] ![512, 256] inb_S512x2816_S512x256_0_2304,
            k0_pay18 (k0_pay17 h (View.ld wg (Rect.unit ![0, 2304] ![1024, 256] inb_S1024x2816_S1024x256_0_2304)) (View.ld wu (Rect.unit ![0, 2304] ![1024, 256] inb_S1024x2816_S1024x256_0_2304)))⟩,
          ⟨Rect.unit ![0, 2048] ![512, 256] inb_S512x2816_S512x256_0_2048,
            k0_pay16 h (View.ld wg (Rect.unit ![0, 2048] ![1024, 256] inb_S1024x2816_S1024x256_0_2048)) (View.ld wu (Rect.unit ![0, 2048] ![1024, 256] inb_S1024x2816_S1024x256_0_2048))⟩,
          ⟨Rect.unit ![0, 1792] ![512, 256] inb_S512x2816_S512x256_0_1792,
            k0_pay15 h (View.ld wg (Rect.unit ![0, 1792] ![1024, 256] inb_S1024x2816_S1024x256_0_1792)) (View.ld wu (Rect.unit ![0, 1792] ![1024, 256] inb_S1024x2816_S1024x256_0_1792))⟩,
          ⟨Rect.unit ![0, 1536] ![512, 256] inb_S512x2816_S512x256_0_1536,
            k0_pay14 h (View.ld wg (Rect.unit ![0, 1536] ![1024, 256] inb_S1024x2816_S1024x256_0_1536)) (View.ld wu (Rect.unit ![0, 1536] ![1024, 256] inb_S1024x2816_S1024x256_0_1536))⟩,
          ⟨Rect.unit ![0, 1280] ![512, 256] inb_S512x2816_S512x256_0_1280,
            k0_pay13 h (View.ld wg (Rect.unit ![0, 1280] ![1024, 256] inb_S1024x2816_S1024x256_0_1280)) (View.ld wu (Rect.unit ![0, 1280] ![1024, 256] inb_S1024x2816_S1024x256_0_1280))⟩,
          ⟨Rect.unit ![0, 1024] ![512, 256] inb_S512x2816_S512x256_0_1024,
            k0_pay12 h (View.ld wg (Rect.unit ![0, 1024] ![1024, 256] inb_S1024x2816_S1024x256_0_1024)) (constant S512x256 FTy.f32 0#32) (View.ld wu (Rect.unit ![0, 1024] ![1024, 256] inb_S1024x2816_S1024x256_0_1024))⟩,
          ⟨Rect.unit ![0, 768] ![512, 256] inb_S512x2816_S512x256_0_768,
            k0_pay11 h (View.ld wg (Rect.unit ![0, 768] ![1024, 256] inb_S1024x2816_S1024x256_0_768)) (View.ld wu (Rect.unit ![0, 768] ![1024, 256] inb_S1024x2816_S1024x256_0_768))⟩,
          ⟨Rect.unit ![0, 512] ![512, 256] inb_S512x2816_S512x256_0_512,
            k0_pay10 h (k0_pay9 h (View.ld wg (Rect.unit ![0, 512] ![1024, 256] inb_S1024x2816_S1024x256_0_512))) (View.ld wu (Rect.unit ![0, 512] ![1024, 256] inb_S1024x2816_S1024x256_0_512))⟩,
          ⟨Rect.unit ![0, 256] ![512, 256] inb_S512x2816_S512x256_0_256,
            k0_pay8 h (View.ld wg (Rect.unit ![0, 256] ![1024, 256] inb_S1024x2816_S1024x256_0_256)) (View.ld wu (Rect.unit ![0, 256] ![1024, 256] inb_S1024x2816_S1024x256_0_256))⟩,
          ⟨Rect.unit ![0, 0] ![512, 256] inb_S512x2816_S512x256_0_0,
            k0_pay7 (k0_pay4 h (View.ld wg (Rect.unit ![0, 0] ![1024, 256] inb_S1024x2816_S1024x256_0_0))) (k0_pay5 h (View.ld wu (Rect.unit ![0, 0] ![1024, 256] inb_S1024x2816_S1024x256_0_0))) k0_pay6⟩]
        (Rect.unit ![0, 0] ![512, 2816] inb_S512x2816_S512x2816_0_0).toLoadRect = act h wg wu := FfnIdeal.hidden_eq v h wg wu

/-- What point `t` stores, at an element. -/
theorem out_apply (m : (ℓ : Loc nD τ sig) → Buf (Elt Ideal) ℓ) (c : Dev nD) (t : Fin cfg0.N) (r : Fin 512) (d : Fin 1024) :
    outsAt0 m c t (ix2 r d)
      = rowOut (fun k => iblk m c 0 t (ix2 r k)) (fun k => iblk m c 1 t (ix3 0 6 k)) (fun k => iblk m c 1 t (ix3 0 7 k))
          (fun k => iblk m c 1 t (ix3 0 8 k)) (fun k => iblk m c 2 t (ix2 0 k)) (fun k f => iblk m c 3 t (ix2 k f))
          (fun k f => iblk m c 4 t (ix2 k f)) (fun f d => iblk m c 5 t (ix2 f d)) d := by
  unfold outsAt0
  generalize iblk m c 0 t = x0
  generalize iblk m c 1 t = x1
  generalize iblk m c 2 t = x2
  generalize iblk m c 3 t = x3
  generalize iblk m c 4 t = x4
  generalize iblk m c 5 t = x5
  frame_open
  simp (disch := decide) only [↓ View.readCov_skip, ↓ View.readCov_cons_toLoadRect, ↓ View.readCov_fill]
  frame_out
  rw [hidden_eq, pay20_apply]
  simp only [act, ix2_0, ix2_1, pay3_apply]
  rfl

end Cert.Proof.FfnMidIdeal
end
-- ==== Proof.FfnMid.Value.lean ====
module

public import proofs.«01_k».proof.Proof.FfnMid.Kernel
public import proofs.«01_k».proof.Proof.Gen.FfnMidRefIdeal.Run
public import Idealize.ShloMosaic.Lib.Claim
public import Idealize.ShloMosaic.Lib.Tactic.CleanTypes
public import Idealize.ShloMosaic.Lib.Pipeline.ValueKit.Point

/-!
The second feed-forward half step: the array that the kernel leaves is the array that the reference computes.
-/

@[expose] public section

set_option maxRecDepth 16384

noncomputable section

namespace Cert.Proof.FfnMidIdeal

open Cert.FfnMidIdeal Cert.FfnMidIdeal.Gen Cert.Proof.FfnRow Idealize.ShloMosaic Idealize.ShloMosaic.TcCoe Idealize.SL.Sem
open Idealize.ShloMosaic.Pipeline (Dat)

/-- The sublayer as one function of its argument arrays. -/
def spec (X : Vec Ideal S16384x1024 .f32) (M : Vec Ideal S2x9x1024 .f32) (g : Vec Ideal S1024 .f32)
    (WG WU : Vec Ideal S1024x2816 .bf16) (WD : Vec Ideal S2816x1024 .bf16) : Vec Ideal S16384x1024 .f32 := fun j =>
  have b : Fin 2 := ⟨(j 0).val / 8192, by have := (j 0).isLt; simp at this; omega⟩
  rowOut (fun k => X (ix2 (j 0) k)) (fun k => M (ix3 b 6 k)) (fun k => M (ix3 b 7 k))
    (fun k => M (ix3 b 8 k)) (fun k => g (ix1 k)) (fun k f => WG (ix2 k f)) (fun k f => WU (ix2 k f)) (fun f d => WD (ix2 f d)) (j 1)

/-- The reference's composed term is `spec`. -/
theorem ref_eq (m : (ℓ : Loc Cert.FfnMidRefIdeal.nD Cert.FfnMidRefIdeal.τ Cert.FfnMidRefIdeal.sig) → Buf (Elt Ideal) ℓ) (c : Dev Cert.FfnMidRefIdeal.nD) :
    Cert.FfnMidRefIdeal.Value.res_out0 m c
      = spec (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1))
          (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3))
          (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5)) := by
  unfold Cert.FfnMidRefIdeal.Value.res_out0 Cert.FfnMidRefIdeal.Value.res_main_v42
  clean_types
  funext j
  idx_vars j
  pointwise [spec, rowOut, gated, silu, normed, meanSq]

/-- The blocks' places: which block of each array grid point `t` reads and writes. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_7.index t = ![t.val, 0] :=
  (by decide +kernel : ∀ t : Fin grid0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_7.index t = ![t.val, 0])

/-- The array the kernel leaves is `spec` of its arguments. -/
theorem kernel_eq (m : (ℓ : Loc nD τ sig) → Buf (Elt Ideal) ℓ) (c : Dev nD) :
    (dats m 0 c).arrAt 7 cfg0.N
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, eq_ix2 y⟩
  rw [out_apply]
  obtain ⟨e0, e1, e2, e3, e4, e5, e7⟩ := idx t
  have h0 : ∀ k : Fin 1024, iblk m c 0 t (ix2 r k) = m ((c.tc : Thread nD τ).loc main_arg0) (ix2 ((win0_7.blk t).view.emb (ix2 r d) 0) k) := by
    intro k; blk_ext [iblk, V, idx t]
  have h1 : ∀ (a : Fin 9) (k : Fin 1024) (hb : ((win0_7.blk t).view.emb (ix2 r d) 0).val / 8192 < 2), iblk m c 1 t (ix3 0 a k) = m ((c.tc : Thread nD τ).loc main_arg1) (ix3 ⟨((win0_7.blk t).view.emb (ix2 r d) 0).val / 8192, hb⟩ a k) := by
    intro a k hb; blk_ext [iblk, V, idx t]
  have h2 : ∀ k : Fin 1024, iblk m c 2 t (ix2 0 k) = m ((c.tc : Thread nD τ).loc main_arg2) (ix1 k) := by
    intro k
    have e : (win0_2.blk t).view.emb (ix2 0 k) = ix2 0 k := by blk_ext [idx t]
    show V m c main_v0 ((win0_2.blk t).view.emb (ix2 0 k)) = _
    rw [e]
    entry_read
    pointwise
  have h3 : ∀ (k : Fin 1024) (f : Fin 2816), iblk m c 3 t (ix2 k f) = m ((c.tc : Thread nD τ).loc main_arg3) (ix2 k f) := by
    intro k f; blk_ext [iblk, V, idx t]
  have h4 : ∀ (k : Fin 1024) (f : Fin 2816), iblk m c 4 t (ix2 k f) = m ((c.tc : Thread nD τ).loc main_arg4) (ix2 k f) := by
    intro k f; blk_ext [iblk, V, idx t]
  have h5 : ∀ (f : Fin 2816) (e : Fin 1024), iblk m c 5 t (ix2 f e) = m ((c.tc : Thread nD τ).loc main_arg5) (ix2 f e) := by
    intro f e; blk_ext [iblk, V, idx t]
  have h7 : (win0_7.blk t).view.emb (ix2 r d) 1 = d := by
    refine Fin.ext ?_
    blk_simp [idx t]
  have hb : ((win0_7.blk t).view.emb (ix2 r d) 0).val / 8192 < 2 := by
    have h : ((win0_7.blk t).view.emb (ix2 r d) 0).val < 16384 := ((win0_7.blk t).view.emb (ix2 r d) 0).isLt
    omega
  rw [funext h0, funext fun k => h1 6 k hb, funext fun k => h1 7 k hb, funext fun k => h1 8 k hb, funext h2,
    funext fun k => funext fun f => h3 k f, funext fun k => funext fun f => h4 k f, funext fun k => funext fun f => h5 k f]
  unfold spec
  rw [h7]

end Cert.Proof.FfnMidIdeal
end
-- ==== Proof.FfnEnd.Kernel.lean ====
module

public import proofs.«01_k».proof.Proof.Ffn.Kernel
public import proofs.«01_k».proof.Proof.Gen.FfnEndIdeal.Value
public import Idealize.ShloMosaic.Lib.Pipeline.ValueKit
public import Idealize.ShloMosaic.Lib.Pipeline.ReadBack
public import Idealize.ShloMosaic.Lib.Pointwise

/-!
What one grid point of the last feed-forward kernel stores, read element by element: `FfnRow.rowEnd` of the row of its blocks.
-/

@[expose] public section

set_option maxRecDepth 16384

noncomputable section

namespace Cert.Proof.FfnEndIdeal

open Cert.Proof.FfnIdeal (act)
open Cert.FfnEndIdeal Cert.FfnEndIdeal.Gen Cert.Proof.FfnRow Idealize.ShloMosaic Idealize.ShloMosaic.TcCoe Idealize.SL.Sem
open Idealize.ShloMosaic.Pipeline (Dat)

/-- The normalised block at an element. -/
theorem pay4_apply (x0 : Vec Ideal S512x1024 .f32) (x1 : Vec Ideal S1x9x1024 .f32) (x2 : Vec Ideal S1x1024 .f32) (r : Fin 512) (k : Fin 1024) :
    k0_pay4 x0 x1 x2 (ix2 r k) = normed (fun k => x0 (ix2 r k)) (fun k => x1 (ix3 0 6 k)) (fun k => x1 (ix3 0 7 k)) (fun k => x2 (ix2 0 k)) k := by
  pointwise [k0_pay4, k0_pay2, normed, meanSq]

/-- The last product and the gated addition at an element. -/
theorem pay21_apply (x0 : Vec Ideal S512x1024 .f32) (x1 : Vec Ideal S1x9x1024 .f32) (a : Vec Ideal S512x2816 .bf16) (x5 : Vec Ideal S2816x1024 .bf16) (r : Fin 512) (d : Fin 1024) :
    k0_pay21 x0 (k0_pay3 x1) a x5 (ix2 r d)
      = x0 (ix2 r d) + Ideal.ofBits .f32 0x3F000000#32 * x1 (ix3 0 8 d) * ∑ f : Fin 2816, a (ix2 r f) * x5 (ix2 f d) := by
  pointwise [k0_pay21, k0_pay3, k0_pay2]

/-- The closing normalisation at an element. -/
theorem pay1_apply (x0 : Vec Ideal S512x1024 .f32) (v5 : FVec Ideal S1x1024 .f32) (a : Vec Ideal S512x2816 .bf16) (x5 : Vec Ideal S2816x1024 .bf16) (x6 : Vec Ideal S1x1024 .f32) (r : Fin 512) (d : Fin 1024) :
    k0_pay1 (k0_pay21 x0 v5 a x5) (k0_pay22 x0 v5 a x5) k0_pay23 x6 (ix2 r d)
      = rowEnd (fun e => k0_pay21 x0 v5 a x5 (ix2 r e)) (fun e => x6 (ix2 0 e)) d := by
  unfold k0_pay22
  generalize k0_pay21 x0 v5 a x5 = y
  pointwise [k0_pay1, k0_pay23, rowEnd, meanSq]

/-- The eleven tiles, loaded back whole, are the hidden block: they are the tiles of the first half step. -/
theorem hidden_eq {sg : RefSig} (v : View sg .tc .vmem S512x2816 .bf16) (h : Vec Ideal S512x1024 .bf16) (wg wu : Vec Ideal S1024x2816 .bf16) :
    v.readCov (Val := Elt Ideal)
        [⟨Rect.unit ![0, 2560] ![512, 256] inb_S512x2816_S512x256_0_2560,
            k0_pay20 h (View.ld wg (Rect.unit ![0, 2560] ![1024, 256] inb_S1024x2816_S1024x256_0_2560)) (View.ld wu (Rect.unit ![0, 2560] ![1024, 256] inb_S1024x2816_S1024x256_0_2560))⟩,
          ⟨Rect.unit ![0, 2304] ![512, 256] inb_S512x2816_S512x256_0_2304,
            k0_pay19 (k0_pay18 h (View.ld wg (Rect.unit ![0, 2304] ![1024, 256] inb_S1024x2816_S1024x256_0_2304)) (View.ld wu (Rect.unit ![0, 2304] ![1024, 256] inb_S1024x2816_S1024x256_0_2304)))⟩,
          ⟨Rect.unit ![0, 2048] ![512, 256] inb_S512x2816_S512x256_0_2048,
            k0_pay17 h (View.ld wg (Rect.unit ![0, 2048] ![1024, 256] inb_S1024x2816_S1024x256_0_2048)) (View.ld wu (Rect.unit ![0, 2048] ![1024, 256] inb_S1024x2816_S1024x256_0_2048))⟩,
          ⟨Rect.unit ![0, 1792] ![512, 256] inb_S512x2816_S512x256_0_1792,
            k0_pay16 h (View.ld wg (Rect.unit ![0, 1792] ![1024, 256] inb_S1024x2816_S1024x256_0_1792)) (View.ld wu (Rect.unit ![0, 1792] ![1024, 256] inb_S1024x2816_S1024x256_0_1792))⟩,
          ⟨Rect.unit ![0, 1536] ![512, 256] inb_S512x2816_S512x256_0_1536,
            k0_pay15 h (View.ld wg (Rect.unit ![0, 1536] ![1024, 256] inb_S1024x2816_S1024x256_0_1536)) (View.ld wu (Rect.unit ![0, 1536] ![1024, 256] inb_S1024x2816_S1024x256_0_1536))⟩,
          ⟨Rect.unit ![0, 1280] ![512, 256] inb_S512x2816_S512x256_0_1280,
            k0_pay14 h (View.ld wg (Rect.unit ![0, 1280] ![1024, 256] inb_S1024x2816_S1024x256_0_1280)) (View.ld wu (Rect.unit ![0, 1280] ![1024, 256] inb_S1024x2816_S1024x256_0_1280))⟩,
          ⟨Rect.unit ![0, 1024] ![512, 256] inb_S512x2816_S512x256_0_1024,
            k0_pay13 h (View.ld wg (Rect.unit ![0, 1024] ![1024, 256] inb_S1024x2816_S1024x256_0_1024)) (constant S512x256 FTy.f32 0#32) (View.ld wu (Rect.unit ![0, 1024] ![1024, 256] inb_S1024x2816_S1024x256_0_1024))⟩,
          ⟨Rect.unit ![0, 768] ![512, 256] inb_S512x2816_S512x256_0_768,
            k0_pay12 h (View.ld wg (Rect.unit ![0, 768] ![1024, 256] inb_S1024x2816_S1024x256_0_768)) (View.ld wu (Rect.unit ![0, 768] ![1024, 256] inb_S1024x2816_S1024x256_0_768))⟩,
          ⟨Rect.unit ![0, 512] ![512, 256] inb_S512x2816_S512x256_0_512,
            k0_pay11 h (k0_pay10 h (View.ld wg (Rect.unit ![0, 512] ![1024, 256] inb_S1024x2816_S1024x256_0_512))) (View.ld wu (Rect.unit ![0, 512] ![1024, 256] inb_S1024x2816_S1024x256_0_512))⟩,
          ⟨Rect.unit ![0, 256] ![512, 256] inb_S512x2816_S512x256_0_256,
            k0_pay9 h (View.ld wg (Rect.unit ![0, 256] ![1024, 256] inb_S1024x2816_S1024x256_0_256)) (View.ld wu (Rect.unit ![0, 256] ![1024, 256] inb_S1024x2816_S1024x256_0_256))⟩,
          ⟨Rect.unit ![0, 0] ![512, 256] inb_S512x2816_S512x256_0_0,
            k0_pay8 (k0_pay5 h (View.ld wg (Rect.unit ![0, 0] ![1024, 256] inb_S1024x2816_S1024x256_0_0))) (k0_pay6 h (View.ld wu (Rect.unit ![0, 0] ![1024, 256] inb_S1024x2816_S1024x256_0_0))) k0_pay7⟩]
        (Rect.unit ![0, 0] ![512, 2816] inb_S512x2816_S512x2816_0_0).toLoadRect = act h wg wu := FfnIdeal.hidden_eq v h wg wu

/-- What point `t` stores, at an element. -/
theorem out_apply (m : (ℓ : Loc nD τ sig) → Buf (Elt Ideal) ℓ) (c : Dev nD) (t : Fin cfg0.N) (r : Fin 512) (d : Fin 1024) :
    outsAt0 m c t (ix2 r d)
      = rowEnd (rowOut (fun k => iblk m c 0 t (ix2 r k)) (fun k => iblk m c 1 t (ix3 0 6 k)) (fun k => iblk m c 1 t (ix3 0 7 k))
          (fun k => iblk m c 1 t (ix3 0 8 k)) (fun k => iblk m c 2 t (ix2 0 k)) (fun k f => iblk m c 3 t (ix2 k f))
          (fun k f => iblk m c 4 t (ix2 k f)) (fun f d => iblk m c 5 t (ix2 f d))) (fun e => iblk m c 6 t (ix2 0 e)) d := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  frame_open
  simp (disch := decide) only [↓ View.readCov_skip, ↓ View.readCov_cons_toLoadRect, ↓ View.readCov_fill]
  frame_out
  rw [hidden_eq, pay1_apply]
  simp only [pay21_apply, act, ix2_0, ix2_1, pay4_apply]
  rfl

end Cert.Proof.FfnEndIdeal
end
-- ==== Proof.FfnEnd.Value.lean ====
module

public import proofs.«01_k».proof.Proof.FfnEnd.Kernel
public import proofs.«01_k».proof.Proof.Gen.FfnEndRefIdeal.Run
public import Idealize.ShloMosaic.Lib.Claim
public import Idealize.ShloMosaic.Lib.Tactic.CleanTypes
public import Idealize.ShloMosaic.Lib.Pipeline.ValueKit.Point

/-!
The last feed-forward half step and the closing normalisation: the array that the kernel leaves is the array that the reference computes.
-/

@[expose] public section

set_option maxRecDepth 16384

noncomputable section

namespace Cert.Proof.FfnEndIdeal

open Cert.FfnEndIdeal Cert.FfnEndIdeal.Gen Cert.Proof.FfnRow Idealize.ShloMosaic Idealize.ShloMosaic.TcCoe Idealize.SL.Sem
open Idealize.ShloMosaic.Pipeline (Dat)

/-- The half step and the normalisation as one function of its argument arrays. -/
def spec (X : Vec Ideal S16384x1024 .f32) (M : Vec Ideal S2x9x1024 .f32) (g : Vec Ideal S1024 .f32)
    (WG WU : Vec Ideal S1024x2816 .bf16) (WD : Vec Ideal S2816x1024 .bf16) (fg : Vec Ideal S1024 .f32) : Vec Ideal S16384x1024 .f32 := fun j =>
  have b : Fin 2 := ⟨(j 0).val / 8192, by have := (j 0).isLt; simp at this; omega⟩
  rowEnd (rowOut (fun k => X (ix2 (j 0) k)) (fun k => M (ix3 b 6 k)) (fun k => M (ix3 b 7 k))
    (fun k => M (ix3 b 8 k)) (fun k => g (ix1 k)) (fun k f => WG (ix2 k f)) (fun k f => WU (ix2 k f)) (fun f d => WD (ix2 f d))) (fun e => fg (ix1 e)) (j 1)

/-- The reference's composed term is `spec`. -/
theorem ref_eq (m : (ℓ : Loc Cert.FfnEndRefIdeal.nD Cert.FfnEndRefIdeal.τ Cert.FfnEndRefIdeal.sig) → Buf (Elt Ideal) ℓ) (c : Dev Cert.FfnEndRefIdeal.nD) :
    Cert.FfnEndRefIdeal.Value.res_out0 m c
      = spec (m ((c.tc : Thread Cert.FfnEndRefIdeal.nD Cert.FfnEndRefIdeal.τ).loc Cert.FfnEndRefIdeal.main_arg0)) (m ((c.tc : Thread Cert.FfnEndRefIdeal.nD Cert.FfnEndRefIdeal.τ).loc Cert.FfnEndRefIdeal.main_arg1))
          (m ((c.tc : Thread Cert.FfnEndRefIdeal.nD Cert.FfnEndRefIdeal.τ).loc Cert.FfnEndRefIdeal.main_arg2)) (m ((c.tc : Thread Cert.FfnEndRefIdeal.nD Cert.FfnEndRefIdeal.τ).loc Cert.FfnEndRefIdeal.main_arg3))
          (m ((c.tc : Thread Cert.FfnEndRefIdeal.nD Cert.FfnEndRefIdeal.τ).loc Cert.FfnEndRefIdeal.main_arg4)) (m ((c.tc : Thread Cert.FfnEndRefIdeal.nD Cert.FfnEndRefIdeal.τ).loc Cert.FfnEndRefIdeal.main_arg5))
          (m ((c.tc : Thread Cert.FfnEndRefIdeal.nD Cert.FfnEndRefIdeal.τ).loc Cert.FfnEndRefIdeal.main_arg6)) := by
  unfold Cert.FfnEndRefIdeal.Value.res_out0 Cert.FfnEndRefIdeal.Value.res_main_v55
  clean_types
  funext j
  idx_vars j
  pointwise [spec, rowEnd, rowOut, gated, silu, normed, meanSq]

/-- The blocks' places: which block of each array grid point `t` reads and writes. -/
theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0] ∧ win0_7.index t = ![t.val, 0])

/-- The array the kernel leaves is `spec` of its arguments. -/
theorem kernel_eq (m : (ℓ : Loc nD τ sig) → Buf (Elt Ideal) ℓ) (c : Dev nD) :
    (dats m 0 c).arrAt 7 cfg0.N
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, eq_ix2 y⟩
  rw [out_apply]
  obtain ⟨e0, e1, e2, e3, e4, e5, e6, e7⟩ := idx t
  have h0 : ∀ k : Fin 1024, iblk m c 0 t (ix2 r k) = m ((c.tc : Thread nD τ).loc main_arg0) (ix2 ((win0_7.blk t).view.emb (ix2 r d) 0) k) := by
    intro k; blk_ext [iblk, V, idx t]
  have h1 : ∀ (a : Fin 9) (k : Fin 1024) (hb : ((win0_7.blk t).view.emb (ix2 r d) 0).val / 8192 < 2), iblk m c 1 t (ix3 0 a k) = m ((c.tc : Thread nD τ).loc main_arg1) (ix3 ⟨((win0_7.blk t).view.emb (ix2 r d) 0).val / 8192, hb⟩ a k) := by
    intro a k hb; blk_ext [iblk, V, idx t]
  have h2 : ∀ k : Fin 1024, iblk m c 2 t (ix2 0 k) = m ((c.tc : Thread nD τ).loc main_arg2) (ix1 k) := by
    intro k
    have e : (win0_2.blk t).view.emb (ix2 0 k) = ix2 0 k := by blk_ext [idx t]
    show V m c main_v0 ((win0_2.blk t).view.emb (ix2 0 k)) = _
    rw [e]
    entry_read
    pointwise
  have h3 : ∀ (k : Fin 1024) (f : Fin 2816), iblk m c 3 t (ix2 k f) = m ((c.tc : Thread nD τ).loc main_arg3) (ix2 k f) := by
    intro k f; blk_ext [iblk, V, idx t]
  have h4 : ∀ (k : Fin 1024) (f : Fin 2816), iblk m c 4 t (ix2 k f) = m ((c.tc : Thread nD τ).loc main_arg4) (ix2 k f) := by
    intro k f; blk_ext [iblk, V, idx t]
  have h5 : ∀ (f : Fin 2816) (e : Fin 1024), iblk m c 5 t (ix2 f e) = m ((c.tc : Thread nD τ).loc main_arg5) (ix2 f e) := by
    intro f e; blk_ext [iblk, V, idx t]
  have h6 : ∀ k : Fin 1024, iblk m c 6 t (ix2 0 k) = m ((c.tc : Thread nD τ).loc main_arg6) (ix1 k) := by
    intro k
    have e : (win0_6.blk t).view.emb (ix2 0 k) = ix2 0 k := by blk_ext [idx t]
    show V m c main_v1 ((win0_6.blk t).view.emb (ix2 0 k)) = _
    rw [e]
    entry_read
    pointwise
  have h7 : (win0_7.blk t).view.emb (ix2 r d) 1 = d := by
    refine Fin.ext ?_
    blk_simp [idx t]
  have hb : ((win0_7.blk t).view.emb (ix2 r d) 0).val / 8192 < 2 := by
    have h : ((win0_7.blk t).view.emb (ix2 r d) 0).val < 16384 := ((win0_7.blk t).view.emb (ix2 r d) 0).isLt
    omega
  rw [funext h0, funext fun k => h1 6 k hb, funext fun k => h1 7 k hb, funext fun k => h1 8 k hb, funext h2,
    funext fun k => funext fun f => h3 k f, funext fun k => funext fun f => h4 k f, funext fun k => funext fun f => h5 k f, funext h6]
  unfold spec
  rw [h7]

end Cert.Proof.FfnEndIdeal
end
-- ==== Proof.OutEven.Value.lean ====
module

public import proofs.«01_k».proof.Proof.Gen.OutEvenIdeal.Value
public import proofs.«01_k».proof.Proof.Gen.OutEvenRefIdeal.Run
public import Idealize.ShloMosaic.Lib.Pipeline.ValueKit
public import Idealize.ShloMosaic.Lib.Pipeline.ReadBack
public import Idealize.ShloMosaic.Lib.Pipeline.ValueKit.Point
public import Idealize.ShloMosaic.Lib.Pointwise
public import Idealize.ShloMosaic.Lib.Claim
public import Idealize.ShloMosaic.Lib.Tactic.CleanTypes

/-!
The first block's output projection: the array that the kernel leaves is the array that the reference computes.
-/

@[expose] public section

set_option maxRecDepth 16384

noncomputable section

namespace Cert.Proof.OutEvenIdeal

open Cert.OutEvenIdeal Cert.OutEvenIdeal.Gen Idealize.ShloMosaic Idealize.ShloMosaic.TcCoe Idealize.SL.Sem
open Idealize.ShloMosaic.Pipeline (Dat)

/-- The projection as one function of its argument arrays: the pooled half goes through the upper rows of the weight,
the attention's half through the lower ones. -/
def spec (X : Vec Ideal S16384x1024 .f32) (M : Vec Ideal S2x9x1024 .f32) (P A : Vec Ideal S2x8192x512 .bf16)
    (W : Vec Ideal S1024x1024 .f32) : Vec Ideal S16384x1024 .f32 := fun j =>
  have hj : (j 0).val < 16384 := (j 0).isLt
  have b : Fin 2 := ⟨(j 0).val / 8192, by omega⟩
  have s : Fin 8192 := ⟨(j 0).val % 8192, by omega⟩
  X j + M (ix3 b 5 (j 1)) * (∑ k : Fin 512, P (ix3 b s k) * W (ix2 (k.castAdd 512) (j 1))
    + ∑ k : Fin 512, A (ix3 b s k) * W (ix2 (k.natAdd 512) (j 1)))

/-- The reference's run: its result is `spec` of its arguments, which end unchanged. -/
theorem ref_run (m : (ℓ : Loc Cert.OutEvenRefIdeal.nD Cert.OutEvenRefIdeal.τ Cert.OutEvenRefIdeal.sig) → Buf (Elt Ideal) ℓ) (ρ : Dev Cert.OutEvenRefIdeal.nD → PrngReg) :
    θ_run Cert.OutEvenRefIdeal.defs (onTc (τ := Cert.OutEvenRefIdeal.τ) (Cert.OutEvenRefIdeal.main (F := Ideal))) ⟨m, fun _ => 0, ρ⟩ (fun r => ∀ c : Dev Cert.OutEvenRefIdeal.nD,
      r.2.mem ((c.tc : Thread Cert.OutEvenRefIdeal.nD Cert.OutEvenRefIdeal.τ).loc Cert.OutEvenRefIdeal.main_v11)
        = spec (m ((c.tc : Thread Cert.OutEvenRefIdeal.nD Cert.OutEvenRefIdeal.τ).loc Cert.OutEvenRefIdeal.main_arg0)) (m ((c.tc : Thread Cert.OutEvenRefIdeal.nD Cert.OutEvenRefIdeal.τ).loc Cert.OutEvenRefIdeal.main_arg1))
          (m ((c.tc : Thread Cert.OutEvenRefIdeal.nD Cert.OutEvenRefIdeal.τ).loc Cert.OutEvenRefIdeal.main_arg2)) (m ((c.tc : Thread Cert.OutEvenRefIdeal.nD Cert.OutEvenRefIdeal.τ).loc Cert.OutEvenRefIdeal.main_arg3)) (m ((c.tc : Thread Cert.OutEvenRefIdeal.nD Cert.OutEvenRefIdeal.τ).loc Cert.OutEvenRefIdeal.main_arg4))
      ∧ r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)) := by
  refine (θ_run _ _ _).mono (fun r h c => ⟨(h c).1.trans ?_, (h c).2⟩) (Cert.OutEvenRefIdeal.Value.run m ρ)
  clean_types
  funext j
  idx_vars j
  pointwise [spec]
  rfl

/-- The stored block at an element. -/
theorem pay1_apply (x0 : Vec Ideal S512x1024 .f32) (x1 : Vec Ideal S1x9x1024 .f32) (x2 x3 : Vec Ideal S512x512 .bf16)
    (x4 x5 : Vec Ideal S512x1024 .bf16) (r : Fin 512) (d : Fin 1024) :
    k0_pay1 x2 x4 x3 x5 x1 x0 (ix2 r d) = x0 (ix2 r d) + x1 (ix3 0 5 d) * (∑ k : Fin 512, x2 (ix2 r k) * x4 (ix2 k d) + ∑ k : Fin 512, x3 (ix2 r k) * x5 (ix2 k d)) := by
  pointwise [k0_pay1]

/-- What a grid point leaves, at an element. -/
theorem out_apply (x0 : Vec Ideal S512x1024 .f32) (x1 : Vec Ideal S1x9x1024 .f32) (x2 x3 : Vec Ideal S512x512 .bf16)
    (x4 x5 : Vec Ideal S512x1024 .bf16) (r : Fin 512) (d : Fin 1024) :
    out0_6 x0 x1 x2 x3 x4 x5 (ix2 r d) = x0 (ix2 r d) + x1 (ix3 0 5 d) * (∑ k : Fin 512, x2 (ix2 r k) * x4 (ix2 k d) + ∑ k : Fin 512, x3 (ix2 r k) * x5 (ix2 k d)) := by
  unfold out0_6
  frame_out
  rw [pay1_apply]

/-- The blocks' places: which block of each array grid point `t` reads and writes. -/
theorem idx : ∀ t : Fin cfg0.N, win0_0.index t = ![t.val, 0] ∧ win0_1.index t = ![t.val / 16, 0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, win0_0.index t = ![t.val, 0] ∧ win0_1.index t = ![t.val / 16, 0, 0] ∧ win0_2.index t = ![t.val, 0]
    ∧ win0_3.index t = ![t.val, 0] ∧ win0_4.index t = ![0, 0] ∧ win0_5.index t = ![0, 0] ∧ win0_6.index t = ![t.val, 0])

/-- The array the kernel leaves is `spec` of its arguments. -/
theorem kernel_eq (m : (ℓ : Loc nD τ sig) → Buf (Elt Ideal) ℓ) (c : Dev nD) :
    (dats m 0 c).arrAt 6 cfg0.N
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 6 _ (by decide +kernel) fun t hf y => ?_
  blk_simp
  obtain ⟨r, d, rfl⟩ : ∃ (r : Fin 512) (d : Fin 1024), y = ix2 r d := ⟨y 0, y 1, eq_ix2 y⟩
  rw [after0_6, out_apply]
  obtain ⟨e0, e1, e2, e3, e4, e5, e6⟩ := idx t
  have ht : t.val < 32 := t.isLt
  have o : (win0_6.blk t).view.emb (ix2 r d) = ix2 ⟨t.val * 512 + r.val, by omega⟩ d := by blk_ext [idx t]
  have h0 : iblk m c 0 t (ix2 r d) = m ((c.tc : Thread nD τ).loc main_arg0) (ix2 ⟨t.val * 512 + r.val, by omega⟩ d) := by
    blk_ext [iblk, V, idx t]
  have h1 : iblk m c 1 t (ix3 0 5 d) = m ((c.tc : Thread nD τ).loc main_arg1) (ix3 ⟨(t.val * 512 + r.val) / 8192, by omega⟩ 5 d) := by
    blk_ext [iblk, V, idx t]
  have h2 : ∀ k : Fin 512, iblk m c 2 t (ix2 r k) = m ((c.tc : Thread nD τ).loc main_arg2)
      (ix3 ⟨(t.val * 512 + r.val) / 8192, by omega⟩ ⟨(t.val * 512 + r.val) % 8192, by omega⟩ k) := by
    intro k
    have e : (win0_2.blk t).view.emb (ix2 r k) = ix2 ⟨t.val * 512 + r.val, by omega⟩ k := by blk_ext [idx t]
    show V m c main_v1 ((win0_2.blk t).view.emb (ix2 r k)) = _
    rw [e]
    entry_read
    pointwise
  have h3 : ∀ k : Fin 512, iblk m c 3 t (ix2 r k) = m ((c.tc : Thread nD τ).loc main_arg3)
      (ix3 ⟨(t.val * 512 + r.val) / 8192, by omega⟩ ⟨(t.val * 512 + r.val) % 8192, by omega⟩ k) := by
    intro k
    have e : (win0_3.blk t).view.emb (ix2 r k) = ix2 ⟨t.val * 512 + r.val, by omega⟩ k := by blk_ext [idx t]
    show V m c main_v2 ((win0_3.blk t).view.emb (ix2 r k)) = _
    rw [e]
    entry_read
    pointwise
  have h4 : ∀ k : Fin 512, iblk m c 4 t (ix2 k d) = m ((c.tc : Thread nD τ).loc main_arg4) (ix2 (k.castAdd 512) d) := by
    intro k
    have e : (win0_4.blk t).view.emb (ix2 k d) = ix2 k d := by blk_ext [idx t]
    show V m c main_v3 ((win0_4.blk t).view.emb (ix2 k d)) = _
    rw [e]
    entry_read
    pointwise
    rfl
  have h5 : ∀ k : Fin 512, iblk m c 5 t (ix2 k d) = m ((c.tc : Thread nD τ).loc main_arg4) (ix2 (k.natAdd 512) d) := by
    intro k
    have e : (win0_5.blk t).view.emb (ix2 k d) = ix2 k d := by blk_ext [idx t]
    show V m c main_v4 ((win0_5.blk t).view.emb (ix2 k d)) = _
    rw [e]
    entry_read
    pointwise
    rfl
  rw [o, h0, h1]
  simp only [h2, h3, h4, h5]
  rfl

end Cert.Proof.OutEvenIdeal
end
-- ==== Proof.OutOdd.Value.lean ====
module

public import proofs.«01_k».proof.Proof.Gen.OutOddIdeal.Value
public import proofs.«01_k».proof.Proof.Gen.OutOddRefIdeal.Run
public import Idealize.ShloMosaic.Lib.Pipeline.ValueKit
public import Idealize.ShloMosaic.Lib.Pipeline.ReadBack
public import Idealize.ShloMosaic.Lib.Pipeline.ValueKit.Point
public import Idealize.ShloMosaic.Lib.Pointwise
public import Idealize.ShloMosaic.Lib.Claim
public import Idealize.ShloMosaic.Lib.Tactic.CleanTypes

/-!
The second block's output projection: the array that the kernel leaves is the array that the reference computes.
-/

@[expose] public section

set_option maxRecDepth 16384

noncomputable section

namespace Cert.Proof.OutOddIdeal

open Cert.OutOddIdeal Cert.OutOddIdeal.Gen Idealize.ShloMosaic Idealize.ShloMosaic.TcCoe Idealize.SL.Sem
open Idealize.ShloMosaic.Pipeline (Dat)

/-- The projection as one function of its argument arrays. -/
def spec (X : Vec Ideal S16384x1024 .f32) (M : Vec Ideal S2x9x1024 .f32) (Y : Vec Ideal S16384x1024 .bf16)
    (W : Vec Ideal S1024x1024 .f32) : Vec Ideal S16384x1024 .f32 := fun j =>
  have b : Fin 2 := ⟨(j 0).val / 8192, by have := (j 0).isLt; simp at this; omega⟩
  X j + M (ix3 b 5 (j 1)) * ∑ k : Fin 1024, Y (ix2 (j 0) k) * W (ix2 k (j 1))

/-- The reference's run: its result is `spec` of its arguments, which end unchanged. -/
theorem ref_run (m : (ℓ : Loc Cert.OutOddRefIdeal.nD Cert.OutOddRefIdeal.τ Cert.OutOddRefIdeal.sig) → Buf (Elt Ideal) ℓ) (ρ : Dev Cert.OutOddRefIdeal.nD → PrngReg) :
    θ_run Cert.OutOddRefIdeal.defs (onTc (τ := Cert.OutOddRefIdeal.τ) (Cert.OutOddRefIdeal.main (F := Ideal))) ⟨m, fun _ => 0, ρ⟩ (fun r => ∀ c : Dev Cert.OutOddRefIdeal.nD,
      r.2.mem ((c.tc : Thread Cert.OutOddRefIdeal.nD Cert.OutOddRefIdeal.τ).loc Cert.OutOddRefIdeal.main_v10)
        = spec (m ((c.tc : Thread Cert.OutOddRefIdeal.nD Cert.OutOddRefIdeal.τ).loc Cert.OutOddRefIdeal.main_arg0)) (m ((c.tc : Thread Cert.OutOddRefIdeal.nD Cert.OutOddRefIdeal.τ).loc Cert.OutOddRefIdeal.main_arg1))
          (m ((c.tc : Thread Cert.OutOddRefIdeal.nD Cert.OutOddRefIdeal.τ).loc Cert.OutOddRefIdeal.main_arg2)) (m ((c.tc : Thread Cert.OutOddRefIdeal.nD Cert.OutOddRefIdeal.τ).loc Cert.OutOddRefIdeal.main_arg3))
      ∧ r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)) := by
  refine (θ_run _ _ _).mono (fun r h c => ⟨(h c).1.trans ?_, (h c).2⟩) (Cert.OutOddRefIdeal.Value.run m ρ)
  clean_types
  funext j
  idx_vars j
  pointwise [spec]

/-- The stored block at an element. -/
theorem pay1_apply (x0 : Vec Ideal S512x1024 .f32) (x1 : Vec Ideal S1x9x1024 .f32) (x2 : Vec Ideal S512x1024 .bf16)
    (x3 : Vec Ideal S1024x1024 .bf16) (r : Fin 512) (d : Fin 1024) :
    k0_pay1 x2 x3 x1 x0 (ix2 r d) = x0 (ix2 r d) + x1 (ix3 0 5 d) * ∑ k : Fin 1024, x2 (ix2 r k) * x3 (ix2 k d) := by
  pointwise [k0_pay1]

/-- What a grid point leaves, at an element. -/
theorem out_apply (x0 : Vec Ideal S512x1024 .f32) (x1 : Vec Ideal S1x9x1024 .f32) (x2 : Vec Ideal S512x1024 .bf16)
    (x3 : Vec Ideal S1024x1024 .bf16) (r : Fin 512) (d : Fin 1024) :
    out0_4 x0 x1 x2 x3 (ix2 r d) = x0 (ix2 r d) + x1 (ix3 0 5 d) * ∑ k : Fin 1024, x2 (ix2 r k) * x3 (ix2 k d) := by
  unfold out0_4
  frame_out
  rw [pay1_apply]

/-- The blocks' places: which block of each array grid point `t` reads and writes. -/
theorem idx : ∀ t : Fin cfg0.N, win0_0.index t = ![t.val, 0] ∧ win0_1.index t = ![t.val / 16, 0, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![t.val / 16, 0, 0] ∧ win0_2.index t = ![t.val, 0]
    ∧ win0_3.index t = ![0, 0] ∧ win0_4.index t = ![t.val, 0])

/-- The array the kernel leaves is `spec` of its arguments. -/
theorem kernel_eq (m : (ℓ : Loc nD τ sig) → Buf (Elt Ideal) ℓ) (c : Dev nD) :
    (dats m 0 c).arrAt 4 cfg0.N
      = spec (m ((c.tc : Thread nD τ).loc main_arg0)) (m ((c.tc : Thread nD τ).loc main_arg1)) (m ((c.tc : Thread nD τ).loc main_arg2))
          (m ((c.tc : Thread nD τ).loc main_arg3)) := by
  refine (dats m 0 c).arrAt_eq_of_covers 4 _ (by decide +kernel) fun t hf y => ?_
  blk_simp
  obtain ⟨r, d, rfl⟩ : ∃ (r : Fin 512) (d : Fin 1024), y = ix2 r d := ⟨y 0, y 1, eq_ix2 y⟩
  rw [after0_4, out_apply]
  obtain ⟨e0, e1, e2, e3, e4⟩ := idx t
  have ht : t.val < 32 := t.isLt
  have o : (win0_4.blk t).view.emb (ix2 r d) = ix2 ⟨t.val * 512 + r.val, by omega⟩ d := by blk_ext [idx t]
  have h0 : iblk m c 0 t (ix2 r d) = m ((c.tc : Thread nD τ).loc main_arg0) (ix2 ⟨t.val * 512 + r.val, by omega⟩ d) := by
    blk_ext [iblk, V, idx t]
  have h1 : iblk m c 1 t (ix3 0 5 d) = m ((c.tc : Thread nD τ).loc main_arg1) (ix3 ⟨(t.val * 512 + r.val) / 8192, by omega⟩ 5 d) := by
    blk_ext [iblk, V, idx t]
  have h2 : ∀ k : Fin 1024, iblk m c 2 t (ix2 r k) = m ((c.tc : Thread nD τ).loc main_arg2) (ix2 ⟨t.val * 512 + r.val, by omega⟩ k) := by
    intro k; blk_ext [iblk, V, idx t]
  have h3 : ∀ k : Fin 1024, iblk m c 3 t (ix2 k d) = m ((c.tc : Thread nD τ).loc main_arg3) (ix2 k d) := by
    intro k
    have e : (win0_3.blk t).view.emb (ix2 k d) = ix2 k d := by blk_ext [idx t]
    show V m c main_v0 ((win0_3.blk t).view.emb (ix2 k d)) = _
    rw [e]
    entry_read
    pointwise
  rw [o, h0, h1]
  simp only [h2, h3]
  rfl

end Cert.Proof.OutOddIdeal
end
-- ==== Proof.OddIn.Scatter.lean ====
module

public import proofs.«01_k».proof.Proof.Gen.OddInIdeal.Frame
public import Idealize.ShloMosaic.Lib.Pointwise

/-!
Writing a rectangle into a larger array: what the padded gate weights and biases hold at each place.
-/

@[expose] public section

set_option maxRecDepth 16384

noncomputable section

namespace Cert.Proof.Scatter

open Idealize.ShloMosaic

/-- Overwriting, along a list of updates, the places `e` sends them to: a place no update of the list goes to keeps its value. -/
theorem fold_miss {ι κ α : Type} [DecidableEq κ] (e : ι → κ) (v : ι → α) (i : κ) :
    ∀ (l : List ι) (x : κ → α), (∀ n ∈ l, e n ≠ i) →
      l.foldl (fun r n => fun i' => if i' = e n then v n else r i') x i = x i
  | [], x, _ => rfl
  | n :: l, x, h => by
    rw [List.foldl_cons, fold_miss e v i l _ (fun k hk => h k (List.mem_cons_of_mem _ hk))]
    exact if_neg (fun h' => h n (List.mem_cons_self ..) h'.symm)

/-- A place exactly one update of the list goes to holds that update. -/
theorem fold_hit {ι κ α : Type} [DecidableEq κ] (e : ι → κ) (he : Function.Injective e) (v : ι → α) (n : ι) :
    ∀ (l : List ι) (x : κ → α), n ∈ l → l.Nodup →
      l.foldl (fun r n => fun i' => if i' = e n then v n else r i') x (e n) = v n
  | [], x, h, _ => absurd h (List.not_mem_nil)
  | k :: l, x, h, hl => by
    rw [List.foldl_cons]
    have hl' := List.nodup_cons.1 hl
    by_cases hk : n = k
    · subst hk
      rw [fold_miss e v (e n) l _ (fun j hj hje => hl'.1 (he hje ▸ hj))]
      exact if_pos rfl
    · exact fold_hit e he v n l _ ((List.mem_cons.1 h).resolve_left hk) hl'.2

variable {s si u : Shape} {w : Nat} {α : Type}

theorem scatter_eq (d : ScatterDims s si u) (x : s.Idx → α) (idx : IVec si w) (upd : u.Idx → α) (e : u.Idx → s.Idx)
    (h : ∀ j, d.resultIdx? j idx = some (e j)) :
    Host.scatter d (fun _ b => b) x idx upd
      = (List.finRange u.numel).foldl (fun r n => fun i' => if i' = e (u.rowMajor.symm n) then upd (u.rowMajor.symm n) else r i') x := by
  unfold Host.scatter
  simp only [h]

/-- Where update `j` lands the array holds it. -/
theorem scatter_hit (d : ScatterDims s si u) (x : s.Idx → α) (idx : IVec si w) (upd : u.Idx → α) (e : u.Idx → s.Idx)
    (he : Function.Injective e) (h : ∀ j, d.resultIdx? j idx = some (e j)) (j : u.Idx) :
    Host.scatter d (fun _ b => b) x idx upd (e j) = upd j := by
  rw [scatter_eq d x idx upd e h]
  have := fold_hit (fun n => e (u.rowMajor.symm n)) (fun a b hab => u.rowMajor.symm.injective (he hab)) (fun n => upd (u.rowMajor.symm n))
    (u.rowMajor j) (List.finRange u.numel) x (List.mem_finRange _) (List.nodup_finRange _)
  simpa using this

/-- Where no update lands the array is as before. -/
theorem scatter_miss (d : ScatterDims s si u) (x : s.Idx → α) (idx : IVec si w) (upd : u.Idx → α) (e : u.Idx → s.Idx)
    (h : ∀ j, d.resultIdx? j idx = some (e j)) (i : s.Idx) (hi : ∀ j, e j ≠ i) :
    Host.scatter d (fun _ b => b) x idx upd i = x i := by
  rw [scatter_eq d x idx upd e h]
  exact fold_miss (fun n => e (u.rowMajor.symm n)) (fun n => upd (u.rowMajor.symm n)) i _ x (fun n _ => hi _)

/-- Where an update lands, from its place on each axis. -/
theorem resultIdx_of (d : ScatterDims s si u) (j : u.Idx) (idx : IVec si w) (i : s.Idx)
    (h : ∀ a, d.start j idx a + d.window j a = (i a).val) : d.resultIdx? j idx = some i := by
  have h' : ∀ a, 0 ≤ d.start j idx a + d.window j a ∧ d.start j idx a + d.window j a < s.size a := fun a => by
    rw [h a]; have := (i a).isLt; omega
  unfold ScatterDims.resultIdx?
  rw [dif_pos h']
  refine congrArg some (funext fun a => Fin.ext ?_)
  show (d.start j idx a + d.window j a).toNat = (i a).val
  rw [h a]; exact Int.toNat_natCast _

open Cert.OddInIdeal in
/-- Four columns written at column `p` of the 256-column array. -/
theorem cols_idx (p : Fin 253) (idx : IVec S1 32) (hp : ∀ k, (idx k).toInt = p.val) (j : S1024x4.Idx) :
    scatter_S1024x256_S1_S1024x4_01_n_1_0.resultIdx? j idx
      = some (ix2 (⟨(j 0).val, (j 0).isLt⟩ : Fin 1024) (⟨p.val + (j 1).val, by have : (j 1).val < 4 := (j 1).isLt; omega⟩ : Fin 256)) := by
  refine resultIdx_of _ _ _ _ fun a => ?_
  fin_cases a
  · have h1 : scatter_S1024x256_S1_S1024x4_01_n_1_0.start j idx 0 = 0 := rfl
    have h2 : scatter_S1024x256_S1_S1024x4_01_n_1_0.window j 0 = (j 0).val := rfl
    show scatter_S1024x256_S1_S1024x4_01_n_1_0.start j idx 0 + (scatter_S1024x256_S1_S1024x4_01_n_1_0.window j 0 : Nat) = ((j 0).val : Int)
    rw [h1, h2]; omega
  · have h1 : scatter_S1024x256_S1_S1024x4_01_n_1_0.start j idx 1 = p.val := hp _
    have h2 : scatter_S1024x256_S1_S1024x4_01_n_1_0.window j 1 = (j 1).val := rfl
    show scatter_S1024x256_S1_S1024x4_01_n_1_0.start j idx 1 + (scatter_S1024x256_S1_S1024x4_01_n_1_0.window j 1 : Nat) = ((p.val + (j 1).val : Nat) : Int)
    rw [h1, h2]; omega

open Cert.OddInIdeal in
/-- Four numbers written at column `p` of the one-row array. -/
theorem row_idx (p : Fin 253) (idx : IVec S2 32) (h0 : (idx (ix1 0)).toInt = 0) (hp : (idx (ix1 1)).toInt = p.val) (j : S4.Idx) :
    scatter_S1x256_S2_S4_0_0_01_0.resultIdx? j idx
      = some (ix2 (0 : Fin 1) (⟨p.val + (j 0).val, by have : (j 0).val < 4 := (j 0).isLt; omega⟩ : Fin 256)) := by
  refine resultIdx_of _ _ _ _ fun a => ?_
  fin_cases a
  · have h1 : scatter_S1x256_S2_S4_0_0_01_0.start j idx 0 = 0 := by
      refine Eq.trans ?_ h0
      show (idx _).toInt = (idx _).toInt
      refine congrArg (fun k => (idx k).toInt) (funext fun b => ?_)
      fin_cases b; rfl
    have h2 : scatter_S1x256_S2_S4_0_0_01_0.window j 0 = 0 := rfl
    show scatter_S1x256_S2_S4_0_0_01_0.start j idx 0 + (scatter_S1x256_S2_S4_0_0_01_0.window j 0 : Nat) = (0 : Int)
    rw [h1, h2]; omega
  · have h1 : scatter_S1x256_S2_S4_0_0_01_0.start j idx 1 = p.val := by
      refine Eq.trans ?_ hp
      show (idx _).toInt = (idx _).toInt
      refine congrArg (fun k => (idx k).toInt) (funext fun b => ?_)
      fin_cases b; rfl
    have h2 : scatter_S1x256_S2_S4_0_0_01_0.window j 1 = (j 0).val := rfl
    show scatter_S1x256_S2_S4_0_0_01_0.start j idx 1 + (scatter_S1x256_S2_S4_0_0_01_0.window j 1 : Nat) = ((p.val + (j 0).val : Nat) : Int)
    rw [h1, h2]; omega

open Cert.OddInIdeal in
/-- The two blocks of four columns, at an element: the first at column 0, the second at column 128, the array `x` elsewhere. -/
theorem cols_apply {α : Type} (x : S1024x256.Idx → α) (i0 i1 : IVec S1 32) (h0 : ∀ k, (i0 k).toInt = 0) (h1 : ∀ k, (i1 k).toInt = 128)
    (u0 u1 : S1024x4.Idx → α) (k : Fin 1024) (n : Fin 256) :
    Host.scatter scatter_S1024x256_S1_S1024x4_01_n_1_0 (fun _ b => b) (Host.scatter scatter_S1024x256_S1_S1024x4_01_n_1_0 (fun _ b => b) x i0 u0) i1 u1
        (ix2 k n)
      = if h : n.val < 4 then u0 (ix2 k ⟨n.val, h⟩)
        else if h : 128 ≤ n.val ∧ n.val < 132 then u1 (ix2 k ⟨n.val - 128, by omega⟩) else x (ix2 k n) := by
  have e0 := cols_idx 0 i0 h0
  have e1 := cols_idx 128 i1 h1
  have inj : ∀ p : Fin 253, Function.Injective (fun j : S1024x4.Idx => (ix2 (⟨(j 0).val, (j 0).isLt⟩ : Fin 1024)
      (⟨p.val + (j 1).val, by have : (j 1).val < 4 := (j 1).isLt; omega⟩ : Fin 256) : S1024x256.Idx)) := by
    intro p a b hab
    have ha := congrArg Fin.val (congrFun hab 0)
    have hb := congrArg Fin.val (congrFun hab 1)
    funext c
    fin_cases c
    · exact Fin.ext ha
    · refine Fin.ext ?_
      have : p.val + (a 1).val = p.val + (b 1).val := hb
      show (a 1).val = (b 1).val
      omega
  by_cases hA : n.val < 4
  · rw [dif_pos hA, scatter_miss _ _ _ _ _ e1 _ (fun j hj => by
      have hb : 128 + (j 1).val = n.val := congrArg Fin.val (congrFun hj 1)
      omega)]
    have := scatter_hit _ x i0 u0 _ (inj 0) e0 (ix2 k ⟨n.val, hA⟩)
    refine Eq.trans (congrArg _ ?_) this
    funext c; fin_cases c
    · rfl
    · exact Fin.ext (by show n.val = 0 + n.val; omega)
  · rw [dif_neg hA]
    by_cases hB : 128 ≤ n.val ∧ n.val < 132
    · rw [dif_pos hB]
      have := scatter_hit _ (Host.scatter scatter_S1024x256_S1_S1024x4_01_n_1_0 (fun _ b => b) x i0 u0) i1 u1 _ (inj 128) e1 (ix2 k ⟨n.val - 128, by omega⟩)
      refine Eq.trans (congrArg _ ?_) this
      funext c; fin_cases c
      · rfl
      · exact Fin.ext (by show n.val = 128 + (n.val - 128); omega)
    · rw [dif_neg hB, scatter_miss _ _ _ _ _ e1 _ (fun j hj => by
        have hb : 128 + (j 1).val = n.val := congrArg Fin.val (congrFun hj 1)
        have : (j 1).val < 4 := (j 1).isLt
        omega), scatter_miss _ _ _ _ _ e0 _ (fun j hj => by
        have hb : 0 + (j 1).val = n.val := congrArg Fin.val (congrFun hj 1)
        have : (j 1).val < 4 := (j 1).isLt
        omega)]

open Cert.OddInIdeal in
/-- The two runs of four numbers, at an element: the first at column 0, the second at column 128, the array `x` elsewhere. -/
theorem row_apply {α : Type} (x : S1x256.Idx → α) (i0 i1 : IVec S2 32) (h0 : (i0 (ix1 0)).toInt = 0) (h0' : (i0 (ix1 1)).toInt = 0)
    (h1 : (i1 (ix1 0)).toInt = 0) (h1' : (i1 (ix1 1)).toInt = 128)
    (u0 u1 : S4.Idx → α) (n : Fin 256) :
    Host.scatter scatter_S1x256_S2_S4_0_0_01_0 (fun _ b => b) (Host.scatter scatter_S1x256_S2_S4_0_0_01_0 (fun _ b => b) x i0 u0) i1 u1
        (ix2 0 n)
      = if h : n.val < 4 then u0 (ix1 ⟨n.val, h⟩)
        else if h : 128 ≤ n.val ∧ n.val < 132 then u1 (ix1 ⟨n.val - 128, by omega⟩) else x (ix2 0 n) := by
  have e0 := row_idx 0 i0 h0 h0'
  have e1 := row_idx 128 i1 h1 h1'
  have inj : ∀ p : Fin 253, Function.Injective (fun j : S4.Idx => (ix2 (0 : Fin 1)
      (⟨p.val + (j 0).val, by have : (j 0).val < 4 := (j 0).isLt; omega⟩ : Fin 256) : S1x256.Idx)) := by
    intro p a b hab
    have hb : p.val + (a 0).val = p.val + (b 0).val := congrArg Fin.val (congrFun hab 1)
    funext c
    fin_cases c
    refine Fin.ext ?_
    show (a 0).val = (b 0).val
    omega
  by_cases hA : n.val < 4
  · rw [dif_pos hA, scatter_miss _ _ _ _ _ e1 _ (fun j hj => by
      have hb : 128 + (j 0).val = n.val := congrArg Fin.val (congrFun hj 1)
      omega)]
    have := scatter_hit _ x i0 u0 _ (inj 0) e0 (ix1 ⟨n.val, hA⟩)
    refine Eq.trans (congrArg _ ?_) this
    funext c; fin_cases c
    · rfl
    · exact Fin.ext (by show n.val = 0 + n.val; omega)
  · rw [dif_neg hA]
    by_cases hB : 128 ≤ n.val ∧ n.val < 132
    · rw [dif_pos hB]
      have := scatter_hit _ (Host.scatter scatter_S1x256_S2_S4_0_0_01_0 (fun _ b => b) x i0 u0) i1 u1 _ (inj 128) e1 (ix1 ⟨n.val - 128, by omega⟩)
      refine Eq.trans (congrArg _ ?_) this
      funext c; fin_cases c
      · rfl
      · exact Fin.ext (by show n.val = 128 + (n.val - 128); omega)
    · rw [dif_neg hB, scatter_miss _ _ _ _ _ e1 _ (fun j hj => by
        have hb : 128 + (j 0).val = n.val := congrArg Fin.val (congrFun hj 1)
        have : (j 0).val < 4 := (j 0).isLt
        omega), scatter_miss _ _ _ _ _ e0 _ (fun j hj => by
        have hb : 0 + (j 0).val = n.val := congrArg Fin.val (congrFun hj 1)
        have : (j 0).val < 4 := (j 0).isLt
        omega)]

end Cert.Proof.Scatter
end
-- ==== Proof.OddIn.Value.lean ====
module

public import proofs.«01_k».proof.Proof.Gen.OddInIdeal.Value
public import proofs.«01_k».proof.Proof.Gen.OddInRefIdeal.Run
public import proofs.«01_k».proof.Proof.OddIn.Scatter
public import proofs.«01_k».proof.Proof.Ffn.Row
public import Idealize.ShloMosaic.Lib.Pipeline.ValueKit
public import Idealize.ShloMosaic.Lib.Pipeline.ReadBack
public import Idealize.ShloMosaic.Lib.Pipeline.ValueKit.Point
public import Idealize.ShloMosaic.Lib.Pointwise
public import Idealize.ShloMosaic.Lib.Claim
public import Idealize.ShloMosaic.Lib.Tactic.CleanTypes

/-!
The second block's input projection: the three arrays that the kernel leaves are the ones that the reference computes.
-/

@[expose] public section

set_option maxRecDepth 16384

noncomputable section

namespace Cert.Proof.OddInIdeal

open Cert.OddInIdeal Cert.OddInIdeal.Gen Idealize.ShloMosaic Idealize.ShloMosaic.TcCoe Idealize.SL.Sem
open Idealize.ShloMosaic.Pipeline (Dat)

/-- The normalised row `r` of the input. -/
def row (X : Vec Ideal S16384x1024 .f32) (M : Vec Ideal S2x9x1024 .f32) (G : Vec Ideal S1024 .f32) (r : Fin 16384) : Fin 1024 → EReal :=
  have b : Fin 2 := ⟨r.val / 8192, by omega⟩
  FfnRow.normed (fun k => X (ix2 r k)) (fun k => M (ix3 b 3 k)) (fun k => M (ix3 b 4 k)) (fun k => G (ix1 k))

/-- The queries, keys, values and output gates, as one function of the argument arrays. -/
def specMain (X : Vec Ideal S16384x1024 .f32) (M : Vec Ideal S2x9x1024 .f32) (G : Vec Ideal S1024 .f32) (W : Vec Ideal S1024x3080 .f32) :
    Vec Ideal S16384x3072 .bf16 := fun j =>
  ∑ k : Fin 1024, row X M G (j 0) k * W (ix2 k (⟨(j 1).val, by have : (j 1).val < 3072 := (j 1).isLt; omega⟩ : Fin 3080))

/-- The input gates (`q = 0`) or the forget gates (`q = 1`): four lanes of numbers, then zeros. -/
def specGate (q : Fin 2) (X : Vec Ideal S16384x1024 .f32) (M : Vec Ideal S2x9x1024 .f32) (G : Vec Ideal S1024 .f32) (W : Vec Ideal S1024x3080 .f32)
    (B : Vec Ideal S2x4 .f32) : Vec Ideal S16384x128 .f32 := fun j =>
  if h : (j 1).val < 4 then
    ∑ k : Fin 1024, row X M G (j 0) k * W (ix2 k (⟨3072 + 4 * q.val + (j 1).val, by omega⟩ : Fin 3080)) + B (ix2 q (⟨(j 1).val, h⟩ : Fin 4))
  else (0 : EReal)

/-- The reference's run: its results are `specMain` and the two `specGate` of its arguments, which end unchanged. -/
theorem ref_run (m : (ℓ : Loc Cert.OddInRefIdeal.nD Cert.OddInRefIdeal.τ Cert.OddInRefIdeal.sig) → Buf (Elt Ideal) ℓ) (ρ : Dev Cert.OddInRefIdeal.nD → PrngReg) :
    θ_run Cert.OddInRefIdeal.defs (onTc (τ := Cert.OddInRefIdeal.τ) (Cert.OddInRefIdeal.main (F := Ideal))) ⟨m, fun _ => 0, ρ⟩ (fun r => ∀ c : Dev Cert.OddInRefIdeal.nD,
      r.2.mem ((c.tc : Thread Cert.OddInRefIdeal.nD Cert.OddInRefIdeal.τ).loc Cert.OddInRefIdeal.main_v41) = specMain (m ((c.tc : Thread Cert.OddInRefIdeal.nD Cert.OddInRefIdeal.τ).loc Cert.OddInRefIdeal.main_arg0)) (m ((c.tc : Thread Cert.OddInRefIdeal.nD Cert.OddInRefIdeal.τ).loc Cert.OddInRefIdeal.main_arg1)) (m ((c.tc : Thread Cert.OddInRefIdeal.nD Cert.OddInRefIdeal.τ).loc Cert.OddInRefIdeal.main_arg2)) (m ((c.tc : Thread Cert.OddInRefIdeal.nD Cert.OddInRefIdeal.τ).loc Cert.OddInRefIdeal.main_arg3))
      ∧ r.2.mem ((c.tc : Thread Cert.OddInRefIdeal.nD Cert.OddInRefIdeal.τ).loc Cert.OddInRefIdeal.main_v42) = specGate 0 (m ((c.tc : Thread Cert.OddInRefIdeal.nD Cert.OddInRefIdeal.τ).loc Cert.OddInRefIdeal.main_arg0)) (m ((c.tc : Thread Cert.OddInRefIdeal.nD Cert.OddInRefIdeal.τ).loc Cert.OddInRefIdeal.main_arg1)) (m ((c.tc : Thread Cert.OddInRefIdeal.nD Cert.OddInRefIdeal.τ).loc Cert.OddInRefIdeal.main_arg2))
          (m ((c.tc : Thread Cert.OddInRefIdeal.nD Cert.OddInRefIdeal.τ).loc Cert.OddInRefIdeal.main_arg3)) (m ((c.tc : Thread Cert.OddInRefIdeal.nD Cert.OddInRefIdeal.τ).loc Cert.OddInRefIdeal.main_arg4))
      ∧ r.2.mem ((c.tc : Thread Cert.OddInRefIdeal.nD Cert.OddInRefIdeal.τ).loc Cert.OddInRefIdeal.main_v43) = specGate 1 (m ((c.tc : Thread Cert.OddInRefIdeal.nD Cert.OddInRefIdeal.τ).loc Cert.OddInRefIdeal.main_arg0)) (m ((c.tc : Thread Cert.OddInRefIdeal.nD Cert.OddInRefIdeal.τ).loc Cert.OddInRefIdeal.main_arg1)) (m ((c.tc : Thread Cert.OddInRefIdeal.nD Cert.OddInRefIdeal.τ).loc Cert.OddInRefIdeal.main_arg2))
          (m ((c.tc : Thread Cert.OddInRefIdeal.nD Cert.OddInRefIdeal.τ).loc Cert.OddInRefIdeal.main_arg3)) (m ((c.tc : Thread Cert.OddInRefIdeal.nD Cert.OddInRefIdeal.τ).loc Cert.OddInRefIdeal.main_arg4))
      ∧ r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4)) := by
  refine (θ_run _ _ _).mono (fun r h c => ⟨(h c).1.trans ?_, (h c).2.1.trans ?_, (h c).2.2.1.trans ?_, (h c).2.2.2⟩) (Cert.OddInRefIdeal.Value.run m ρ)
  · clean_types
    funext j
    idx_vars j
    pointwise [specMain, row, FfnRow.normed, FfnRow.meanSq]
  · clean_types
    funext j
    idx_vars j
    pointwise [specGate, row, FfnRow.normed, FfnRow.meanSq]
    rw [show (FloatOps.sitofp .f32 0#32 : Ideal .f32) = (0 : EReal) from by show (((0 : Int) : ℝ) : EReal) = 0; simp]
  · clean_types
    funext j
    idx_vars j
    pointwise [specGate, row, FfnRow.normed, FfnRow.meanSq]
    rw [show (FloatOps.sitofp .f32 0#32 : Ideal .f32) = (0 : EReal) from by show (((0 : Int) : ℝ) : EReal) = 0; simp]

/-- The normalised block at an element. -/
theorem pay4_apply (x0 : Vec Ideal S512x1024 .f32) (x1 : Vec Ideal S1x9x1024 .f32) (x2 : Vec Ideal S1x1024 .f32)
    (x3 : Vec Ideal S1024x3072 .bf16) (x4 : Vec Ideal S1024x256 .bf16) (x5 : Vec Ideal S1x256 .f32) (r : Fin 512) (k : Fin 1024) :
    k0_pay4 x1 x0 x2 (ix2 r k) = FfnRow.normed (fun k => x0 (ix2 r k)) (fun k => x1 (ix3 0 3 k)) (fun k => x1 (ix3 0 4 k)) (fun k => x2 (ix2 0 k)) k := by
  pointwise [k0_pay4, FfnRow.normed, FfnRow.meanSq]

/-- The first output block at an element. -/
theorem out6_apply (x0 : Vec Ideal S512x1024 .f32) (x1 : Vec Ideal S1x9x1024 .f32) (x2 : Vec Ideal S1x1024 .f32)
    (x3 : Vec Ideal S1024x3072 .bf16) (x4 : Vec Ideal S1024x256 .bf16) (x5 : Vec Ideal S1x256 .f32) (r : Fin 512) (d : Fin 3072) :
    out0_6 x0 x1 x2 x3 x4 x5 (ix2 r d) = ∑ k : Fin 1024, FfnRow.normed (fun k => x0 (ix2 r k)) (fun k => x1 (ix3 0 3 k)) (fun k => x1 (ix3 0 4 k)) (fun k => x2 (ix2 0 k)) k * x3 (ix2 k d) := by
  unfold out0_6
  frame_out
  simp only [← pay4_apply x0 x1 x2 x3 x4 x5]
  pointwise [k0_pay5]

/-- The second output block at an element. -/
theorem out7_apply (x0 : Vec Ideal S512x1024 .f32) (x1 : Vec Ideal S1x9x1024 .f32) (x2 : Vec Ideal S1x1024 .f32)
    (x3 : Vec Ideal S1024x3072 .bf16) (x4 : Vec Ideal S1024x256 .bf16) (x5 : Vec Ideal S1x256 .f32) (r : Fin 512) (d : Fin 128) :
    out0_7 x0 x1 x2 x3 x4 x5 (ix2 r d) = ∑ k : Fin 1024, FfnRow.normed (fun k => x0 (ix2 r k)) (fun k => x1 (ix3 0 3 k)) (fun k => x1 (ix3 0 4 k)) (fun k => x2 (ix2 0 k)) k * x4 (ix2 k (⟨d.val, by omega⟩ : Fin 256)) + x5 (ix2 0 (⟨d.val, by omega⟩ : Fin 256)) := by
  unfold out0_7 k0_pay8 k0_pay9
  frame_out
  simp only [← pay4_apply x0 x1 x2 x3 x4 x5]
  pointwise [k0_pay1, k0_pay2, k0_pay6, k0_pay7]

/-- The third output block at an element. -/
theorem out8_apply (x0 : Vec Ideal S512x1024 .f32) (x1 : Vec Ideal S1x9x1024 .f32) (x2 : Vec Ideal S1x1024 .f32)
    (x3 : Vec Ideal S1024x3072 .bf16) (x4 : Vec Ideal S1024x256 .bf16) (x5 : Vec Ideal S1x256 .f32) (r : Fin 512) (d : Fin 128) :
    out0_8 x0 x1 x2 x3 x4 x5 (ix2 r d) = ∑ k : Fin 1024, FfnRow.normed (fun k => x0 (ix2 r k)) (fun k => x1 (ix3 0 3 k)) (fun k => x1 (ix3 0 4 k)) (fun k => x2 (ix2 0 k)) k * x4 (ix2 k (⟨128 + d.val, by omega⟩ : Fin 256)) + x5 (ix2 0 (⟨128 + d.val, by omega⟩ : Fin 256)) := by
  unfold out0_8 k0_pay8 k0_pay9
  frame_out
  simp only [← pay4_apply x0 x1 x2 x3 x4 x5]
  pointwise [k0_pay1, k0_pay3, k0_pay6, k0_pay7]

/-- The blocks' places: which block of each array grid point `t` reads and writes. -/
theorem idx : ∀ t : Fin cfg0.N, win0_0.index t = ![t.val, 0] ∧ win0_1.index t = ![t.val / 16, 0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val / 16, 0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0])

variable (m : (ℓ : Loc nD τ sig) → Buf (Elt Ideal) ℓ) (c : Dev nD) (t : Fin cfg0.N)

/-- The padded gate weights, at an element. -/
theorem wgate (k : Fin 1024) (n : Fin 256) :
    iblk m c 4 t (ix2 k n) = (if h : n.val < 4 then m ((c.tc : Thread nD τ).loc main_arg3) (ix2 k (⟨3072 + n.val, by omega⟩ : Fin 3080))
      else if h : 128 ≤ n.val ∧ n.val < 132 then m ((c.tc : Thread nD τ).loc main_arg3) (ix2 k (⟨3076 + (n.val - 128), by omega⟩ : Fin 3080)) else (0 : EReal)) := by
  obtain ⟨e0, e1, e2, e3, e4, e5, e6, e7, e8⟩ := idx t
  have e : (win0_4.blk t).view.emb (ix2 k n) = ix2 k n := by blk_ext [idx t]
  show V m c main_v23 ((win0_4.blk t).view.emb (ix2 k n)) = _
  rw [e]
  entry_read
  have tr : ∀ v : FVec Ideal S1024x256 .f32, truncf .bf16 v bitsLt_bf16_f32 (ix2 k n) = v (ix2 k n) := fun v => rfl
  rw [tr]
  rw [Scatter.cols_apply _ _ _ (fun _ => rfl) (fun _ => rfl)]
  pointwise

/-- The padded gate biases, at an element. -/
theorem bgate (n : Fin 256) :
    iblk m c 5 t (ix2 0 n) = (if h : n.val < 4 then m ((c.tc : Thread nD τ).loc main_arg4) (ix2 0 (⟨n.val, by omega⟩ : Fin 4))
      else if h : 128 ≤ n.val ∧ n.val < 132 then m ((c.tc : Thread nD τ).loc main_arg4) (ix2 1 (⟨n.val - 128, by omega⟩ : Fin 4)) else (0 : EReal)) := by
  obtain ⟨e0, e1, e2, e3, e4, e5, e6, e7, e8⟩ := idx t
  have e : (win0_5.blk t).view.emb (ix2 0 n) = ix2 0 n := by blk_ext [idx t]
  show V m c main_v19 ((win0_5.blk t).view.emb (ix2 0 n)) = _
  rw [e]
  entry_read
  rw [Scatter.row_apply _ _ _ rfl rfl rfl rfl]
  pointwise

/-- The main weights, at an element. -/
theorem wmain (k : Fin 1024) (n : Fin 3072) :
    iblk m c 3 t (ix2 k n) = m ((c.tc : Thread nD τ).loc main_arg3) (ix2 k (⟨n.val, by omega⟩ : Fin 3080)) := by
  obtain ⟨e0, e1, e2, e3, e4, e5, e6, e7, e8⟩ := idx t
  have e : (win0_3.blk t).view.emb (ix2 k n) = ix2 k n := by blk_ext [idx t]
  show V m c main_v22 ((win0_3.blk t).view.emb (ix2 k n)) = _
  rw [e]
  entry_read
  pointwise

/-- The normalised block of grid point `t` holds rows `512 t …` of the whole input. -/
theorem normed_eq (r : Fin 512) (k : Fin 1024) :
    FfnRow.normed (fun k => iblk m c 0 t (ix2 r k)) (fun k => iblk m c 1 t (ix3 0 3 k)) (fun k => iblk m c 1 t (ix3 0 4 k))
        (fun k => iblk m c 2 t (ix2 0 k)) k
      = row (m ((c.tc : Thread nD τ).loc main_arg0)) (m ((c.tc : Thread nD τ).loc main_arg1)) (m ((c.tc : Thread nD τ).loc main_arg2))
          ⟨t.val * 512 + r.val, by have : t.val < 32 := t.isLt; omega⟩ k := by
  obtain ⟨e0, e1, e2, e3, e4, e5, e6, e7, e8⟩ := idx t
  have ht : t.val < 32 := t.isLt
  have h0 : ∀ k : Fin 1024, iblk m c 0 t (ix2 r k) = m ((c.tc : Thread nD τ).loc main_arg0) (ix2 ⟨t.val * 512 + r.val, by omega⟩ k) := by
    intro k; blk_ext [iblk, V, idx t]
  have h1 : ∀ (a : Fin 9) (k : Fin 1024), iblk m c 1 t (ix3 0 a k)
      = m ((c.tc : Thread nD τ).loc main_arg1) (ix3 ⟨(t.val * 512 + r.val) / 8192, by omega⟩ a k) := by
    intro a k; blk_ext [iblk, V, idx t]
  have h2 : ∀ k : Fin 1024, iblk m c 2 t (ix2 0 k) = m ((c.tc : Thread nD τ).loc main_arg2) (ix1 k) := by
    intro k
    have e : (win0_2.blk t).view.emb (ix2 0 k) = ix2 0 k := by blk_ext [idx t]
    show V m c main_v20 ((win0_2.blk t).view.emb (ix2 0 k)) = _
    rw [e]
    entry_read
    pointwise
  simp only [h0, h1, h2]
  rfl

/-- The first array the kernel leaves is `specMain` of its arguments. -/
theorem kernel_eq6 :
    (dats m 0 c).arrAt 6 cfg0.N
      = specMain (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  obtain ⟨r, d, rfl⟩ : ∃ (r : Fin 512) (d : Fin 3072), y = ix2 r d := ⟨y 0, y 1, eq_ix2 y⟩
  have ht : t.val < 32 := t.isLt
  have o : (win0_6.blk t).view.emb (ix2 r d) = ix2 ⟨t.val * 512 + r.val, by omega⟩ d := by
    obtain ⟨e0, e1, e2, e3, e4, e5, e6, e7, e8⟩ := idx t
    blk_ext [idx t]
  rw [after0_6, out6_apply, o]
  simp only [normed_eq m c t r]
  simp only [wmain m c t]
  rfl

/-- The second array the kernel leaves: the input gates. -/
theorem kernel_eq7 :
    (dats m 0 c).arrAt 7 cfg0.N
      = specGate 0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  obtain ⟨r, d, rfl⟩ : ∃ (r : Fin 512) (d : Fin 128), y = ix2 r d := ⟨y 0, y 1, eq_ix2 y⟩
  have ht : t.val < 32 := t.isLt
  have o : (win0_7.blk t).view.emb (ix2 r d) = ix2 ⟨t.val * 512 + r.val, by omega⟩ d := by
    obtain ⟨e0, e1, e2, e3, e4, e5, e6, e7, e8⟩ := idx t
    blk_ext [idx t]
  rw [after0_7, out7_apply, o]
  simp only [normed_eq m c t r]
  simp only [wgate m c t, bgate m c t]
  by_cases h : d.val < 4
  · rw [dif_pos h]
    simp only [dif_pos h]
    unfold specGate
    refine Eq.trans ?_ (dif_pos h).symm
    rfl
  · have h' : ¬ (128 ≤ d.val ∧ d.val < 132) := by omega
    simp only [dif_neg h, dif_neg h']
    unfold specGate
    refine Eq.trans ?_ (dif_neg h).symm
    simp

/-- The third array the kernel leaves: the forget gates. -/
theorem kernel_eq8 :
    (dats m 0 c).arrAt 8 cfg0.N
      = specGate 1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  obtain ⟨r, d, rfl⟩ : ∃ (r : Fin 512) (d : Fin 128), y = ix2 r d := ⟨y 0, y 1, eq_ix2 y⟩
  have ht : t.val < 32 := t.isLt
  have o : (win0_8.blk t).view.emb (ix2 r d) = ix2 ⟨t.val * 512 + r.val, by omega⟩ d := by
    obtain ⟨e0, e1, e2, e3, e4, e5, e6, e7, e8⟩ := idx t
    blk_ext [idx t]
  rw [after0_8, out8_apply, o]
  simp only [normed_eq m c t r]
  simp only [wgate m c t, bgate m c t]
  have h0 : ¬ (128 + d.val < 4) := by omega
  by_cases h : d.val < 4
  · have h1 : 128 ≤ 128 + d.val ∧ 128 + d.val < 132 := by omega
    simp only [dif_neg h0, dif_pos h1]
    unfold specGate
    refine Eq.trans ?_ (dif_pos h).symm
    have e : ∀ k : Fin 1024, (ix2 k (⟨3076 + (128 + d.val - 128), by omega⟩ : Fin 3080) : S1024x3080.Idx)
        = ix2 k (⟨3072 + 4 * (1 : Fin 2).val + d.val, by have : (1 : Fin 2).val = 1 := rfl; omega⟩ : Fin 3080) := fun k =>
      congrArg (fun n => ix2 k n) (Fin.ext (by show 3076 + (128 + d.val - 128) = 3072 + 4 * 1 + d.val; omega))
    have e' : (ix2 1 (⟨128 + d.val - 128, by omega⟩ : Fin 4) : S2x4.Idx) = ix2 1 (⟨d.val, h⟩ : Fin 4) :=
      congrArg (fun n => ix2 (1 : Fin 2) n) (Fin.ext (by show 128 + d.val - 128 = d.val; omega))
    simp only [e, e']
    rfl
  · have h' : ¬ (128 ≤ 128 + d.val ∧ 128 + d.val < 132) := by omega
    simp only [dif_neg h0, dif_neg h']
    unfold specGate
    refine Eq.trans ?_ (dif_neg h).symm
    simp

end Cert.Proof.OddInIdeal
end
-- ==== Proof.EvenIn.Spec.lean ====
module

public import proofs.«01_k».proof.Proof.Gen.EvenInRefIdeal.Run
public import proofs.«01_k».proof.Proof.Gen.EvenInIdeal.Value
public import proofs.«01_k».proof.Proof.Ffn.Row
public import Idealize.ShloMosaic.Lib.Pointwise

/-!
The first block's input projection with its pooling, as plain functions of the argument arrays.
-/

@[expose] public section

set_option maxRecDepth 16384

noncomputable section

namespace Cert.Proof.EvenInIdeal

open Cert.EvenInIdeal Idealize.ShloMosaic

/-- The normalised row at place `i` of sequence `b`. -/
def row (X : Vec Ideal S16384x1024 .f32) (M : Vec Ideal S2x9x1024 .f32) (G : Vec Ideal S1024 .f32) (b : Fin 2) (i : Fin 8192) : Fin 1024 → EReal :=
  FfnRow.normed (fun k => X (ix2 (⟨b.val * 8192 + i.val, by omega⟩ : Fin 16384) k)) (fun k => M (ix3 b 3 k)) (fun k => M (ix3 b 4 k)) (fun k => G (ix1 k))

/-- Its projection. -/
def proj (X : Vec Ideal S16384x1024 .f32) (M : Vec Ideal S2x9x1024 .f32) (G : Vec Ideal S1024 .f32) (W : Vec Ideal S1024x2048 .f32)
    (b : Fin 2) (i : Fin 8192) (n : Fin 2048) : EReal :=
  ∑ k : Fin 1024, row X M G b i k * W (ix2 k n)

/-- The first 512 columns of the projection along a sequence, zero past its end. -/
def useq (X : Vec Ideal S16384x1024 .f32) (M : Vec Ideal S2x9x1024 .f32) (G : Vec Ideal S1024 .f32) (W : Vec Ideal S1024x2048 .f32)
    (b : Fin 2) (n : Fin 512) (i : ℕ) : EReal :=
  if h : i < 8192 then proj X M G W b ⟨i, h⟩ ⟨n.val, by omega⟩ else 0

/-- The sum of the `w` entries that end at place `i`, those before the start left out. -/
def wsum (f : ℕ → EReal) (w i : ℕ) : EReal := ∑ e ∈ Finset.range w, if e ≤ i then f (i - e) else 0

/-- The window's mean less the entry itself. -/
def pool (f : ℕ → EReal) (w i : ℕ) : EReal := Ideal.div (wsum f w i) (((min (i + 1) w : ℕ) : ℝ) : EReal) - f i

/-- The pooled columns: group `n / 128` takes a window of `2 ^ (n / 128 + 1)` places. -/
def specPool (X : Vec Ideal S16384x1024 .f32) (M : Vec Ideal S2x9x1024 .f32) (G : Vec Ideal S1024 .f32) (W : Vec Ideal S1024x2048 .f32)
    (P : Vec Ideal S4x128x128 .f32) (Q : Vec Ideal S512 .f32) (b : Fin 2) (i : Fin 8192) (n : Fin 512) : EReal :=
  (∑ k : Fin 128, pool (useq X M G W b ⟨128 * (n.val / 128) + k.val, by omega⟩) (2 ^ (n.val / 128 + 1)) i.val
      * P (ix3 (⟨n.val / 128, by omega⟩ : Fin 4) k (⟨n.val % 128, by omega⟩ : Fin 128))) * Q (ix1 n)

/-- The queries, keys and values, the queries scaled. -/
def specQkv (X : Vec Ideal S16384x1024 .f32) (M : Vec Ideal S2x9x1024 .f32) (G : Vec Ideal S1024 .f32) (W : Vec Ideal S1024x2048 .f32)
    (b : Fin 2) (i : Fin 8192) (n : Fin 1536) : EReal :=
  if n.val < 512 then proj X M G W b i ⟨512 + n.val, by omega⟩ * Ideal.ofBits .f32 0x3E000000#32 else proj X M G W b i ⟨512 + n.val, by omega⟩

end Cert.Proof.EvenInIdeal
end
-- ==== Proof.EvenIn.Window.lean ====
module

public import proofs.«01_k».proof.Proof.EvenIn.Spec

/-!
Sums of windows: as a difference of running sums, and by doubling; and the count of a window's places.
-/

@[expose] public section

set_option maxRecDepth 16384

noncomputable section

namespace Cert.Proof.EvenInIdeal

open Idealize.ShloMosaic

/-- A finite sum of reals is real. -/
theorem real_sum {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨p, hp⟩ := h a (Finset.mem_insert_self _ _)
    obtain ⟨q, hq⟩ := ih fun i hi => h i (Finset.mem_insert_of_mem hi)
    exact ⟨p + q, by rw [Finset.sum_insert ha, hp, hq, EReal.coe_add]⟩

/-- A window that starts at or after the beginning is the last part of a running sum. -/
theorem prefix_split (f : ℕ → EReal) (w i : ℕ) (h : w ≤ i) :
    ∑ k ∈ Finset.range (i + 1), f k = wsum f w i + ∑ k ∈ Finset.range (i - w + 1), f k := by
  obtain ⟨d, rfl⟩ : ∃ d, i = d + w := ⟨i - w, by omega⟩
  rw [show d + w + 1 = (d + 1) + w by omega, Finset.sum_range_add, add_comm, show d + w - w = d by omega]
  congr 1
  unfold wsum
  rw [← Finset.sum_range_reflect]
  refine Finset.sum_congr rfl fun e he => ?_
  have := Finset.mem_range.1 he
  rw [if_pos (by omega)]
  congr 1
  omega

/-- A window that would start before the beginning is the whole running sum. -/
theorem prefix_whole (f : ℕ → EReal) (w i : ℕ) (h : ¬ w ≤ i) : ∑ k ∈ Finset.range (i + 1), f k = wsum f w i := by
  obtain ⟨d, rfl⟩ : ∃ d, w = (i + 1) + d := ⟨w - (i + 1), by omega⟩
  unfold wsum
  rw [Finset.sum_range_add (fun e => if e ≤ i then f (i - e) else 0) (i + 1) d, Finset.sum_eq_zero (s := Finset.range d) (fun e _ => if_neg (by omega)), add_zero, ← Finset.sum_range_reflect]
  refine Finset.sum_congr rfl fun e he => ?_
  have := Finset.mem_range.1 he
  rw [if_pos (by omega)]
  congr 1

/-- Of real entries, the difference of two running sums is the window's sum. -/
theorem sub_prefix (f : ℕ → EReal) (hf : ∀ i, ∃ r : ℝ, f i = (r : EReal)) (w i : ℕ) :
    (∑ k ∈ Finset.range (i + 1), f k) - (if w ≤ i then ∑ k ∈ Finset.range (i - w + 1), f k else 0) = wsum f w i := by
  by_cases h : w ≤ i
  · rw [if_pos h, prefix_split f w i h]
    obtain ⟨r, hr⟩ := real_sum (Finset.range (i - w + 1)) f fun k _ => hf k
    rw [hr]
    exact EReal.add_sub_cancel_right
  · rw [if_neg h, prefix_whole f w i h]
    simp

/-- A small word read signed. -/
theorem toInt_small (n : ℕ) (h : n < 2147483648) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- The number of places in a window, as the integer operations count it. -/
theorem count_eq (t w : ℕ) (ht : t < 8192) (hw : w < 8192) :
    (FloatOps.sitofp .f32 (IntOp.minsi (IntOp.addi (BitVec.ofNat 32 t) 1#32) (BitVec.ofNat 32 w)) : Ideal .f32) = (((min (t + 1) w : ℕ) : ℝ) : EReal) := by
  have e : IntOp.minsi (IntOp.addi (BitVec.ofNat 32 t) 1#32) (BitVec.ofNat 32 w) = BitVec.ofNat 32 (min (t + 1) w) := by
    have e1 : IntOp.addi (BitVec.ofNat 32 t) 1#32 = BitVec.ofNat 32 (t + 1) := (BitVec.ofNat_add t 1).symm
    rw [e1]
    unfold IntOp.minsi
    have a : (BitVec.ofNat 32 (t + 1)).toInt = ((t + 1 : ℕ) : ℤ) := toInt_small _ (by omega)
    have b : (BitVec.ofNat 32 w).toInt = (w : ℤ) := toInt_small _ (by omega)
    rw [BitVec.slt, a, b]
    by_cases h : t + 1 < w
    · rw [if_pos (by simp; omega), min_eq_left (by omega)]
    · rw [if_neg (by simp; omega), min_eq_right (by omega)]
  rw [e]
  have a : (BitVec.ofNat 32 (min (t + 1) w)).toInt = ((min (t + 1) w : ℕ) : ℤ) := toInt_small _ (by omega)
  show (((BitVec.ofNat 32 (min (t + 1) w)).toInt : ℝ) : EReal) = _
  rw [a]
  simp

/-- Two windows side by side. -/
theorem wsum_double (f : ℕ → EReal) (w i : ℕ) : wsum f (w + w) i = wsum f w i + (if w ≤ i then wsum f w (i - w) else 0) := by
  unfold wsum
  rw [Finset.sum_range_add]
  congr 1
  by_cases h : w ≤ i
  · rw [if_pos h]
    refine Finset.sum_congr rfl fun e _ => ?_
    by_cases h' : w + e ≤ i
    · rw [if_pos h', if_pos (by omega)]; congr 1; omega
    · rw [if_neg h', if_neg (by omega)]
  · rw [if_neg h]
    exact Finset.sum_eq_zero fun e _ => if_neg (by omega)

end Cert.Proof.EvenInIdeal
end
-- ==== Proof.EvenIn.Tile.lean ====
module

public import proofs.«01_k».proof.Proof.EvenIn.Window
public import Idealize.ShloMosaic.Lib.Pipeline.ValueKit
public import Idealize.ShloMosaic.Lib.Pipeline.ReadBack
public import Idealize.ShloMosaic.Lib.Pipeline.ValueKit.Point
public import Idealize.ShloMosaic.Lib.Claim
public import Idealize.ShloMosaic.Lib.Tactic.CleanTypes

/-!
One tile of the pooling kernel: the sums by doubling over the tile's rows with the sixteen rows before them in front,
the mean, the product with the group's weights and the scale.
-/

@[expose] public section

set_option maxRecDepth 16384

noncomputable section

namespace Cert.Proof.EvenInIdeal

open Cert.EvenInIdeal Cert.EvenInIdeal.Gen Idealize.ShloMosaic Idealize.ShloMosaic.TcCoe Idealize.SL.Sem

/-- A block plus itself moved down by some rows. -/
def dbl (s : BitVec 32) (v : FVec Ideal S528x128 .f32) : FVec Ideal S528x128 .f32 := addf v (dynamicRotate 0 s none v rotates_S528x128_d0)

/-- The four column groups of the lengthened tile. -/
def cols0 (v : FVec Ideal S528x512 .f32) : FVec Ideal S528x128 .f32 := extractStridedSlice S528x128 ![0, 0] v slices_S528x512_o0_0_S528x128
def cols1 (v : FVec Ideal S528x512 .f32) : FVec Ideal S528x128 .f32 := extractStridedSlice S528x128 ![0, 128] v slices_S528x512_o0_128_S528x128
def cols2 (v : FVec Ideal S528x512 .f32) : FVec Ideal S528x128 .f32 := extractStridedSlice S528x128 ![0, 256] v slices_S528x512_o0_256_S528x128
def cols3 (v : FVec Ideal S528x512 .f32) : FVec Ideal S528x128 .f32 := extractStridedSlice S528x128 ![0, 384] v slices_S528x512_o0_384_S528x128

/-- The mean of the window less the entry. -/
def meanLess (c : BitVec 32) (a : FVec Ideal S528x128 .f32) (us : FVec Ideal S512x128 .f32) (pos : IVec S512x1 32) : FVec Ideal S512x128 .bf16 :=
  truncf .bf16 (subf (divf (extractStridedSlice S512x128 ![16, 0] a slices_S528x128_o16_0_S512x128)
    (broadcastTo S512x128 (sitofp .f32 (minsi (addi pos (broadcast S512x1 1#32)) (broadcast S512x1 c)) : FVec Ideal S512x1 .f32) broadcasts_S512x1_S512x128)) us) bitsLt_bf16_f32

/-- The product with a group's weights, and the scale. -/
def mixed (p : FVec Ideal S512x128 .bf16) (w : Vec Ideal S1x128x128 .bf16) (q : Vec Ideal S1x128 .f32) : FVec Ideal S1x512x128 .bf16 := k0_pay1 p w q

theorem dbl1 (v : FVec Ideal S528x128 .f32) (i : ℕ) (h : i < 528) (hs : 1 ≤ i) (d : Fin 128) :
    dbl 1#32 v (ix2 ⟨i, h⟩ d) = v (ix2 ⟨i, h⟩ d) + v (ix2 ⟨i - 1, by omega⟩ d) := by
  pointwise [dbl]
  exact congrArg (fun n => v (ix2 ⟨i, h⟩ d) + v (ix2 n d)) (Fin.ext (by show (i + 528 - 1) % 528 = i - 1; omega))

theorem dbl2 (v : FVec Ideal S528x128 .f32) (i : ℕ) (h : i < 528) (hs : 2 ≤ i) (d : Fin 128) :
    dbl 2#32 v (ix2 ⟨i, h⟩ d) = v (ix2 ⟨i, h⟩ d) + v (ix2 ⟨i - 2, by omega⟩ d) := by
  pointwise [dbl]
  exact congrArg (fun n => v (ix2 ⟨i, h⟩ d) + v (ix2 n d)) (Fin.ext (by show (i + 528 - 2) % 528 = i - 2; omega))

theorem dbl4 (v : FVec Ideal S528x128 .f32) (i : ℕ) (h : i < 528) (hs : 4 ≤ i) (d : Fin 128) :
    dbl 4#32 v (ix2 ⟨i, h⟩ d) = v (ix2 ⟨i, h⟩ d) + v (ix2 ⟨i - 4, by omega⟩ d) := by
  pointwise [dbl]
  exact congrArg (fun n => v (ix2 ⟨i, h⟩ d) + v (ix2 n d)) (Fin.ext (by show (i + 528 - 4) % 528 = i - 4; omega))

theorem dbl8 (v : FVec Ideal S528x128 .f32) (i : ℕ) (h : i < 528) (hs : 8 ≤ i) (d : Fin 128) :
    dbl 8#32 v (ix2 ⟨i, h⟩ d) = v (ix2 ⟨i, h⟩ d) + v (ix2 ⟨i - 8, by omega⟩ d) := by
  pointwise [dbl]
  exact congrArg (fun n => v (ix2 ⟨i, h⟩ d) + v (ix2 n d)) (Fin.ext (by show (i + 528 - 8) % 528 = i - 8; omega))

/-- Where a block holds the sums of `w` rows of `f`, its double holds those of twice as many. -/
theorem double (f : ℕ → EReal) (a : FVec Ideal S528x128 .f32) (s : BitVec 32) (w : ℕ) (hw : 1 ≤ w) (d : Fin 128)
    (hs : ∀ (i : ℕ) (h : i < 528), w ≤ i → dbl s a (ix2 ⟨i, h⟩ d) = a (ix2 ⟨i, h⟩ d) + a (ix2 ⟨i - w, by omega⟩ d))
    (ha : ∀ (i : ℕ) (h : i < 528), w - 1 ≤ i → a (ix2 ⟨i, h⟩ d) = wsum f w i) (i : ℕ) (h : i < 528) (hi : w + w - 1 ≤ i) :
    dbl s a (ix2 ⟨i, h⟩ d) = wsum f (w + w) i := by
  rw [hs i h (by omega), ha i h (by omega), ha (i - w) (by omega) (by omega), wsum_double, if_pos (by omega)]

/-- A window of one place is the entry. -/
theorem wsum_one (f : ℕ → EReal) (i : ℕ) : wsum f 1 i = f i := by
  unfold wsum
  simp

theorem sums2 (f : ℕ → EReal) (v : FVec Ideal S528x128 .f32) (d : Fin 128) (hv : ∀ (i : ℕ) (h : i < 528), v (ix2 ⟨i, h⟩ d) = f i)
    (i : ℕ) (h : i < 528) (hi : 1 ≤ i) : dbl 1#32 v (ix2 ⟨i, h⟩ d) = wsum f 2 i :=
  double f v 1#32 1 (by decide) d (fun i h hs => dbl1 v i h hs d) (fun i h _ => (hv i h).trans (wsum_one f i).symm) i h hi

theorem sums4 (f : ℕ → EReal) (v : FVec Ideal S528x128 .f32) (d : Fin 128) (hv : ∀ (i : ℕ) (h : i < 528), v (ix2 ⟨i, h⟩ d) = f i)
    (i : ℕ) (h : i < 528) (hi : 3 ≤ i) : dbl 2#32 (dbl 1#32 v) (ix2 ⟨i, h⟩ d) = wsum f 4 i :=
  double f _ 2#32 2 (by decide) d (fun i h hs => dbl2 _ i h hs d) (fun i h hi => sums2 f v d hv i h hi) i h hi

theorem sums8 (f : ℕ → EReal) (v : FVec Ideal S528x128 .f32) (d : Fin 128) (hv : ∀ (i : ℕ) (h : i < 528), v (ix2 ⟨i, h⟩ d) = f i)
    (i : ℕ) (h : i < 528) (hi : 7 ≤ i) : dbl 4#32 (dbl 2#32 (dbl 1#32 v)) (ix2 ⟨i, h⟩ d) = wsum f 8 i :=
  double f _ 4#32 4 (by decide) d (fun i h hs => dbl4 _ i h hs d) (fun i h hi => sums4 f v d hv i h hi) i h hi

theorem sums16 (f : ℕ → EReal) (v : FVec Ideal S528x128 .f32) (d : Fin 128) (hv : ∀ (i : ℕ) (h : i < 528), v (ix2 ⟨i, h⟩ d) = f i)
    (i : ℕ) (h : i < 528) (hi : 15 ≤ i) : dbl 8#32 (dbl 4#32 (dbl 2#32 (dbl 1#32 v))) (ix2 ⟨i, h⟩ d) = wsum f 16 i :=
  double f _ 8#32 8 (by decide) d (fun i h hs => dbl8 _ i h hs d) (fun i h hi => sums8 f v d hv i h hi) i h hi

theorem meanLess_apply (c : BitVec 32) (a : FVec Ideal S528x128 .f32) (us : FVec Ideal S512x128 .f32) (pos : IVec S512x1 32) (r : Fin 512) (k : Fin 128) :
    meanLess c a us pos (ix2 r k) = Ideal.div (a (ix2 ⟨16 + r.val, by omega⟩ k)) (FloatOps.sitofp .f32 (IntOp.minsi (IntOp.addi (pos (ix2 r 0)) 1#32) c) : Ideal .f32) - us (ix2 r k) := by
  pointwise [meanLess]

theorem mixed_apply (p : FVec Ideal S512x128 .bf16) (w : Vec Ideal S1x128x128 .bf16) (q : Vec Ideal S1x128 .f32) (r : Fin 512) (d : Fin 128) :
    mixed p w q (ix3 0 r d) = (∑ k : Fin 128, p (ix2 r k) * w (ix3 0 k d)) * q (ix2 0 d) := by
  pointwise [mixed, k0_pay1]

/-- A tile's rows with the sixteen before them in front, one column. -/
def ext (z : Vec Ideal S16x512 .f32) (u : FVec Ideal S512x512 .f32) (n : Fin 512) (i : ℕ) : EReal :=
  if h : i < 16 then z (ix2 (⟨i, h⟩ : Fin 16) n) else if h : i - 16 < 512 then u (ix2 (⟨i - 16, h⟩ : Fin 512) n) else 0

theorem pay8_apply (z : Vec Ideal S16x512 .f32) (u : FVec Ideal S512x512 .f32) (i : ℕ) (h : i < 528) (n : Fin 512) :
    k0_pay8 u z (ix2 ⟨i, h⟩ n) = ext z u n i := by
  unfold ext
  pointwise [k0_pay8]
  by_cases h' : i < 16
  · rw [dif_pos h', dif_pos h']
  · rw [dif_neg h', dif_neg h', dif_pos (by omega)]

theorem cols0_apply (v : FVec Ideal S528x512 .f32) (i : Fin 528) (k : Fin 128) : cols0 v (ix2 i k) = v (ix2 i ⟨128 * 0 + k.val, by omega⟩) := by
  pointwise [cols0]
theorem cols1_apply (v : FVec Ideal S528x512 .f32) (i : Fin 528) (k : Fin 128) : cols1 v (ix2 i k) = v (ix2 i ⟨128 * 1 + k.val, by omega⟩) := by
  pointwise [cols1]
theorem cols2_apply (v : FVec Ideal S528x512 .f32) (i : Fin 528) (k : Fin 128) : cols2 v (ix2 i k) = v (ix2 i ⟨128 * 2 + k.val, by omega⟩) := by
  pointwise [cols2]
theorem cols3_apply (v : FVec Ideal S528x512 .f32) (i : Fin 528) (k : Fin 128) : cols3 v (ix2 i k) = v (ix2 i ⟨128 * 3 + k.val, by omega⟩) := by
  pointwise [cols3]

/-- The tile's positions in the sequence. -/
theorem pos_apply (s : ℕ) (r : Fin 512) : k0_pay10 (BitVec.ofNat 32 s) (ix2 r 0) = BitVec.ofNat 32 (s * 512 + r.val) := by
  pointwise [k0_pay10]
  show BitVec.ofNat 32 s * 512#32 + BitVec.ofNat 32 r.val = _
  rw [BitVec.ofNat_add, BitVec.ofNat_mul]

/-- What the tile's pooled block holds at row `r`, column `128 g + d`. -/
def tile (s : ℕ) (z : Vec Ideal S16x512 .f32) (u : FVec Ideal S512x512 .f32) (x4 : Vec Ideal S4x128x128 .bf16) (x5 : Vec Ideal S1x512 .f32)
    (r : Fin 512) (g : Fin 4) (d : Fin 128) : EReal :=
  (∑ k : Fin 128, (Ideal.div (wsum (ext z u ⟨128 * g.val + k.val, by omega⟩) (2 ^ (g.val + 1)) (16 + r.val)) (((min (s * 512 + r.val + 1) (2 ^ (g.val + 1)) : ℕ) : ℝ) : EReal)
      - u (ix2 r ⟨128 * g.val + k.val, by omega⟩)) * x4 (ix3 g k d)) * x5 (ix2 0 ⟨128 * g.val + d.val, by omega⟩)

/-- One group's block, from the sums of its windows. -/
theorem mixed_eq (s : ℕ) (hs : s < 16) (z : Vec Ideal S16x512 .f32) (u : FVec Ideal S512x512 .f32) (x4 : Vec Ideal S4x128x128 .bf16) (x5 : Vec Ideal S1x512 .f32)
    (g : Fin 4) (a : FVec Ideal S528x128 .f32) (us : FVec Ideal S512x128 .f32) (w : Vec Ideal S1x128x128 .bf16) (q : Vec Ideal S1x128 .f32)
    (ha : ∀ (i : ℕ) (h : i < 528) (k : Fin 128), 15 ≤ i → a (ix2 ⟨i, h⟩ k) = wsum (ext z u ⟨128 * g.val + k.val, by omega⟩) (2 ^ (g.val + 1)) i)
    (hu : ∀ (r : Fin 512) (k : Fin 128), us (ix2 r k) = u (ix2 r ⟨128 * g.val + k.val, by omega⟩))
    (hw : ∀ (k d : Fin 128), w (ix3 0 k d) = x4 (ix3 g k d)) (hq : ∀ d : Fin 128, q (ix2 0 d) = x5 (ix2 0 ⟨128 * g.val + d.val, by omega⟩))
    (r : Fin 512) (d : Fin 128) :
    mixed (meanLess (BitVec.ofNat 32 (2 ^ (g.val + 1))) a us (k0_pay10 (BitVec.ofNat 32 s))) w q (ix3 0 r d) = tile s z u x4 x5 r g d := by
  have hp : 2 ^ (g.val + 1) < 8192 := by
    have : g.val + 1 ≤ 4 := by omega
    exact lt_of_le_of_lt (Nat.pow_le_pow_right (by decide) this) (by decide)
  rw [mixed_apply, hq]
  unfold tile
  refine congrArg (· * _) (Finset.sum_congr rfl fun k _ => ?_)
  rw [meanLess_apply, pos_apply, count_eq _ _ (by omega) hp, ha _ _ _ (by omega), hu, hw]

end Cert.Proof.EvenInIdeal
end
-- ==== Proof.EvenIn.Blocks.lean ====
module

public import proofs.«01_k».proof.Proof.EvenIn.Tile

/-!
The kernel's two output blocks at an element, from the blocks it reads.
-/

@[expose] public section

set_option maxRecDepth 16384

noncomputable section

namespace Cert.Proof.EvenInIdeal

open Cert.EvenInIdeal Cert.EvenInIdeal.Gen Idealize.ShloMosaic Idealize.ShloMosaic.TcCoe Idealize.SL.Sem

section
variable (x0 : Vec Ideal S1x512x1024 .f32) (x1 : Vec Ideal S1x9x1024 .f32) (x2 : Vec Ideal S1x1024 .f32) (x3 : Vec Ideal S1024x2048 .bf16)

/-- The projection of a block's rows. -/
def bproj (r : Fin 512) (n : Fin 2048) : EReal :=
  ∑ k : Fin 1024, FfnRow.normed (fun k => x0 (ix3 0 r k)) (fun k => x1 (ix3 0 3 k)) (fun k => x1 (ix3 0 4 k)) (fun k => x2 (ix2 0 k)) k * x3 (ix2 k n)

theorem pay3_apply (r : Fin 512) (n : Fin 2048) : k0_pay3 x1 x0 x2 x3 (ix2 r n) = bproj x0 x1 x2 x3 r n := by
  pointwise [k0_pay3, bproj, FfnRow.normed, FfnRow.meanSq]

theorem pay4_apply (r : Fin 512) (n : Fin 512) : k0_pay4 x1 x0 x2 x3 (ix2 r n) = bproj x0 x1 x2 x3 r ⟨n.val, by omega⟩ := by
  rw [← pay3_apply]
  show k0_pay4 x1 x0 x2 x3 (ix2 r n) = _
  have e : k0_pay4 x1 x0 x2 x3 = extractStridedSlice S512x512 ![0, 0] (k0_pay3 x1 x0 x2 x3) slices_S512x2048_o0_0_S512x512 := rfl
  rw [e]
  generalize k0_pay3 x1 x0 x2 x3 = P
  pointwise

theorem pay6_apply (r : Fin 512) (n : Fin 512) : k0_pay6 (k0_pay5 x1 x0 x2 x3) (ix3 0 r n) = bproj x0 x1 x2 x3 r ⟨512 + n.val, by omega⟩ * Ideal.ofBits .f32 0x3E000000#32 := by
  rw [← pay3_apply]
  have e : k0_pay5 x1 x0 x2 x3 = truncf .bf16 (mulf (extractStridedSlice S512x512 ![0, 512] (k0_pay3 x1 x0 x2 x3) slices_S512x2048_o0_512_S512x512) (broadcast S512x512 (Ideal.ofBits .f32 0x3E000000#32) : FVec Ideal S512x512 .f32)) bitsLt_bf16_f32 := rfl
  rw [e]
  generalize k0_pay3 x1 x0 x2 x3 = P
  pointwise [k0_pay6]

theorem pay7_apply (r : Fin 512) (n : Fin 1024) : k0_pay7 (k0_pay3 x1 x0 x2 x3) (ix3 0 r n) = bproj x0 x1 x2 x3 r ⟨1024 + n.val, by omega⟩ := by
  rw [← pay3_apply]
  generalize k0_pay3 x1 x0 x2 x3 = P
  pointwise [k0_pay7]

theorem pay9_apply (u : FVec Ideal S512x512 .f32) (i : Fin 16) (n : Fin 512) : k0_pay9 u (ix2 i n) = u (ix2 (⟨496 + i.val, by omega⟩ : Fin 512) n) := by
  pointwise [k0_pay9]

theorem pay2_apply (i : Fin 16) (n : Fin 512) : (k0_pay2 : FVec Ideal S16x512 .f32) (ix2 i n) = 0 := by
  pointwise [k0_pay2]

end

/-- The queries, keys and values of a block. -/
def bqkv (p : Fin 512 → Fin 2048 → EReal) (r : Fin 512) (n : Fin 1536) : EReal :=
  if n.val < 512 then p r ⟨512 + n.val, by omega⟩ * Ideal.ofBits .f32 0x3E000000#32 else p r ⟨512 + n.val, by omega⟩

/-- The second output's two stores, as one block. -/
theorem out7_canon (p : Fin 512 → Fin 2048 → EReal) (a : FVec Ideal S1x512x512 .bf16) (b : FVec Ideal S1x512x1024 .bf16)
    (ha : ∀ (r : Fin 512) (n : Fin 512), a (ix3 0 r n) = p r ⟨512 + n.val, by omega⟩ * Ideal.ofBits .f32 0x3E000000#32)
    (hb : ∀ (r : Fin 512) (n : Fin 1024), b (ix3 0 r n) = p r ⟨1024 + n.val, by omega⟩) (r : Fin 512) (n : Fin 1536) :
    View.canon (Val := Elt Ideal) (e := .bf16) [⟨Rect.unit ![0,0,512] ![1,512,1024] inb_S1x512x1536_S1x512x1024_0_0_512, b⟩, ⟨Rect.unit ![0,0,0] ![1,512,512] inb_S1x512x1536_S1x512x512_0_0_0, a⟩] (ix3 0 r n)
      = bqkv p r n := by
  refine (View.canon_apply_of_pieces (fun j : S1x512x1536.Idx => bqkv p (j 1) (j 2)) _ ?_ _ ?_).trans rfl
  · intro q hq x
    simp only [List.mem_cons, List.not_mem_nil, or_false] at hq
    rcases hq with rfl | rfl
    · obtain ⟨r, n, rfl⟩ : ∃ (r : Fin 512) (n : Fin 1024), x = ix3 0 r n := ⟨x 1, x 2, (eq_ix3 x).trans (congrArg (fun z => ix3 z (x 1) (x 2)) (Subsingleton.elim (α := Fin 1) _ _))⟩
      have e : (Rect.unit ![0,0,512] ![1,512,1024] inb_S1x512x1536_S1x512x1024_0_0_512).emb (ix3 0 r n) = ix3 0 r (⟨512 + n.val, by omega⟩ : Fin 1536) := by blk_ext []
      rw [e]
      refine (hb r n).trans ?_
      show _ = bqkv p r ⟨512 + n.val, by omega⟩
      unfold bqkv
      rw [if_neg (by show ¬ (512 + n.val < 512); omega)]
      exact congrArg (p r) (Fin.ext (by show 1024 + n.val = 512 + (512 + n.val); omega))
    · obtain ⟨r, n, rfl⟩ : ∃ (r : Fin 512) (n : Fin 512), x = ix3 0 r n := ⟨x 1, x 2, (eq_ix3 x).trans (congrArg (fun z => ix3 z (x 1) (x 2)) (Subsingleton.elim (α := Fin 1) _ _))⟩
      have e : (Rect.unit ![0,0,0] ![1,512,512] inb_S1x512x1536_S1x512x512_0_0_0).emb (ix3 0 r n) = ix3 0 r (⟨n.val, by omega⟩ : Fin 1536) := by blk_ext []
      rw [e]
      refine (ha r n).trans ?_
      show _ = bqkv p r ⟨n.val, by omega⟩
      unfold bqkv
      rw [if_pos (by show n.val < 512; omega)]
  · by_cases h : n.val < 512
    · refine ⟨_, List.mem_cons_of_mem _ (List.mem_cons_self ..), (Rect.mem_set_unit (inb := inb_S1x512x1536_S1x512x512_0_0_0)).2 fun a => ?_⟩
      fin_cases a
      · exact ⟨Nat.zero_le _, Nat.zero_lt_one⟩
      · exact ⟨Nat.zero_le _, by show r.val < 0 + 512; omega⟩
      · exact ⟨Nat.zero_le _, by show n.val < 0 + 512; omega⟩
    · refine ⟨_, List.mem_cons_self .., (Rect.mem_set_unit (inb := inb_S1x512x1536_S1x512x1024_0_0_512)).2 fun a => ?_⟩
      fin_cases a
      · exact ⟨Nat.zero_le _, Nat.zero_lt_one⟩
      · exact ⟨Nat.zero_le _, by show r.val < 0 + 512; omega⟩
      · exact ⟨by show 512 ≤ n.val; omega, by show n.val < 512 + 1024; omega⟩

/-- One group's store lies in its columns. -/
theorem group_mem (r : Fin 512) (n : Fin 512) (g : ℕ) (h : n.val / 128 = g) (inb : ∀ a, (![0, 0, 128 * g] : Fin 3 → ℕ) a + (![1, 512, 128] : Fin 3 → ℕ) a ≤ S1x512x512.size a) :
    (ix3 0 r n : S1x512x512.Idx) ∈ (Rect.unit (s := S1x512x512) ![0, 0, 128 * g] ![1, 512, 128] inb).set := by
  refine Rect.mem_set_unit.2 fun a => ?_
  fin_cases a
  · exact ⟨Nat.zero_le _, Nat.zero_lt_one⟩
  · exact ⟨Nat.zero_le _, by show r.val < 0 + 512; omega⟩
  · exact ⟨by show 128 * g ≤ n.val; omega, by show n.val < 128 * g + 128; omega⟩

/-- The first output's four stores, as one block. -/
theorem out6_canon (T : Fin 512 → Fin 4 → Fin 128 → EReal) (p0 p1 p2 p3 : FVec Ideal S1x512x128 .bf16)
    (h0 : ∀ (r : Fin 512) (d : Fin 128), p0 (ix3 0 r d) = T r 0 d) (h1 : ∀ (r : Fin 512) (d : Fin 128), p1 (ix3 0 r d) = T r 1 d)
    (h2 : ∀ (r : Fin 512) (d : Fin 128), p2 (ix3 0 r d) = T r 2 d) (h3 : ∀ (r : Fin 512) (d : Fin 128), p3 (ix3 0 r d) = T r 3 d)
    (r : Fin 512) (n : Fin 512) :
    View.canon (Val := Elt Ideal) (e := .bf16) [⟨Rect.unit ![0,0,384] ![1,512,128] inb_S1x512x512_S1x512x128_0_0_384, p3⟩, ⟨Rect.unit ![0,0,256] ![1,512,128] inb_S1x512x512_S1x512x128_0_0_256, p2⟩,
        ⟨Rect.unit ![0,0,128] ![1,512,128] inb_S1x512x512_S1x512x128_0_0_128, p1⟩, ⟨Rect.unit ![0,0,0] ![1,512,128] inb_S1x512x512_S1x512x128_0_0_0, p0⟩] (ix3 0 r n)
      = T r ⟨n.val / 128, by omega⟩ ⟨n.val % 128, by omega⟩ := by
  refine (View.canon_apply_of_pieces (fun j : S1x512x512.Idx => T (j 1) ⟨(j 2).val / 128, by have : (j 2).val < 512 := (j 2).isLt; omega⟩ ⟨(j 2).val % 128, by omega⟩) _ ?_ _ ?_).trans rfl
  · have key : ∀ (g : Fin 4) (e : S1x512x512.Idx) (r : Fin 512) (d : Fin 128), e = ix3 0 r (⟨128 * g.val + d.val, by omega⟩ : Fin 512) →
        T r g d = T (e 1) ⟨(e 2).val / 128, by have : (e 2).val < 512 := (e 2).isLt; omega⟩ ⟨(e 2).val % 128, by omega⟩ := by
      rintro g e r d rfl
      show T r g d = T r ⟨(128 * g.val + d.val) / 128, _⟩ ⟨(128 * g.val + d.val) % 128, _⟩
      have a : (⟨(128 * g.val + d.val) / 128, by omega⟩ : Fin 4) = g := Fin.ext (by show (128 * g.val + d.val) / 128 = g.val; omega)
      have b : (⟨(128 * g.val + d.val) % 128, by omega⟩ : Fin 128) = d := Fin.ext (by show (128 * g.val + d.val) % 128 = d.val; omega)
      rw [a, b]
    intro q hq x
    simp only [List.mem_cons, List.not_mem_nil, or_false] at hq
    rcases hq with rfl | rfl | rfl | rfl
    · obtain ⟨r, d, rfl⟩ : ∃ (r : Fin 512) (d : Fin 128), x = ix3 0 r d := ⟨x 1, x 2, (eq_ix3 x).trans (congrArg (fun z => ix3 z (x 1) (x 2)) (Subsingleton.elim (α := Fin 1) _ _))⟩
      exact (h3 r d).trans (key 3 _ r d (by blk_ext []))
    · obtain ⟨r, d, rfl⟩ : ∃ (r : Fin 512) (d : Fin 128), x = ix3 0 r d := ⟨x 1, x 2, (eq_ix3 x).trans (congrArg (fun z => ix3 z (x 1) (x 2)) (Subsingleton.elim (α := Fin 1) _ _))⟩
      exact (h2 r d).trans (key 2 _ r d (by blk_ext []))
    · obtain ⟨r, d, rfl⟩ : ∃ (r : Fin 512) (d : Fin 128), x = ix3 0 r d := ⟨x 1, x 2, (eq_ix3 x).trans (congrArg (fun z => ix3 z (x 1) (x 2)) (Subsingleton.elim (α := Fin 1) _ _))⟩
      exact (h1 r d).trans (key 1 _ r d (by blk_ext []))
    · obtain ⟨r, d, rfl⟩ : ∃ (r : Fin 512) (d : Fin 128), x = ix3 0 r d := ⟨x 1, x 2, (eq_ix3 x).trans (congrArg (fun z => ix3 z (x 1) (x 2)) (Subsingleton.elim (α := Fin 1) _ _))⟩
      exact (h0 r d).trans (key 0 _ r d (by blk_ext []))
  · have : n.val / 128 = 0 ∨ n.val / 128 = 1 ∨ n.val / 128 = 2 ∨ n.val / 128 = 3 := by omega
    rcases this with h | h | h | h
    · exact ⟨_, .tail _ (.tail _ (.tail _ (.head _))), group_mem r n 0 h inb_S1x512x512_S1x512x128_0_0_0⟩
    · exact ⟨_, .tail _ (.tail _ (.head _)), group_mem r n 1 h inb_S1x512x512_S1x512x128_0_0_128⟩
    · exact ⟨_, .tail _ (.head _), group_mem r n 2 h inb_S1x512x512_S1x512x128_0_0_256⟩
    · exact ⟨_, .head _, group_mem r n 3 h inb_S1x512x512_S1x512x128_0_0_384⟩

/-- A group's weights in the whole array. -/
theorem w_idx (g : Fin 4) (inb : ∀ a, (![g.val, 0, 0] : Fin 3 → ℕ) a + (![1, 128, 128] : Fin 3 → ℕ) a ≤ S4x128x128.size a) (k d : Fin 128) :
    (Rect.unit (s := S4x128x128) ![g.val, 0, 0] ![1, 128, 128] inb).idx (ix3 0 k d) = ix3 g k d := by
  funext a
  fin_cases a
  · exact Fin.ext (by show g.val + 1 * 0 = g.val; omega)
  · exact Fin.ext (by show 0 + 1 * k.val = k.val; omega)
  · exact Fin.ext (by show 0 + 1 * d.val = d.val; omega)

/-- A group's scale in the whole row. -/
theorem q_idx (g : Fin 4) (inb : ∀ a, (![0, 128 * g.val] : Fin 2 → ℕ) a + (![1, 128] : Fin 2 → ℕ) a ≤ S1x512.size a) (d : Fin 128) :
    (Rect.unit (s := S1x512) ![0, 128 * g.val] ![1, 128] inb).idx (ix2 0 d) = ix2 0 (⟨128 * g.val + d.val, by omega⟩ : Fin 512) := by
  funext a
  fin_cases a
  · rfl
  · exact Fin.ext (by show 128 * g.val + 1 * d.val = 128 * g.val + d.val; omega)

/-- The first output block at an element. -/
theorem out6_tile (s : ℕ) (hs : s < 16) (z : Vec Ideal S16x512 .f32) (u : FVec Ideal S512x512 .f32) (x4 : Vec Ideal S4x128x128 .bf16) (x5 : Vec Ideal S1x512 .f32) (r n : Fin 512) :
    View.canon (Val := Elt Ideal) (e := .bf16) [⟨Rect.unit ![0,0,384] ![1,512,128] inb_S1x512x512_S1x512x128_0_0_384,
          k0_pay1 (k0_pay17 u (k0_pay8 u z) (k0_pay10 (BitVec.ofNat 32 s))) (View.ld x4 (Rect.unit ![3,0,0] ![1,128,128] inb_S4x128x128_S1x128x128_3_0_0)) (View.ld x5 (Rect.unit ![0,384] ![1,128] inb_S1x512_S1x128_0_384))⟩,
        ⟨Rect.unit ![0,0,256] ![1,512,128] inb_S1x512x512_S1x512x128_0_0_256,
          k0_pay16 u (k0_pay10 (BitVec.ofNat 32 s)) (k0_pay15 (k0_pay8 u z)) (View.ld x4 (Rect.unit ![2,0,0] ![1,128,128] inb_S4x128x128_S1x128x128_2_0_0)) (View.ld x5 (Rect.unit ![0,256] ![1,128] inb_S1x512_S1x128_0_256))⟩,
        ⟨Rect.unit ![0,0,128] ![1,512,128] inb_S1x512x512_S1x512x128_0_0_128,
          k0_pay14 u (k0_pay8 u z) (k0_pay10 (BitVec.ofNat 32 s)) (View.ld x4 (Rect.unit ![1,0,0] ![1,128,128] inb_S4x128x128_S1x128x128_1_0_0)) (View.ld x5 (Rect.unit ![0,128] ![1,128] inb_S1x512_S1x128_0_128))⟩,
        ⟨Rect.unit ![0,0,0] ![1,512,128] inb_S1x512x512_S1x512x128_0_0_0,
          k0_pay13 (k0_pay11 (BitVec.ofNat 32 s) u z (View.ld x4 (Rect.unit ![0,0,0] ![1,128,128] inb_S4x128x128_S1x128x128_0_0_0))) (k0_pay12 (View.ld x5 (Rect.unit ![0,0] ![1,128] inb_S1x512_S1x128_0_0)))⟩] (ix3 0 r n)
      = tile s z u x4 x5 r ⟨n.val / 128, by omega⟩ ⟨n.val % 128, by omega⟩ := by
  refine out6_canon (tile s z u x4 x5) _ _ _ _ (fun r d => ?_) (fun r d => ?_) (fun r d => ?_) (fun r d => ?_) r n
  · refine Eq.trans ?_ (mixed_eq s hs z u x4 x5 0 (dbl 1#32 (cols0 (k0_pay8 u z))) (extractStridedSlice S512x128 ![0, 0] u slices_S512x512_o0_0_S512x128)
      (View.ld x4 (Rect.unit ![0,0,0] ![1,128,128] inb_S4x128x128_S1x128x128_0_0_0)) (View.ld x5 (Rect.unit ![0,0] ![1,128] inb_S1x512_S1x128_0_0))
      (fun i h k hi => sums2 _ _ k (fun i h => (cols0_apply _ _ _).trans (pay8_apply z u i h _)) i h (by omega)) (fun r k => ?_) (fun k d => ?_) (fun d => ?_) r d)
    · exact rfl
    · pointwise
    · exact congrArg x4 (w_idx 0 inb_S4x128x128_S1x128x128_0_0_0 k d)
    · exact congrArg x5 (q_idx 0 inb_S1x512_S1x128_0_0 d)
  · refine Eq.trans ?_ (mixed_eq s hs z u x4 x5 1 (dbl 2#32 (dbl 1#32 (cols1 (k0_pay8 u z)))) (extractStridedSlice S512x128 ![0, 128] u slices_S512x512_o0_128_S512x128)
      (View.ld x4 (Rect.unit ![1,0,0] ![1,128,128] inb_S4x128x128_S1x128x128_1_0_0)) (View.ld x5 (Rect.unit ![0,128] ![1,128] inb_S1x512_S1x128_0_128))
      (fun i h k hi => sums4 _ _ k (fun i h => (cols1_apply _ _ _).trans (pay8_apply z u i h _)) i h (by omega)) (fun r k => ?_) (fun k d => ?_) (fun d => ?_) r d)
    · exact rfl
    · pointwise
    · exact congrArg x4 (w_idx 1 inb_S4x128x128_S1x128x128_1_0_0 k d)
    · exact congrArg x5 (q_idx 1 inb_S1x512_S1x128_0_128 d)
  · refine Eq.trans ?_ (mixed_eq s hs z u x4 x5 2 (dbl 4#32 (dbl 2#32 (dbl 1#32 (cols2 (k0_pay8 u z))))) (extractStridedSlice S512x128 ![0, 256] u slices_S512x512_o0_256_S512x128)
      (View.ld x4 (Rect.unit ![2,0,0] ![1,128,128] inb_S4x128x128_S1x128x128_2_0_0)) (View.ld x5 (Rect.unit ![0,256] ![1,128] inb_S1x512_S1x128_0_256))
      (fun i h k hi => sums8 _ _ k (fun i h => (cols2_apply _ _ _).trans (pay8_apply z u i h _)) i h (by omega)) (fun r k => ?_) (fun k d => ?_) (fun d => ?_) r d)
    · exact rfl
    · pointwise
    · exact congrArg x4 (w_idx 2 inb_S4x128x128_S1x128x128_2_0_0 k d)
    · exact congrArg x5 (q_idx 2 inb_S1x512_S1x128_0_256 d)
  · refine Eq.trans ?_ (mixed_eq s hs z u x4 x5 3 (dbl 8#32 (dbl 4#32 (dbl 2#32 (dbl 1#32 (cols3 (k0_pay8 u z)))))) (extractStridedSlice S512x128 ![0, 384] u slices_S512x512_o0_384_S512x128)
      (View.ld x4 (Rect.unit ![3,0,0] ![1,128,128] inb_S4x128x128_S1x128x128_3_0_0)) (View.ld x5 (Rect.unit ![0,384] ![1,128] inb_S1x512_S1x128_0_384))
      (fun i h k hi => sums16 _ _ k (fun i h => (cols3_apply _ _ _).trans (pay8_apply z u i h _)) i h (by omega)) (fun r k => ?_) (fun k d => ?_) (fun d => ?_) r d)
    · exact rfl
    · pointwise
    · exact congrArg x4 (w_idx 3 inb_S4x128x128_S1x128x128_3_0_0 k d)
    · exact congrArg x5 (q_idx 3 inb_S1x512_S1x128_0_384 d)

end Cert.Proof.EvenInIdeal
end
-- ==== Proof.EvenIn.Value.lean ====
module

public import proofs.«01_k».proof.Proof.EvenIn.Blocks

/-!
The two arrays that the pooling kernel leaves, as functions of its arguments.
-/

@[expose] public section

set_option maxRecDepth 16384

noncomputable section

namespace Cert.Proof.EvenInIdeal

open Cert.EvenInIdeal Cert.EvenInIdeal.Gen Idealize.ShloMosaic Idealize.ShloMosaic.TcCoe Idealize.SL.Sem
open Idealize.ShloMosaic.Pipeline (Dat)

/-- A window over the lengthened tile is the window over the sequence. -/
theorem wsum_ext (f : ℕ → EReal) (s : ℕ) (z : Vec Ideal S16x512 .f32) (u : FVec Ideal S512x512 .f32) (n : Fin 512)
    (hz : ∀ i : Fin 16, z (ix2 i n) = if s = 0 then 0 else f (s * 512 - 16 + i.val)) (hu : ∀ r : Fin 512, u (ix2 r n) = f (s * 512 + r.val))
    (w : ℕ) (hw : w ≤ 16) (r : Fin 512) : wsum (ext z u n) w (16 + r.val) = wsum f w (s * 512 + r.val) := by
  unfold wsum
  refine Finset.sum_congr rfl fun e he => ?_
  have he : e < w := Finset.mem_range.1 he
  rw [if_pos (by omega)]
  unfold ext
  by_cases h : e ≤ r.val
  · rw [dif_neg (by omega), dif_pos (by omega), if_pos (by omega), hu]
    exact congrArg f (by show s * 512 + (16 + r.val - e - 16) = s * 512 + r.val - e; omega)
  · rw [dif_pos (by omega), hz]
    by_cases hs : s = 0
    · rw [if_pos hs, if_neg (by omega)]
    · rw [if_neg hs, if_pos (by omega)]
      exact congrArg f (by show s * 512 - 16 + (16 + r.val - e) = s * 512 + r.val - e; omega)

/-- The blocks' places: which block of each array grid point `t` reads and writes. -/
theorem idx : ∀ t : Fin cfg0.N, win0_0.index t = ![t.val / 16, t.val % 16, 0] ∧ win0_1.index t = ![t.val / 16, 0, 0] ∧ win0_2.index t = ![0, 0] ∧ win0_3.index t = ![0, 0] ∧ win0_4.index t = ![0, 0, 0] ∧ win0_5.index t = ![0, 0] ∧ win0_6.index t = ![t.val / 16, t.val % 16, 0] ∧ win0_7.index t = ![t.val / 16, t.val % 16, 0] ∧ (grid0.coords t 1).val = t.val % 16 :=
  (by decide +kernel : ∀ t : Fin grid0.N, win0_0.index t = ![t.val / 16, t.val % 16, 0] ∧ win0_1.index t = ![t.val / 16, 0, 0] ∧ win0_2.index t = ![0, 0] ∧ win0_3.index t = ![0, 0] ∧ win0_4.index t = ![0, 0, 0] ∧ win0_5.index t = ![0, 0] ∧ win0_6.index t = ![t.val / 16, t.val % 16, 0] ∧ win0_7.index t = ![t.val / 16, t.val % 16, 0] ∧ (grid0.coords t 1).val = t.val % 16)

variable (m : (ℓ : Loc nD τ sig) → Buf (Elt Ideal) ℓ) (c : Dev nD) (t : Fin cfg0.N)

theorem t_lt : t.val < 32 := t.isLt

/-- The projection along a sequence, from the launch's arrays. -/
abbrev mproj := proj (m ((c.tc : Thread nD τ).loc main_arg0)) (m ((c.tc : Thread nD τ).loc main_arg1)) (m ((c.tc : Thread nD τ).loc main_arg2)) (m ((c.tc : Thread nD τ).loc main_arg3))
abbrev museq := useq (m ((c.tc : Thread nD τ).loc main_arg0)) (m ((c.tc : Thread nD τ).loc main_arg1)) (m ((c.tc : Thread nD τ).loc main_arg2)) (m ((c.tc : Thread nD τ).loc main_arg3))

/-- The pooling's weights at an element. -/
theorem wpool (g : Fin 4) (k d : Fin 128) : iblk m c 4 t (ix3 g k d) = m ((c.tc : Thread nD τ).loc main_arg4) (ix3 g k d) := by
  obtain ⟨e0, e1, e2, e3, e4, e5, e6, e7, e8⟩ := idx t
  have e : (win0_4.blk t).view.emb (ix3 g k d) = ix3 g k d := by blk_ext [idx t]
  show V m c (Pipeline.arrRef spec0 4) ((win0_4.blk t).view.emb (ix3 g k d)) = _
  rw [e]
  entry_read
  rfl

/-- The pooling's scale at an element. -/
theorem qscale (n : Fin 512) : iblk m c 5 t (ix2 0 n) = m ((c.tc : Thread nD τ).loc main_arg5) (ix1 n) := by
  obtain ⟨e0, e1, e2, e3, e4, e5, e6, e7, e8⟩ := idx t
  have e : (win0_5.blk t).view.emb (ix2 0 n) = ix2 0 n := by blk_ext [idx t]
  show V m c (Pipeline.arrRef spec0 5) ((win0_5.blk t).view.emb (ix2 0 n)) = _
  rw [e]
  entry_read
  pointwise

/-- The projection of the block of grid point `t`. -/
theorem bproj_eq (r : Fin 512) (n : Fin 2048) :
    bproj (iblk m c 0 t) (iblk m c 1 t) (iblk m c 2 t) (iblk m c 3 t) r n
      = mproj m c ⟨t.val / 16, by have := t_lt t; omega⟩ ⟨t.val % 16 * 512 + r.val, by omega⟩ n := by
  obtain ⟨e0, e1, e2, e3, e4, e5, e6, e7, e8⟩ := idx t
  have ht := t_lt t
  have h0 : ∀ k : Fin 1024, iblk m c 0 t (ix3 0 r k) = m ((c.tc : Thread nD τ).loc main_arg0) (ix2 (⟨t.val / 16 * 8192 + (t.val % 16 * 512 + r.val), by omega⟩ : Fin 16384) k) := by
    intro k
    have e : (win0_0.blk t).view.emb (ix3 0 r k) = ix3 ⟨t.val / 16, by omega⟩ ⟨t.val % 16 * 512 + r.val, by omega⟩ k := by blk_ext [idx t]
    show V m c (Pipeline.arrRef spec0 0) ((win0_0.blk t).view.emb (ix3 0 r k)) = _
    rw [e]
    entry_read
    pointwise
  have h1 : ∀ (a : Fin 9) (k : Fin 1024), iblk m c 1 t (ix3 0 a k) = m ((c.tc : Thread nD τ).loc main_arg1) (ix3 ⟨t.val / 16, by omega⟩ a k) := by
    intro a k; blk_ext [iblk, V, idx t]
  have h2 : ∀ k : Fin 1024, iblk m c 2 t (ix2 0 k) = m ((c.tc : Thread nD τ).loc main_arg2) (ix1 k) := by
    intro k
    have e : (win0_2.blk t).view.emb (ix2 0 k) = ix2 0 k := by blk_ext [idx t]
    show V m c (Pipeline.arrRef spec0 2) ((win0_2.blk t).view.emb (ix2 0 k)) = _
    rw [e]
    entry_read
    pointwise
  have h3 : ∀ (k : Fin 1024), iblk m c 3 t (ix2 k n) = m ((c.tc : Thread nD τ).loc main_arg3) (ix2 k n) := by
    intro k
    have e : (win0_3.blk t).view.emb (ix2 k n) = ix2 k n := by blk_ext [idx t]
    show V m c (Pipeline.arrRef spec0 3) ((win0_3.blk t).view.emb (ix2 k n)) = _
    rw [e]
    entry_read
    rfl
  unfold bproj mproj proj
  simp only [h0, h1, h2, h3]
  rfl

/-- The columns to be pooled, in the block of grid point `t`. -/
abbrev ublk : FVec Ideal S512x512 .f32 := k0_pay4 (iblk m c 1 t) (iblk m c 0 t) (iblk m c 2 t) (iblk m c 3 t)

theorem ublk_eq (r n : Fin 512) : ublk m c t (ix2 r n) = museq m c ⟨t.val / 16, by have := t_lt t; omega⟩ n (t.val % 16 * 512 + r.val) := by
  refine (pay4_apply _ _ _ _ r n).trans ((bproj_eq m c t r _).trans ?_)
  unfold museq useq
  rw [dif_pos (by omega)]

/-- The rows kept for the next grid point. -/
theorem halo : (outsAt0 m c t.val t.isLt).2.2 = k0_pay9 (ublk m c t) := by
  by_cases h : t.val % 16 = 0
  · rw [outsAt0_A m c t h]
    dsimp only
    frame_out
  · rw [outsAt0_B m c t h]
    dsimp only
    frame_out

/-- The pooled block is the sequence's pooled columns, where the rows before the block are the sequence's. -/
theorem tile_eq (z : Vec Ideal S16x512 .f32)
    (hz : ∀ (i : Fin 16) (n : Fin 512), z (ix2 i n) = if t.val % 16 = 0 then 0 else museq m c ⟨t.val / 16, by have := t_lt t; omega⟩ n (t.val % 16 * 512 - 16 + i.val))
    (r n : Fin 512) : tile (t.val % 16) z (ublk m c t) (iblk m c 4 t) (iblk m c 5 t) r ⟨n.val / 128, by omega⟩ ⟨n.val % 128, by omega⟩
      = specPool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          ⟨t.val / 16, by have := t_lt t; omega⟩ ⟨t.val % 16 * 512 + r.val, by omega⟩ n := by
  have hp : 2 ^ (n.val / 128 + 1) ≤ 16 := le_trans (Nat.pow_le_pow_right (by decide) (show n.val / 128 + 1 ≤ 4 by omega)) (by decide)
  unfold tile specPool
  refine congrArg₂ (fun a b : EReal => a * b) (Finset.sum_congr rfl fun k _ => congrArg₂ (fun a b : EReal => a * b) ?_ ?_) ?_
  · unfold pool
    rw [wsum_ext _ (t.val % 16) z (ublk m c t) _ (fun i => hz i _) (fun r => ublk_eq m c t r _) _ hp r, ublk_eq]
  · exact wpool m c t _ _ _
  · refine (qscale m c t _).trans (congrArg (fun n => m ((c.tc : Thread nD τ).loc main_arg5) (ix1 n)) (Fin.ext ?_))
    show 128 * (n.val / 128) + n.val % 128 = n.val
    omega

/-- The first output block at an element. -/
theorem out6_eq (r n : Fin 512) : (outsAt0 m c t.val t.isLt).1 (ix3 0 r n)
      = specPool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          ⟨t.val / 16, by have := t_lt t; omega⟩ ⟨t.val % 16 * 512 + r.val, by omega⟩ n := by
  obtain ⟨e0, e1, e2, e3, e4, e5, e6, e7, e8⟩ := idx t
  have ht := t_lt t
  by_cases h : t.val % 16 = 0
  · rw [outsAt0_A m c t h]
    dsimp only
    frame_out
    rw [e8]
    refine Eq.trans ?_ (tile_eq m c t (k0_pay2 (F := Ideal)) (fun i n => (pay2_apply i n).trans (if_pos h).symm) r n)
    unfold ublk
    generalize k0_pay4 (iblk m c 1 t) (iblk m c 0 t) (iblk m c 2 t) (iblk m c 3 t) = u
    generalize hx4 : iblk m c 4 t = x4
    generalize hx5 : iblk m c 5 t = x5
    generalize k0_pay2 (F := Ideal) = z
    exact out6_tile (t.val % 16) (by omega) z u x4 x5 r n
  · have hpos : 0 < t.val := Nat.pos_of_ne_zero fun q => h (by rw [q])
    have hh := halo m c (⟨t.val - 1, Nat.lt_of_le_of_lt (Nat.sub_le _ _) t.isLt⟩ : Fin cfg0.N)
    rw [outsAt0_B m c t h]
    dsimp only
    frame_out
    simp only [read_unread_whole]
    rw [e8, hh]
    refine Eq.trans ?_ (tile_eq m c t (k0_pay9 (ublk m c (⟨t.val - 1, Nat.lt_of_le_of_lt (Nat.sub_le _ _) t.isLt⟩ : Fin cfg0.N))) (fun i n => ?_) r n)
    · generalize k0_pay9 (ublk m c (⟨t.val - 1, Nat.lt_of_le_of_lt (Nat.sub_le _ _) t.isLt⟩ : Fin cfg0.N)) = z
      unfold ublk
      generalize k0_pay4 (iblk m c 1 t) (iblk m c 0 t) (iblk m c 2 t) (iblk m c 3 t) = u
      generalize hx4 : iblk m c 4 t = x4
      generalize hx5 : iblk m c 5 t = x5
      exact out6_tile (t.val % 16) (by omega) z u x4 x5 r n
    · rw [if_neg h]
      refine (pay9_apply _ i n).trans ((ublk_eq m c _ _ n).trans ?_)
      have a : (⟨(t.val - 1) / 16, by omega⟩ : Fin 2) = ⟨t.val / 16, by omega⟩ := Fin.ext (by show (t.val - 1) / 16 = t.val / 16; omega)
      have b : (t.val - 1) % 16 * 512 + (496 + i.val) = t.val % 16 * 512 - 16 + i.val := by omega
      show museq m c ⟨(t.val - 1) / 16, _⟩ n ((t.val - 1) % 16 * 512 + (496 + i.val)) = _
      rw [a, b]

/-- The second output block at an element. -/
theorem out7_eq (r : Fin 512) (n : Fin 1536) : (outsAt0 m c t.val t.isLt).2.1 (ix3 0 r n)
      = specQkv (m ((c.tc : Thread nD τ).loc main_arg0)) (m ((c.tc : Thread nD τ).loc main_arg1)) (m ((c.tc : Thread nD τ).loc main_arg2)) (m ((c.tc : Thread nD τ).loc main_arg3))
          ⟨t.val / 16, by have := t_lt t; omega⟩ ⟨t.val % 16 * 512 + r.val, by omega⟩ n := by
  have key : bqkv (bproj (iblk m c 0 t) (iblk m c 1 t) (iblk m c 2 t) (iblk m c 3 t)) r n = specQkv (m ((c.tc : Thread nD τ).loc main_arg0)) (m ((c.tc : Thread nD τ).loc main_arg1)) (m ((c.tc : Thread nD τ).loc main_arg2)) (m ((c.tc : Thread nD τ).loc main_arg3))
          ⟨t.val / 16, by have := t_lt t; omega⟩ ⟨t.val % 16 * 512 + r.val, by omega⟩ n := by
    unfold bqkv specQkv
    rw [bproj_eq m c t]
  by_cases h : t.val % 16 = 0
  · rw [outsAt0_A m c t h]
    dsimp only
    frame_out
    exact (out7_canon _ _ _ (pay6_apply _ _ _ _) (pay7_apply _ _ _ _) r n).trans key
  · rw [outsAt0_B m c t h]
    dsimp only
    frame_out
    exact (out7_canon _ _ _ (pay6_apply _ _ _ _) (pay7_apply _ _ _ _) r n).trans key

/-- The first array the kernel leaves. -/
theorem kernel_eq6 :
    (dats m 0 c).arrAt 6 cfg0.N = fun j : S2x8192x512.Idx => specPool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0) (j 1) (j 2) := by
  refine (dats m 0 c).arrAt_eq_of_covers 6 _ (by decide +kernel) fun t hf y => ?_
  blk_simp
  obtain ⟨r, n, rfl⟩ : ∃ (r : Fin 512) (n : Fin 512), y = ix3 0 r n := ⟨y 1, y 2, (eq_ix3 y).trans (congrArg (fun z => ix3 z (y 1) (y 2)) (Subsingleton.elim (α := Fin 1) _ _))⟩
  have ht := t_lt t
  have o : (win0_6.blk t).view.emb (ix3 0 r n) = ix3 ⟨t.val / 16, by omega⟩ ⟨t.val % 16 * 512 + r.val, by omega⟩ n := by
    obtain ⟨e0, e1, e2, e3, e4, e5, e6, e7, e8⟩ := idx t
    blk_ext [idx t]
  rw [after0_6, o]
  exact out6_eq m c t r n

/-- The second array the kernel leaves. -/
theorem kernel_eq7 :
    (dats m 0 c).arrAt 7 cfg0.N = fun j : S2x8192x1536.Idx => specQkv (m ((c.tc : Thread nD τ).loc main_arg0)) (m ((c.tc : Thread nD τ).loc main_arg1)) (m ((c.tc : Thread nD τ).loc main_arg2)) (m ((c.tc : Thread nD τ).loc main_arg3)) (j 0) (j 1) (j 2) := by
  refine (dats m 0 c).arrAt_eq_of_covers 7 _ (by decide +kernel) fun t hf y => ?_
  blk_simp
  obtain ⟨r, n, rfl⟩ : ∃ (r : Fin 512) (n : Fin 1536), y = ix3 0 r n := ⟨y 1, y 2, (eq_ix3 y).trans (congrArg (fun z => ix3 z (y 1) (y 2)) (Subsingleton.elim (α := Fin 1) _ _))⟩
  have ht := t_lt t
  have o : (win0_7.blk t).view.emb (ix3 0 r n) = ix3 ⟨t.val / 16, by omega⟩ ⟨t.val % 16 * 512 + r.val, by omega⟩ n := by
    obtain ⟨e0, e1, e2, e3, e4, e5, e6, e7, e8⟩ := idx t
    blk_ext [idx t]
  rw [after0_7, o]
  exact out7_eq m c t r n

end Cert.Proof.EvenInIdeal
end
-- ==== Proof.AttnV.Row.lean ====
module

public import Idealize.ShloMosaic.PureOps.Ideal
public import Idealize.ShloMosaic.Lib.Pointwise

/-!
One query row of causal softmax attention over the extended reals. The kernel takes the keys block by block with a
running maximum; the reference takes them all at once. Both weighted sums are the same quotient of finite sums of real
exponentials, whatever real number is subtracted in the exponent.
-/

@[expose] public section

noncomputable section

namespace Cert.Proof.AttnRow

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from minus infinity, of numbers that are real or minus infinity and not all minus infinity is real. -/
theorem fold_max_real {n : ℕ} (f : Fin n → EReal) (htop : ∀ i, f i ≠ ⊤) (i₀ : Fin n) (h₀ : f i₀ ≠ ⊥) :
    ∃ μ : ℝ, Finset.fold max (⊥ : EReal) f Finset.univ = (μ : EReal) := by
  have hle : f i₀ ≤ Finset.fold max (⊥ : EReal) f Finset.univ :=
    (Finset.le_fold_max _).mpr (Or.inr ⟨i₀, Finset.mem_univ _, le_rfl⟩)
  have hlt : Finset.fold max (⊥ : EReal) f Finset.univ < ⊤ :=
    (Finset.fold_max_lt _).mpr ⟨bot_lt_top, fun i _ => lt_top_iff_ne_top.mpr (htop i)⟩
  refine ⟨_, (EReal.coe_toReal hlt.ne fun h => h₀ ?_).symm⟩
  rw [h] at hle
  exact le_bot_iff.mp hle

/-- The sum over all indices below a bound, zero from `t` on, is the sum over the first `t`. -/
theorem sum_ite_lt {n : ℕ} (t : ℕ) (ht : t ≤ n) (f : ℕ → ℝ) :
    (∑ i : Fin n, if i.val < t then f i.val else 0) = ∑ i ∈ Finset.range t, f i := by
  rw [Fin.sum_univ_eq_sum_range (fun i => if i < t then f i else 0) n, ← Finset.sum_filter]
  congr 1
  ext i
  simp only [Finset.mem_filter, Finset.mem_range]
  omega

/-- The weight of key `k` against `μ`. -/
abbrev wt (s : ℕ → ℝ) (μ : ℝ) (k : ℕ) : ℝ := Real.exp (s k - μ)

/-- The exponential of a score that is minus infinity from `t` on. -/
theorem exp_masked (p : Prop) [Decidable p] (x μ : ℝ) :
    Ideal.exp ((if p then (x : EReal) else ⊥) - (μ : EReal)) = ((if p then Real.exp (x - μ) else 0 : ℝ) : EReal) := by
  split
  · rw [← EReal.coe_sub]; rfl
  · rw [EReal.bot_sub]; rfl

/-- The three running numbers of a row: maximum, sum and weighted values. -/
structure Run where
  m : EReal
  l : EReal
  a : Fin 128 → EReal

/-- One key block: its scores `sb` and values `vb`. -/
def step (sb : Fin 512 → EReal) (vb : Fin 512 → Fin 128 → EReal) (u : Run) : Run where
  m := max u.m (Finset.fold max ⊥ sb Finset.univ)
  l := Ideal.exp (u.m - max u.m (Finset.fold max ⊥ sb Finset.univ)) * u.l
    + ∑ k, Ideal.exp (sb k - max u.m (Finset.fold max ⊥ sb Finset.univ))
  a e := Ideal.exp (u.m - max u.m (Finset.fold max ⊥ sb Finset.univ)) * u.a e
    + ∑ k, Ideal.exp (sb k - max u.m (Finset.fold max ⊥ sb Finset.univ)) * vb k e

/-- The running numbers stand for the first `n` keys: none yet, or the sums against some real number. -/
def Rep (s : ℕ → ℝ) (v : ℕ → Fin 128 → ℝ) (n : ℕ) (u : Run) : Prop :=
  (n = 0 ∧ u.m = ⊥ ∧ u.l = 0 ∧ ∀ e, u.a e = 0)
    ∨ ∃ μ : ℝ, u.m = μ ∧ u.l = ((∑ k ∈ Finset.range n, wt s μ k : ℝ) : EReal)
      ∧ ∀ e, u.a e = ((∑ k ∈ Finset.range n, wt s μ k * v k e : ℝ) : EReal)

/-- A key block of which the first `t` keys count, at least one, takes the first `n` keys to the first `n + t`. -/
theorem Rep.step {s : ℕ → ℝ} {v : ℕ → Fin 128 → ℝ} {n : ℕ} {u : Run} (h : Rep s v n u) (t : ℕ) (ht0 : 0 < t) (ht : t ≤ 512)
    {sb : Fin 512 → EReal} {vb : Fin 512 → Fin 128 → EReal}
    (hs : ∀ k, sb k = if k.val < t then (s (n + k.val) : EReal) else ⊥) (hv : ∀ k e, vb k e = (v (n + k.val) e : EReal)) :
    Rep s v (n + t) (step sb vb u) := by
  obtain ⟨M, hM⟩ : ∃ M : ℝ, Finset.fold max (⊥ : EReal) sb Finset.univ = (M : EReal) := by
    refine fold_max_real sb (fun i => ?_) ⟨0, by omega⟩ ?_
    · rw [hs]; split
      · exact EReal.coe_ne_top _
      · exact bot_ne_top
    · rw [hs, if_pos (by exact ht0)]; exact EReal.coe_ne_bot _
  have hl (μ : ℝ) : ∑ k, Ideal.exp (sb k - (μ : EReal)) = ((∑ k ∈ Finset.range t, wt s μ (n + k) : ℝ) : EReal) := by
    rw [← sum_ite_lt t ht fun k => wt s μ (n + k), coe_sum]
    exact Finset.sum_congr rfl fun k _ => by rw [hs, exp_masked]
  have ha (μ : ℝ) (e : Fin 128) : ∑ k, Ideal.exp (sb k - (μ : EReal)) * vb k e
      = ((∑ k ∈ Finset.range t, wt s μ (n + k) * v (n + k) e : ℝ) : EReal) := by
    rw [← sum_ite_lt t ht fun k => wt s μ (n + k) * v (n + k) e, coe_sum]
    refine Finset.sum_congr rfl fun k _ => ?_
    rw [hs, exp_masked, hv, ← EReal.coe_mul, ite_mul, zero_mul]
  obtain ⟨rfl, hm, hl0, ha0⟩ | ⟨μ, hm, hl0, ha0⟩ := h
  · refine Or.inr ⟨M, ?_, ?_, fun e => ?_⟩
    · simp only [AttnRow.step, hm, hM, bot_le, max_eq_right]
    · simp only [AttnRow.step, hm, hM, hl0, bot_le, max_eq_right, hl, mul_zero, zero_add]
    · simp only [AttnRow.step, hm, hM, ha0, bot_le, max_eq_right, ha, mul_zero, zero_add]
  · have hmax : max (μ : EReal) (M : EReal) = ((max μ M : ℝ) : EReal) := (EReal.coe_strictMono.monotone.map_max (a := μ) (b := M)).symm
    have hal : Ideal.exp ((μ : EReal) - ((max μ M : ℝ) : EReal)) = (Real.exp (μ - max μ M) : EReal) := by
      rw [← EReal.coe_sub]; rfl
    have hsh (k : ℕ) : Real.exp (μ - max μ M) * wt s μ k = wt s (max μ M) k := by
      rw [wt, ← Real.exp_add]; congr 1; ring
    refine Or.inr ⟨max μ M, ?_, ?_, fun e => ?_⟩
    · simp only [AttnRow.step, hm, hM, hmax]
    · simp only [AttnRow.step, hm, hM, hmax, hl, hal, hl0]
      rw [← EReal.coe_mul, ← EReal.coe_add, Finset.mul_sum, Finset.sum_range_add]
      simp only [hsh]
    · simp only [AttnRow.step, hm, hM, hmax, ha, hal, ha0]
      rw [← EReal.coe_mul, ← EReal.coe_add, Finset.mul_sum, Finset.sum_range_add]
      simp only [← mul_assoc, hsh]

/-- Softmax attention of a row over its first `n` keys. -/
def soft (s : ℕ → ℝ) (v : ℕ → ℝ) (n : ℕ) : ℝ :=
  (∑ k ∈ Finset.range n, Real.exp (s k) * v k) / ∑ k ∈ Finset.range n, Real.exp (s k)

theorem sum_wt_pos (s : ℕ → ℝ) (μ : ℝ) {n : ℕ} (hn : 0 < n) : 0 < ∑ k ∈ Finset.range n, wt s μ k :=
  Finset.sum_pos (fun k _ => Real.exp_pos _) ⟨0, Finset.mem_range.mpr hn⟩

/-- The number subtracted in the exponent does not matter. -/
theorem soft_eq (s : ℕ → ℝ) (v : ℕ → ℝ) (n : ℕ) (μ : ℝ) :
    (∑ k ∈ Finset.range n, wt s μ k * v k) / ∑ k ∈ Finset.range n, wt s μ k = soft s v n := by
  have h (k : ℕ) : wt s μ k = Real.exp (-μ) * Real.exp (s k) := by rw [wt, ← Real.exp_add]; congr 1; ring
  simp only [h, mul_assoc, ← Finset.mul_sum]
  exact mul_div_mul_left _ _ (Real.exp_pos _).ne'

/-- A quotient of reals with a positive divisor. -/
theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- After all its keys, the row's quotient is the softmax attention. -/
theorem Rep.div {s : ℕ → ℝ} {v : ℕ → Fin 128 → ℝ} {n : ℕ} {u : Run} (h : Rep s v n u) (hn : 0 < n) (e : Fin 128) :
    Ideal.div (u.a e) u.l = (soft s (fun k => v k e) n : EReal) := by
  obtain ⟨rfl, -⟩ | ⟨μ, -, hl, ha⟩ := h
  · omega
  · rw [hl, ha, div_coe _ _ (sum_wt_pos s μ hn), soft_eq s (fun k => v k e)]

/-- The reference's row: the scores masked from `n` on, the maximum subtracted, normalised by the sum. -/
def prob {N : ℕ} (sm : Fin N → EReal) (k : Fin N) : EReal :=
  Ideal.div (Ideal.exp (sm k - max ⊥ (Finset.fold max ⊥ sm Finset.univ)))
    (∑ j, Ideal.exp (sm j - max ⊥ (Finset.fold max ⊥ sm Finset.univ)))

/-- It is a real number, of which the values' sum is the softmax attention. -/
theorem prob_eq {N : ℕ} {sm : Fin N → EReal} {s : ℕ → ℝ} {n : ℕ} (hn : 0 < n) (hN : n ≤ N)
    (hs : ∀ k, sm k = if k.val < n then (s k.val : EReal) else ⊥) :
    ∃ p : ℕ → ℝ, (∀ k, prob sm k = (p k.val : EReal)) ∧ ∀ v : ℕ → ℝ, ∑ k : Fin N, v k.val * p k.val = soft s v n := by
  obtain ⟨M, hM⟩ : ∃ M : ℝ, Finset.fold max (⊥ : EReal) sm Finset.univ = (M : EReal) := by
    refine fold_max_real sm (fun i => ?_) ⟨0, by omega⟩ ?_
    · rw [hs]; split
      · exact EReal.coe_ne_top _
      · exact bot_ne_top
    · rw [hs, if_pos (by exact hn)]; exact EReal.coe_ne_bot _
  have hl : ∑ k, Ideal.exp (sm k - (M : EReal)) = ((∑ k ∈ Finset.range n, wt s M k : ℝ) : EReal) := by
    rw [← sum_ite_lt n hN fun k => wt s M k, coe_sum]
    exact Finset.sum_congr rfl fun k _ => by rw [hs, exp_masked]
  refine ⟨fun k => (if k < n then wt s M k else 0) / ∑ k ∈ Finset.range n, wt s M k, fun k => ?_, fun v => ?_⟩
  · rw [prob, hM, max_eq_right bot_le, hl, hs, exp_masked, div_coe _ _ (sum_wt_pos s M hn)]
  · rw [← soft_eq s v n M, ← sum_ite_lt n hN fun k => wt s M k * v k, Finset.sum_div]
    refine Finset.sum_congr rfl fun k _ => ?_
    show v k.val * ((if k.val < n then wt s M k.val else 0) / _) = _
    by_cases hk : k.val < n
    · rw [if_pos hk, if_pos hk]; ring
    · rw [if_neg hk, if_neg hk]; ring

end Cert.Proof.AttnRow

end
-- ==== Proof.AttnI.Trip.lean ====
module

public import proofs.«01_k».proof.Proof.Gen.KernelIdeal.Frame
public import proofs.«01_k».proof.Proof.Gen.KernelIdeal.Loops
public import Idealize.ShloMosaic.Lib.VecWindow
public import Idealize.ShloMosaic.Lib.WholeRead

/-!
One trip of the attention kernel's loop over earlier key blocks, and the invariants of its two counted loops.

The kernel keeps six scratch buffers: for each of the two attention maps a running row maximum, a running row
sum, and a running weighted sum of value rows. Every trip reads and rewrites each of them whole, so the state of
the loop is a tuple of six arrays and one trip is a function on such tuples.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The six scratch arrays: running maximum, running sum and running weighted values of the first and of the
    second attention map. -/
structure St (F : FTy → Type) where
  m1 : Vec F S512x1 .f32
  l1 : Vec F S512x1 .f32
  a1 : Vec F S512x128 .f32
  m2 : Vec F S512x1 .f32
  l2 : Vec F S512x1 .f32
  a2 : Vec F S512x128 .f32

/-- What one key block `kb` with its value block `vb` makes of the state, for the masked queries `v6` and `v9`. -/
def stepSt (v6 v9 : FVec F S512x128 .bf16) (kb vb : Vec F S1x512x128 .bf16) (s : St F) : St F where
  m1 := k0_pay28 (k0_pay5 v6 kb s.m1)
  l1 := k0_pay8 v6 kb s.m1 s.l1
  a1 := k0_pay9 v6 kb vb s.m1 s.a1
  m2 := k0_pay35 v9 (k0_pay2 kb) s.m2
  l2 := k0_pay33 v9 (k0_pay2 kb) s.m2 s.l2
  a2 := k0_pay34 v9 (k0_pay2 kb) (k0_pay3 vb) s.m2 s.a2

/-- The block of 512 rows at offset `off` of an array of 8192 rows. -/
def rowsAt (X : Vec F S1x8192x128 .bf16) (off : Fin 3 → ℕ) (h : ∀ a, off a + S1x512x128.size a ≤ S1x8192x128.size a) :
    Vec F S1x512x128 .bf16 :=
  View.ld X (Rect.unit (s := S1x8192x128) off S1x512x128.size h)

/-- The state before trip `k` of the loop over the earlier key blocks. -/
def stAt (i : grid0.Coords) (v6 v9 : FVec F S512x128 .bf16) (X1 X2 : Vec F S1x8192x128 .bf16) (s0 : St F) : ℕ → St F
  | 0 => s0
  | k + 1 =>
    if h : k < (k0_t1_loop i).trips then
      stepSt v6 v9 (rowsAt X1 (k0_off1 i ⟨k, h⟩) (k0_off1_inb i ⟨k, h⟩)) (rowsAt X2 (k0_off1 i ⟨k, h⟩) (k0_off1_inb i ⟨k, h⟩))
        (stAt i v6 v9 X1 X2 s0 k)
    else stAt i v6 v9 X1 X2 s0 k

/-- A load of a whole scratch array reads it. -/
theorem read_scratch {sh : Shape} {e : EltTy} (a : Memref sig .tc .vmem sh e) (ha : a.IsWhole) (x : sh.Idx → Elt F e)
    {off : Fin sh.rank → ℕ} (inb : ∀ b, off b + sh.size b ≤ sh.size b) :
    a.view.readAt (Elt F) (Rect.unit off sh.size inb).toLoadRect (ha.unread x) = x := by
  rw [View.readAt_full, ha.read_unread]

/-- A load of 512 rows at an offset reads those rows. -/
theorem read_rows (a : Memref sig .tc .vmem S1x8192x128 .bf16) (ha : a.IsWhole) (X : Vec F S1x8192x128 .bf16)
    (off : Fin 3 → ℕ) (inb : ∀ b, off b + S1x512x128.size b ≤ S1x8192x128.size b) :
    a.view.readAt (Elt F) (Rect.unit (s := S1x8192x128) off S1x512x128.size inb).toLoadRect (ha.unread X) = rowsAt X off inb := by
  funext x; rw [ha.readAt_unread]; rfl

/-- The state the kernel starts from: maxima at the mask's value, sums and weighted values at zero. -/
def initSt : St F := ⟨k0_pay22, k0_pay23, k0_pay24, k0_pay25, k0_pay26, k0_pay27 (Scalar.ofBits .f32 0x00000000#32)⟩

/-- What the diagonal block, its later keys masked, makes of the state. -/
def diagSt (v6 v9 : FVec F S512x128 .bf16) (kb vb : Vec F S1x512x128 .bf16) (s : St F) : St F where
  m1 := k0_pay54 (k0_pay48 v6 kb s.m1)
  l1 := k0_pay52 (k0_pay51 v6 kb s.m1 s.l1)
  a1 := k0_pay53 (k0_pay45 vb) (k0_pay49 v6 kb s.m1) (k0_pay50 v6 kb s.m1) s.a1
  m2 := k0_pay61 (k0_pay56 v9 (k0_pay44 kb) k0_pay46 s.m2)
  l2 := k0_pay59 v9 (k0_pay44 kb) k0_pay46 s.m2 s.l2
  a2 := k0_pay60 (k0_pay45 vb) (k0_pay57 v9 (k0_pay44 kb) k0_pay46 s.m2) (k0_pay58 v9 (k0_pay44 kb) k0_pay46 s.m2) s.a2

section Trip

variable (c : Dev nD) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S512x1 .f32) (harg9 : arg9.IsWhole)
  (arg10 : Memref sig .tc .vmem S512x1 .f32) (harg10 : arg10.IsWhole)
  (arg11 : Memref sig .tc .vmem S512x128 .f32) (harg11 : arg11.IsWhole)
  (arg12 : Memref sig .tc .vmem S512x1 .f32) (harg12 : arg12.IsWhole)
  (arg13 : Memref sig .tc .vmem S512x1 .f32) (harg13 : arg13.IsWhole)
  (arg14 : Memref sig .tc .vmem S512x128 .f32) (harg14 : arg14.IsWhole)

/-- A column of 512 scratch numbers held whole at the contents one store of `x` leaves. -/
abbrev heldCol (a : Memref sig .tc .vmem S512x1 .f32) (x : Vec F S512x1 .f32) : sProp 𝕄 :=
  a.view.loc (c : Thread nD τ) ↦[a.view.set]{fullShare}
    (a.view.writes (Elt F) a.view.junk [⟨Rect.unit (s := S512x1) ![0, 0] S512x1.size inb_S512x1_S512x1_0_0, x⟩])

/-- A 512 by 128 scratch array held whole at the contents one store of `x` leaves. -/
abbrev heldMat (a : Memref sig .tc .vmem S512x128 .f32) (x : Vec F S512x128 .f32) : sProp 𝕄 :=
  a.view.loc (c : Thread nD τ) ↦[a.view.set]{fullShare}
    (a.view.writes (Elt F) a.view.junk [⟨Rect.unit (s := S512x128) ![0, 0] S512x128.size inb_S512x128_S512x128_0_0, x⟩])

/-- What the loops touch: the key and value arrays as given, the six scratch buffers at the state `s`. -/
def loopRes (f4 : Buf (Elt F) (arg4.view.loc (c : Thread nD τ))) (f5 : Buf (Elt F) (arg5.view.loc (c : Thread nD τ))) (s : St F) : sProp 𝕄 :=
  iprop((arg4.view.loc (c : Thread nD τ) ↦[arg4.view.set]{fullShare} f4) ∗ (arg5.view.loc (c : Thread nD τ) ↦[arg5.view.set]{fullShare} f5)
    ∗ heldCol c arg9 s.m1 ∗ heldCol c arg10 s.l1 ∗ heldMat c arg11 s.a1
    ∗ heldCol c arg12 s.m2 ∗ heldCol c arg13 s.l2 ∗ heldMat c arg14 s.a2)

/-- On a whole memref the last whole store alone decides the contents. -/
theorem writes_last {sh : Shape} {e : EltTy} (a : Memref sig .tc .vmem sh e) (ha : a.IsWhole) (f g : a.view.ty.Contents (Elt F))
    {off : Fin sh.rank → ℕ} (inb : ∀ b, off b + sh.size b ≤ sh.size b) (w w' : sh.Idx → Elt F e) (L : List (View.Piece (Elt F) sh e))
    (h : w = w') :
    a.view.writes (Elt F) f ((⟨Rect.unit off sh.size inb, w⟩ : View.Piece (Elt F) sh e) :: L) = a.view.writes (Elt F) g [⟨Rect.unit off sh.size inb, w'⟩] :=
  ha.read_bijective.1 (((View.read_writes_full _ _ _ _ _).trans h).trans (View.read_writes_full _ _ _ _ _).symm)

/-- The same for a held column, -/
theorem heldCol_last (a : Memref sig .tc .vmem S512x1 .f32) (ha : a.IsWhole) (f : a.view.ty.Contents (Elt F)) (w w' : Vec F S512x1 .f32)
    (L : List (View.Piece (Elt F) S512x1 .f32)) (h : w = w') :
    (a.view.loc (c : Thread nD τ) ↦[a.view.set]{fullShare}
      (a.view.writes (Elt F) f ((⟨Rect.unit (s := S512x1) ![0, 0] S512x1.size inb_S512x1_S512x1_0_0, w⟩ : View.Piece (Elt F) S512x1 .f32) :: L)) : sProp 𝕄)
      ⊢ heldCol c a w' := by
  unfold heldCol; rw [writes_last a ha f a.view.junk _ w w' L h]

/-- and for a held 512 by 128 array. -/
theorem heldMat_last (a : Memref sig .tc .vmem S512x128 .f32) (ha : a.IsWhole) (f : a.view.ty.Contents (Elt F)) (w w' : Vec F S512x128 .f32)
    (L : List (View.Piece (Elt F) S512x128 .f32)) (h : w = w') :
    (a.view.loc (c : Thread nD τ) ↦[a.view.set]{fullShare}
      (a.view.writes (Elt F) f ((⟨Rect.unit (s := S512x128) ![0, 0] S512x128.size inb_S512x128_S512x128_0_0, w⟩ : View.Piece (Elt F) S512x128 .f32) :: L)) : sProp 𝕄)
      ⊢ heldMat c a w' := by
  unfold heldMat; rw [writes_last a ha f a.view.junk _ w w' L h]

/-- What a load of a whole scratch column after one store of `x` reads: `x`, -/
abbrev ldCol (a : Memref sig .tc .vmem S512x1 .f32) (x : Vec F S512x1 .f32) : Vec F S512x1 .f32 :=
  a.view.readCov [⟨Rect.unit (s := S512x1) ![0, 0] S512x1.size inb_S512x1_S512x1_0_0, x⟩]
    (Rect.unit (s := S512x1) ![0, 0] S512x1.size inb_S512x1_S512x1_0_0).toLoadRect
theorem ldCol_eq (a : Memref sig .tc .vmem S512x1 .f32) (x : Vec F S512x1 .f32) : ldCol a x = x := View.readCov_full _ _ _ _ _
/-- and of a 512 by 128 array. -/
abbrev ldMat (a : Memref sig .tc .vmem S512x128 .f32) (x : Vec F S512x128 .f32) : Vec F S512x128 .f32 :=
  a.view.readCov [⟨Rect.unit (s := S512x128) ![0, 0] S512x128.size inb_S512x128_S512x128_0_0, x⟩]
    (Rect.unit (s := S512x128) ![0, 0] S512x128.size inb_S512x128_S512x128_0_0).toLoadRect
theorem ldMat_eq (a : Memref sig .tc .vmem S512x128 .f32) (x : Vec F S512x128 .f32) : ldMat a x = x := View.readCov_full _ _ _ _ _

/-- What a load of 512 key or value rows of a whole memref reads. -/
abbrev ldRows (a : Memref sig .tc .vmem S1x8192x128 .bf16) (ha : a.IsWhole) (X : Vec F S1x8192x128 .bf16)
    (off : Fin 3 → ℕ) (inb : ∀ b, off b + S1x512x128.size b ≤ S1x8192x128.size b) : Vec F S1x512x128 .bf16 :=
  a.view.readAt (Elt F) (Rect.unit (s := S1x8192x128) off S1x512x128.size inb).toLoadRect (ha.unread X)

/-- The state as loads of the six scratch buffers read it. -/
abbrev ldSt (s : St F) : St F :=
  ⟨ldCol arg9 s.m1, ldCol arg10 s.l1, ldMat arg11 s.a1, ldCol arg12 s.m2, ldCol arg13 s.l2, ldMat arg14 s.a2⟩
theorem ldSt_eq (s : St F) : ldSt arg9 arg10 arg11 arg12 arg13 arg14 s = s := by
  unfold ldSt; rw [ldCol_eq, ldCol_eq, ldMat_eq, ldCol_eq, ldCol_eq, ldMat_eq]

set_option maxHeartbeats 1000000 in
/-- ONE TRIP, at any trip number: from the state `s` to the state one key block further. -/
theorem trip (arg2 : BitVec 32) (v6 v9 : FVec F S512x128 .bf16) (cst : F .f32) (X1 X2 : Vec F S1x8192x128 .bf16) (s : St F)
    (k : Fin (k0_t1_loop i).trips) :
    loopRes c arg4 arg5 arg9 arg10 arg11 arg12 arg13 arg14 (harg4.unread X1) (harg5.unread X2) s
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11
            arg12 harg12 arg13 harg13 arg14 harg14 arg2 v6 v9 cst k ())
          (fun _ => loopRes c arg4 arg5 arg9 arg10 arg11 arg12 arg13 arg14 (harg4.unread X1) (harg5.unread X2)
            (stepSt v6 v9 (rowsAt X1 (k0_off1 i k) (k0_off1_inb i k)) (rowsAt X2 (k0_off1 i k) (k0_off1_inb i k)) s)) := by
  unfold loopRes
  iintro ⟨H4, H5, H9, H10, H11, H12, H13, H14⟩
  have key : stepSt v6 v9 (ldRows arg4 harg4 X1 (k0_off1 i k) (k0_off1_inb i k)) (ldRows arg5 harg5 X2 (k0_off1 i k) (k0_off1_inb i k))
      (ldSt arg9 arg10 arg11 arg12 arg13 arg14 s)
      = stepSt v6 v9 (rowsAt X1 (k0_off1 i k) (k0_off1_inb i k)) (rowsAt X2 (k0_off1 i k) (k0_off1_inb i k)) s := by
    rw [ldSt_eq]; unfold ldRows; rw [read_rows, read_rows]
  sl_unfold [k0_t1_body]
  simp only [k0_part1_eq_skeleton]
  sl_exec
  sl_step
  isplitl [H4]; · iexact H4
  isplitl [H5]; · iexact H5
  isplitl [H9]; · iapply (heldCol_last c arg9 harg9 _ _ _ _ (congrArg St.m1 key)); iexact H9
  isplitl [H10]; · iapply (heldCol_last c arg10 harg10 _ _ _ _ (congrArg St.l1 key)); iexact H10
  isplitl [H11]; · iapply (heldMat_last c arg11 harg11 _ _ _ _ (congrArg St.a1 key)); iexact H11
  isplitl [H12]; · iapply (heldCol_last c arg12 harg12 _ _ _ _ (congrArg St.m2 key)); iexact H12
  isplitl [H13]; · iapply (heldCol_last c arg13 harg13 _ _ _ _ (congrArg St.l2 key)); iexact H13
  iapply (heldMat_last c arg14 harg14 _ _ _ _ (congrArg St.a2 key)); iexact H14

set_option warn.classDefReducibility false in
@[sl_loop] def loopInv1 (arg2 : BitVec 32) (v6 v9 : FVec F S512x128 .bf16) (cst : F .f32) (X1 X2 : Vec F S1x8192x128 .bf16) :
    LoopInvTy_k0_t1 (F := F) Unit ℕ (UR sig nD τ) ℕ Variants.none c none Set.univ i arg3 harg3 arg4 harg4 arg5 harg5 arg6 harg6 arg7 harg7
      arg8 harg8 arg9 harg9 arg10 harg10 arg11 harg11 arg12 harg12 arg13 harg13 arg14 harg14 arg2 v6 v9 cst where
  inv k _ := loopRes c arg4 arg5 arg9 arg10 arg11 arg12 arg13 arg14 (harg4.unread X1) (harg5.unread X2) (stAt i v6 v9 X1 X2 initSt k)
  step k _ := by
    have e : stAt i v6 v9 X1 X2 initSt (k.val + 1) = stepSt v6 v9 (rowsAt X1 (k0_off1 i k) (k0_off1_inb i k))
        (rowsAt X2 (k0_off1 i k) (k0_off1_inb i k)) (stAt i v6 v9 X1 X2 initSt k.val) := by rw [stAt, dif_pos k.isLt]
    rw [e]
    exact trip (F := F) c i arg3 harg3 arg4 harg4 arg5 harg5 arg6 harg6 arg7 harg7 arg8 harg8 arg9 harg9 arg10 harg10 arg11 harg11
      arg12 harg12 arg13 harg13 arg14 harg14 arg2 v6 v9 cst X1 X2 _ k

/-- The remainder loop makes no trip. -/
theorem trips2_eq (j : grid0.Coords) : (k0_t2_loop j).trips = 0 := Nat.le_zero.mp (k0_t2_abs j).2.1

set_option warn.classDefReducibility false in
@[sl_loop] def loopInv2 (arg2 : BitVec 32) (v6 v9 : FVec F S512x128 .bf16) (cst : F .f32) (v38 : BitVec 32) (X1 X2 : Vec F S1x8192x128 .bf16) :
    LoopInvTy_k0_t2 (F := F) Unit ℕ (UR sig nD τ) ℕ Variants.none c none Set.univ i arg3 harg3 arg4 harg4 arg5 harg5 arg6 harg6 arg7 harg7
      arg8 harg8 arg9 harg9 arg10 harg10 arg11 harg11 arg12 harg12 arg13 harg13 arg14 harg14 arg2 v6 v9 cst v38 where
  inv _ _ := loopRes c arg4 arg5 arg9 arg10 arg11 arg12 arg13 arg14 (harg4.unread X1) (harg5.unread X2) (stAt i v6 v9 X1 X2 initSt (k0_t1_loop i).trips)
  step k _ := (Nat.not_lt_zero _ (Nat.lt_of_lt_of_eq k.isLt (trips2_eq i))).elim

end Trip

end Cert.Proof.KernelIdeal

end
-- ==== Proof.AttnI.Body.lean ====
module

public import proofs.«01_k».proof.Proof.AttnI.Trip

/-!
The attention kernel's body, run once: from its input blocks to the block it stores.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state after every key block at or before the query block, the diagonal one last. -/
def lastSt (i : grid0.Coords) (x0 : Vec F S1x512x128 .bf16) (X1 X2 : Vec F S1x8192x128 .bf16) : St F :=
  diagSt (k0_pay20 x0) (k0_pay21 x0) (rowsAt X1 (k0_off3 i) (k0_off3_inb i)) (rowsAt X2 (k0_off3 i) (k0_off3_inb i))
    (stAt i (k0_pay20 x0) (k0_pay21 x0) X1 X2 initSt (k0_t1_loop i).trips)

/-- What the kernel stores from the final state: the difference of the two attention maps' outputs, normalised. -/
def outOf (lam : Vec F S4x64 .f32) (g : Vec F S1x128 .f32) (s : St F) : Vec F S1x512x128 .bf16 :=
  k0_pay1 (k0_pay62 lam s.a1 s.l1 s.a2 s.l2) (k0_pay63 lam s.a1 s.l1 s.a2 s.l2) g

section Body

variable (c : Dev nD) (i : grid0.Coords)
  (arg3 : Memref sig .tc .vmem S1x512x128 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S4x64 .f32) (harg6 : arg6.IsWhole)
  (arg7 : Memref sig .tc .vmem S1x128 .f32) (harg7 : arg7.IsWhole)
  (arg8 : Memref sig .tc .vmem S1x512x128 .bf16) (harg8 : arg8.IsWhole)
  (arg9 : Memref sig .tc .vmem S512x1 .f32) (harg9 : arg9.IsWhole)
  (arg10 : Memref sig .tc .vmem S512x1 .f32) (harg10 : arg10.IsWhole)
  (arg11 : Memref sig .tc .vmem S512x128 .f32) (harg11 : arg11.IsWhole)
  (arg12 : Memref sig .tc .vmem S512x1 .f32) (harg12 : arg12.IsWhole)
  (arg13 : Memref sig .tc .vmem S512x1 .f32) (harg13 : arg13.IsWhole)
  (arg14 : Memref sig .tc .vmem S512x128 .f32) (harg14 : arg14.IsWhole)

set_option maxHeartbeats 2000000 in
/-- THE BODY: on whole buffers, the inputs' at their contents and the output's and the scratch at anything, the body
    runs to the inputs as they were, the output block at `outOf … (lastSt …)`, the scratch at something. -/
theorem bodyRun (x0 : Vec F S1x512x128 .bf16) (X1 X2 : Vec F S1x8192x128 .bf16) (lam : Vec F S4x64 .f32) (g : Vec F S1x128 .f32)
    (K : PUnit → sProp 𝕄) :
    iprop(owns (c : Thread nD τ) arg3 fullShare x0 ∗ owns (c : Thread nD τ) arg4 fullShare X1 ∗ owns (c : Thread nD τ) arg5 fullShare X2
        ∗ owns (c : Thread nD τ) arg6 fullShare lam ∗ owns (c : Thread nD τ) arg7 fullShare g
        ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare X1 ∗ owns (c : Thread nD τ) arg5 fullShare X2
            ∗ owns (c : Thread nD τ) arg6 fullShare lam ∗ owns (c : Thread nD τ) arg7 fullShare g
            ∗ owns (c : Thread nD τ) arg8 fullShare (outOf lam g (lastSt i x0 X1 X2))
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) Set.univ
          (cc0_diff_attention i arg3 harg3 arg4 harg4 arg5 harg5 arg6 harg6 arg7 harg7 arg8 harg8 arg9 harg9 arg10 harg10 arg11 harg11
            arg12 harg12 arg13 harg13 arg14 harg14) K := by
  simp only [cc0_diff_attention_eq_skeleton]; unfold cc0_diff_attention_skel
  simp only [k0_part3_eq_skeleton, k0_part4_eq_skeleton, k0_part5_eq_skeleton, k0_part6_eq_skeleton]
  unfold owns
  iintro ⟨⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg3.eq_unread h3; obtain rfl := harg4.eq_unread h4; obtain rfl := harg5.eq_unread h5
  obtain rfl := harg6.eq_unread h6; obtain rfl := harg7.eq_unread h7
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; (· iexact H8); ipureintro
    refine (View.read_writes_full _ _ _ _ _).trans ?_
    unfold bodyRun.sl.r_11 bodyRun.sl.r_12
    have e3 := read_scratch arg3 harg3 x0 inb_S1x512x128_S1x512x128_0_0_0
    have hq1 : bodyRun.sl.r c arg3 harg3 x0 = k0_pay20 x0 := by unfold bodyRun.sl.r; exact congrArg k0_pay20 e3
    have hq2 : bodyRun.sl.r_1 c arg3 harg3 x0 = k0_pay21 x0 := by unfold bodyRun.sl.r_1; exact congrArg k0_pay21 e3
    have hk : ldRows arg4 harg4 X1 (k0_off3 i) (k0_off3_inb i) = rowsAt X1 (k0_off3 i) (k0_off3_inb i) := read_rows _ _ _ _ _
    have hk' := hk; unfold ldRows at hk'
    have hv : ldRows arg5 harg5 X2 (k0_off3 i) (k0_off3_inb i) = rowsAt X2 (k0_off3 i) (k0_off3_inb i) := read_rows _ _ _ _ _
    have hr2 : bodyRun.sl.r_2 i arg4 harg4 X1 = k0_pay44 (rowsAt X1 (k0_off3 i) (k0_off3_inb i)) := by
      unfold bodyRun.sl.r_2; exact congrArg k0_pay44 hk
    have hr3 : bodyRun.sl.r_3 i arg5 harg5 X2 = k0_pay45 (rowsAt X2 (k0_off3 i) (k0_off3_inb i)) := by
      unfold bodyRun.sl.r_3; exact congrArg k0_pay45 hv
    have h_m1 : bodyRun.sl.v53 c i arg3 harg3 arg9 x0 X1 X2 = (stAt i (k0_pay20 x0) (k0_pay21 x0) X1 X2 initSt (k0_t1_loop i).trips).m1 := by
      rw [← hq1, ← hq2]; unfold bodyRun.sl.v53; exact View.readCov_full _ _ _ _ _
    have h_l1 : bodyRun.sl.v62 c i arg3 harg3 arg10 x0 X1 X2 = (stAt i (k0_pay20 x0) (k0_pay21 x0) X1 X2 initSt (k0_t1_loop i).trips).l1 := by
      rw [← hq1, ← hq2]; unfold bodyRun.sl.v62; exact View.readCov_full _ _ _ _ _
    have h_a1 : bodyRun.sl.v70 c i arg3 harg3 arg11 x0 X1 X2 = (stAt i (k0_pay20 x0) (k0_pay21 x0) X1 X2 initSt (k0_t1_loop i).trips).a1 := by
      rw [← hq1, ← hq2]; unfold bodyRun.sl.v70; exact View.readCov_full _ _ _ _ _
    have h_m2 : bodyRun.sl.v85 c i arg3 harg3 arg12 x0 X1 X2 = (stAt i (k0_pay20 x0) (k0_pay21 x0) X1 X2 initSt (k0_t1_loop i).trips).m2 := by
      rw [← hq1, ← hq2]; unfold bodyRun.sl.v85; exact View.readCov_full _ _ _ _ _
    have h_l2 : bodyRun.sl.v94 c i arg3 harg3 arg13 x0 X1 X2 = (stAt i (k0_pay20 x0) (k0_pay21 x0) X1 X2 initSt (k0_t1_loop i).trips).l2 := by
      rw [← hq1, ← hq2]; unfold bodyRun.sl.v94; exact View.readCov_full _ _ _ _ _
    have h_a2 : bodyRun.sl.v102 c i arg3 harg3 arg14 x0 X1 X2 = (stAt i (k0_pay20 x0) (k0_pay21 x0) X1 X2 initSt (k0_t1_loop i).trips).a2 := by
      rw [← hq1, ← hq2]; unfold bodyRun.sl.v102; exact View.readCov_full _ _ _ _ _
    have e130 : bodyRun.sl.v130 c i arg3 harg3 arg4 harg4 arg5 harg5 arg9 arg11 x0 X1 X2 = (lastSt i x0 X1 X2).a1 := by
      unfold bodyRun.sl.v130; refine (View.readCov_full _ _ _ _ _).trans ?_
      unfold bodyRun.sl.r_5
      unfold bodyRun.sl.r_6
      rw [hr3, hq1, h_m1, h_a1, hk']
      rfl
    have e131 : bodyRun.sl.v131 c i arg3 harg3 arg4 harg4 arg9 arg10 x0 X1 X2 = (lastSt i x0 X1 X2).l1 := by
      unfold bodyRun.sl.v131; refine (View.readCov_full _ _ _ _ _).trans ?_
      unfold bodyRun.sl.r_7
      rw [hq1, h_m1, h_l1, hk']
      rfl
    have e134 : bodyRun.sl.v134 c i arg3 harg3 arg4 harg4 arg5 harg5 arg12 arg14 x0 X1 X2 = (lastSt i x0 X1 X2).a2 := by
      unfold bodyRun.sl.v134; refine (View.readCov_full _ _ _ _ _).trans ?_
      unfold bodyRun.sl.r_9
      unfold bodyRun.sl.r_10
      rw [hr3, hr2, hq2, h_m2, h_a2]
      rfl
    have e135 : bodyRun.sl.v135 c i arg3 harg3 arg4 harg4 arg12 arg13 x0 X1 X2 = (lastSt i x0 X1 X2).l2 := by
      unfold bodyRun.sl.v135; refine (View.readCov_full _ _ _ _ _).trans ?_
      rw [hr2, hq2, h_m2, h_l2]
      rfl
    rw [e130, e131, e134, e135]
    exact congrArg₂ (fun l g => k0_pay1 (k0_pay62 l _ _ _ _) (k0_pay63 l _ _ _ _) g)
      (read_scratch arg6 harg6 lam inb_S4x64_S4x64_0_0) (read_scratch arg7 harg7 g inb_S1x128_S1x128_0_0)
  isplitl [H9]
  · iexists _, _; isplitr; swap; (· iexact H9)
    ipureintro; rfl
  isplitl [H10]
  · iexists _, _; isplitr; swap; (· iexact H10)
    ipureintro; rfl
  isplitl [H11]
  · iexists _, _; isplitr; swap; (· iexact H11)
    ipureintro; rfl
  isplitl [H12]
  · iexists _, _; isplitr; swap; (· iexact H12)
    ipureintro; rfl
  isplitl [H13]
  · iexists _, _; isplitr; swap; (· iexact H13)
    ipureintro; rfl
  iexists _, _; isplitr; swap; (· iexact H14)
  ipureintro; rfl

end Body

end Cert.Proof.KernelIdeal

end
-- ==== Proof.AttnI.Run.lean ====
module

public import proofs.«01_k».proof.Proof.AttnI.Body
public import Idealize.ShloMosaic.Lib.Claim

/-!
The idealised attention program as a whole: the body at every grid point, the launch, and what the result array and the
arguments hold at the end.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block that grid point `t` stores, from the five input blocks it is handed. -/
def outAt (c : Dev nD) (t : Fin cfg0.N) : Vec F S1x512x128 .bf16 :=
  outOf (iblk m c 3 t) (iblk m c 4 t) (lastSt (grid0.coords t) (iblk m c 0 t) (iblk m c 1 t) (iblk m c 2 t))

/-- The pipeline's proof data: the arrays as the launch finds them; after the body at point `t` every input window's
    buffer at its block and the output window's at `outAt`. The three windows on the packed queries, keys and values
    share that array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The region's invariant opened: the six scratch buffers at something, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 800000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩⟩
  iapply (bodyRun c (grid0.coords t) _ _ _ _ _ _ _ _ _ _ _ _ _ _ _ _ _ _ _ _ _ _ _ _ (iblk m c 0 t) (iblk m c 1 t) (iblk m c 2 t) (iblk m c 3 t) (iblk m c 4 t))
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as called there. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: every weakly fair execution ends with each window's array at what the proof data give, everything
    else as the launch found it, and every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every semaphore counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.AttnV.State.lean ====
module

public import proofs.«01_k».proof.Proof.AttnV.Row
public import proofs.«01_k».proof.Proof.AttnI.Run

/-!
The attention kernel's state read row by row: each block's update is `AttnRow.step` on each of the two maps.
-/

@[expose] public section

set_option maxRecDepth 16384

noncomputable section

namespace Cert.Proof.KernelIdeal

open Cert.KernelIdeal Cert.KernelIdeal.Gen Cert.Proof.AttnRow Idealize.ShloMosaic Idealize.ShloMosaic.TcCoe Idealize.SL.Sem

/-- The first map's running numbers in row `r`. -/
def row1 (s : St Ideal) (r : Fin 512) : Run := ⟨s.m1 (ix2 r 0), s.l1 (ix2 r 0), fun e => s.a1 (ix2 r e)⟩

/-- The second map's running numbers in row `r`. -/
def row2 (s : St Ideal) (r : Fin 512) : Run := ⟨s.m2 (ix2 r 0), s.l2 (ix2 r 0), fun e => s.a2 (ix2 r e)⟩

theorem run_ext {u w : Run} (hm : u.m = w.m) (hl : u.l = w.l) (ha : ∀ e, u.a e = w.a e) : u = w := by
  cases u; cases w; cases hm; cases hl; cases funext ha; rfl

/-- The word of minus infinity is minus infinity. -/
theorem ofBits_negInf : Ideal.ofBits .f32 0xFF800000#32 = ⊥ := by
  unfold Ideal.ofBits; rfl

/-- The mask's constant is minus infinity. -/
theorem mask_eq : (Named.named κ "mask" 0xF149F2CA#32 : Ideal .f32) = (⊥ : EReal) :=
  IdealRules.named_const.ideal_named_scalar _ _ _ _ rfl

/-- A choice by an order of two small words is a choice by the order of the numbers. -/
theorem sel_le {α : Type} (a b : ℕ) (ha : a < 2 ^ 31) (hb : b < 2 ^ 31) (x y : α) :
    Scalar.select (IntOp.cmpi .sle (BitVec.ofNat 32 a) (BitVec.ofNat 32 b)) x y = if a < b + 1 then x else y := by
  rw [WordCmp.cmpi_sle_ofNat ha hb, WordCmp.select_ofBool]
  simp only [decide_eq_true_eq, Nat.lt_succ_iff]

/-- A query row against a key row. -/
def dot (q : FVec Ideal S512x128 .bf16) (kb : Vec Ideal S1x512x128 .bf16) (r k : Fin 512) : EReal :=
  ∑ x : Fin 128, q (ix2 r x) * kb (ix3 0 k x)

/-- The score that the diagonal block counts. -/
def dotMasked (q : FVec Ideal S512x128 .bf16) (kb : Vec Ideal S1x512x128 .bf16) (r k : Fin 512) : EReal :=
  if k.val < r.val + 1 then dot q kb r k else ⊥

variable (v6 v9 : FVec Ideal S512x128 .bf16) (kb vb : Vec Ideal S1x512x128 .bf16) (s : St Ideal) (r : Fin 512)

theorem row1_step : row1 (stepSt v6 v9 kb vb s) r = step (dot v6 kb r) (fun k e => vb (ix3 0 k e)) (row1 s r) := by
  refine run_ext ?_ ?_ fun e => ?_ <;> simp only [row1, stepSt, step, dot, ← ofBits_negInf]
  · pointwise [k0_pay28, k0_pay5, k0_pay4, k0_pay2]; rfl
  · pointwise [k0_pay8, k0_pay7, k0_pay6, k0_pay5, k0_pay4, k0_pay2]; rfl
  · pointwise [k0_pay9, k0_pay7, k0_pay6, k0_pay5, k0_pay4, k0_pay2, k0_pay3]; rfl

theorem row2_step : row2 (stepSt v6 v9 kb vb s) r = step (dot v9 kb r) (fun k e => vb (ix3 0 k e)) (row2 s r) := by
  refine run_ext ?_ ?_ fun e => ?_ <;> simp only [row2, stepSt, step, dot, ← ofBits_negInf]
  · pointwise [k0_pay35, k0_pay30, k0_pay29, k0_pay2]; rfl
  · pointwise [k0_pay33, k0_pay32, k0_pay31, k0_pay30, k0_pay29, k0_pay2]; rfl
  · pointwise [k0_pay34, k0_pay32, k0_pay31, k0_pay30, k0_pay29, k0_pay2, k0_pay3]; rfl

/-- The diagonal block's scores in the first map. -/
theorem pay47_apply (k : Fin 512) : k0_pay47 v6 kb (ix2 r k) = dotMasked v6 kb r k := by
  pointwise [k0_pay47, k0_pay46, k0_pay44]
  rw [mask_eq, sel_le _ _ (by omega) (by omega)]
  rfl

/-- The diagonal block's scores in the second map. -/
theorem pay55_apply (k : Fin 512) : k0_pay55 v9 (k0_pay44 kb) k0_pay46 (ix2 r k) = dotMasked v9 kb r k := by
  pointwise [k0_pay55, k0_pay46, k0_pay44]
  rw [mask_eq, sel_le _ _ (by omega) (by omega)]
  rfl

theorem row1_diag : row1 (diagSt v6 v9 kb vb s) r = step (dotMasked v6 kb r) (fun k e => vb (ix3 0 k e)) (row1 s r) := by
  refine run_ext ?_ ?_ fun e => ?_ <;> simp only [row1, diagSt, step, ← ofBits_negInf, ← pay47_apply]
  · pointwise [k0_pay54, k0_pay48]
  · pointwise [k0_pay52, k0_pay51, k0_pay50, k0_pay49, k0_pay48]
  · pointwise [k0_pay53, k0_pay50, k0_pay49, k0_pay48, k0_pay45]

theorem row2_diag : row2 (diagSt v6 v9 kb vb s) r = step (dotMasked v9 kb r) (fun k e => vb (ix3 0 k e)) (row2 s r) := by
  refine run_ext ?_ ?_ fun e => ?_ <;> simp only [row2, diagSt, step, ← ofBits_negInf, ← pay55_apply]
  · pointwise [k0_pay61, k0_pay56]
  · pointwise [k0_pay59, k0_pay58, k0_pay57, k0_pay56]
  · pointwise [k0_pay60, k0_pay58, k0_pay57, k0_pay56, k0_pay45]

/-- The state the kernel starts from stands for no key. -/
theorem row1_init (S : ℕ → ℝ) (V : ℕ → Fin 128 → ℝ) : Rep S V 0 (row1 initSt r) := by
  refine Or.inl ⟨rfl, ?_, ?_, fun e => ?_⟩ <;> unfold row1 initSt
  · pointwise [k0_pay22]; exact mask_eq
  · pointwise [k0_pay23]
  · pointwise [k0_pay24]

theorem row2_init (S : ℕ → ℝ) (V : ℕ → Fin 128 → ℝ) : Rep S V 0 (row2 initSt r) := by
  refine Or.inl ⟨rfl, ?_, ?_, fun e => ?_⟩ <;> unfold row2 initSt
  · pointwise [k0_pay25]; exact mask_eq
  · pointwise [k0_pay26]
  · pointwise [k0_pay27]

/-- The queries of the first map: lanes from 64 on at zero. -/
theorem pay20_apply (x0 : Vec Ideal S1x512x128 .bf16) (d : Fin 128) :
    k0_pay20 x0 (ix2 r d) = if d.val < 64 then x0 (ix3 0 r d) else 0 := by
  pointwise [k0_pay20, k0_pay18, k0_pay19]
  rw [WordCmp.cmpi_slt_ofNat (by omega) (by omega), WordCmp.select_ofBool]
  simp only [decide_eq_true_eq]

/-- The queries of the second map: lanes before 64 at zero. -/
theorem pay21_apply (x0 : Vec Ideal S1x512x128 .bf16) (d : Fin 128) :
    k0_pay21 x0 (ix2 r d) = if d.val < 64 then 0 else x0 (ix3 0 r d) := by
  pointwise [k0_pay21, k0_pay18, k0_pay19]
  rw [WordCmp.cmpi_sge_ofNat (by omega) (by omega), WordCmp.select_ofBool]
  simp only [decide_eq_true_eq]
  split <;> split <;> first | rfl | omega

end Cert.Proof.KernelIdeal

end
-- ==== Proof.AttnV.Spec.lean ====
module

public import proofs.«01_k».proof.Proof.AttnV.Row

/-!
What the differential attention computes, row by row, for real queries, keys and values.
-/

@[expose] public section

set_option maxRecDepth 16384

noncomputable section

namespace Cert.Proof.AttnRow

open Idealize.ShloMosaic

/-- Lane `d` of map `c` among a head's 128 lanes. -/
def lane (c : Fin 2) (d : Fin 64) : Fin 128 := ⟨c.val * 64 + d.val, by omega⟩

/-- A query row's score against key `k` in map `c`. -/
def score (q : Fin 128 → ℝ) (key : Fin 8192 → Fin 128 → ℝ) (c : Fin 2) (k : ℕ) : ℝ :=
  if h : k < 8192 then ∑ d : Fin 64, q (lane c d) * key ⟨k, h⟩ (lane c d) else 0

/-- The value of key `k`. -/
def value (val : Fin 8192 → Fin 128 → ℝ) (k : ℕ) (e : Fin 128) : ℝ :=
  if h : k < 8192 then val ⟨k, h⟩ e else 0

theorem score_of_lt (q : Fin 128 → ℝ) (key : Fin 8192 → Fin 128 → ℝ) (c : Fin 2) (k : ℕ) (h : k < 8192) :
    score q key c k = ∑ d : Fin 64, q (lane c d) * key ⟨k, h⟩ (lane c d) := dif_pos h

theorem value_of_lt (val : Fin 8192 → Fin 128 → ℝ) (k : ℕ) (e : Fin 128) (h : k < 8192) : value val k e = val ⟨k, h⟩ e := dif_pos h

/-- The first map's attention less `lam` times the second's, over the first `n` keys. -/
def mixed (q : Fin 128 → ℝ) (key val : Fin 8192 → Fin 128 → ℝ) (lam : EReal) (n : ℕ) (e : Fin 128) : EReal :=
  (soft (score q key 0) (fun k => value val k e) n : EReal) - lam * (soft (score q key 1) (fun k => value val k e) n : EReal)

/-- The weight of the second map, from its four rows of parameters. -/
def lamOf (p : Fin 4 → Fin 64 → EReal) : EReal :=
  Ideal.exp (∑ x, p 0 x * p 1 x) - Ideal.exp (∑ x, p 2 x * p 3 x) + Ideal.ofBits .f32 0x3E4CCCCD#32

/-- The head's normalisation, gain and output factor. -/
def rowNorm (y g : Fin 128 → EReal) (e : Fin 128) : EReal :=
  y e * Ideal.rsqrt (Ideal.div (∑ x, y x * y x) (Ideal.ofBits .f32 0x43000000#32) + Ideal.ofBits .f32 0x358637BD#32)
    * g e * Ideal.ofBits .f32 0x3F4CCCCD#32

/-- Head `h`'s query in row `r` of sequence `b`, out of the packed queries, keys and values. -/
def queryOf (x : Fin 2 → Fin 8192 → Fin 1536 → ℝ) (b : Fin 2) (r : Fin 8192) (h : Fin 4) (d : Fin 128) : ℝ :=
  x b r ⟨h.val * 128 + d.val, by omega⟩

/-- Head `h`'s keys. -/
def keyOf (x : Fin 2 → Fin 8192 → Fin 1536 → ℝ) (b : Fin 2) (h : Fin 4) (k : Fin 8192) (d : Fin 128) : ℝ :=
  x b k ⟨512 + (h.val * 128 + d.val), by omega⟩

/-- Head `h`'s values. -/
def valueOf (x : Fin 2 → Fin 8192 → Fin 1536 → ℝ) (b : Fin 2) (h : Fin 4) (k : Fin 8192) (d : Fin 128) : ℝ :=
  x b k ⟨1024 + (h.val * 128 + d.val), by omega⟩

/-- The layer's attention as one function of its arguments: element `e` of head `h` stands in column `128 h + e`. -/
def spec (x : Fin 2 → Fin 8192 → Fin 1536 → ℝ) (p : Fin 4 → Fin 64 → EReal) (g : Fin 128 → EReal) :
    (⟨3, ![2, 8192, 512]⟩ : Shape).Idx → EReal := fun j =>
  have h : Fin 4 := ⟨(j 2).val / 128, by have h : (j 2).val < 512 := (j 2).isLt; omega⟩
  rowNorm (mixed (queryOf x (j 0) (j 1) h) (keyOf x (j 0) h) (valueOf x (j 0) h) (lamOf p) ((j 1).val + 1)) g
    ⟨(j 2).val % 128, by omega⟩

theorem spec_apply (x : Fin 2 → Fin 8192 → Fin 1536 → ℝ) (p : Fin 4 → Fin 64 → EReal) (g : Fin 128 → EReal)
    (b : Fin 2) (r : Fin 8192) (i : Fin 512) :
    spec x p g (ix3 b r i) = rowNorm (mixed (queryOf x b r ⟨i.val / 128, by omega⟩) (keyOf x b ⟨i.val / 128, by omega⟩)
      (valueOf x b ⟨i.val / 128, by omega⟩) (lamOf p) (r.val + 1)) g ⟨i.val % 128, by omega⟩ := rfl

/-- A sum over 128 lanes, those of the second map at zero. -/
theorem sum_lane0 (f : Fin 128 → ℝ) : (∑ d : Fin 128, if d.val < 64 then f d else 0) = ∑ d : Fin 64, f (lane 0 d) := by
  have h := Fin.sum_univ_add (a := 64) (b := 64) fun d : Fin (64 + 64) => if d.val < 64 then f d else 0
  refine h.trans ?_
  rw [Finset.sum_eq_zero (f := fun i : Fin 64 => if (Fin.natAdd 64 i).val < 64 then f (Fin.natAdd 64 i) else 0) fun i _ => if_neg (by simp), add_zero]
  exact Finset.sum_congr rfl fun d _ => (if_pos (by simp)).trans (congrArg f (Fin.ext (by simp [lane])))

/-- A sum over 128 lanes, those of the first map at zero. -/
theorem sum_lane1 (f : Fin 128 → ℝ) : (∑ d : Fin 128, if d.val < 64 then 0 else f d) = ∑ d : Fin 64, f (lane 1 d) := by
  have h := Fin.sum_univ_add (a := 64) (b := 64) fun d : Fin (64 + 64) => if d.val < 64 then 0 else f d
  refine h.trans ?_
  rw [Finset.sum_eq_zero (f := fun i : Fin 64 => if (Fin.castAdd 64 i).val < 64 then 0 else f (Fin.castAdd 64 i)) fun i _ => if_pos (by simp), zero_add]
  exact Finset.sum_congr rfl fun d _ => (if_neg (by simp)).trans (congrArg f (Fin.ext (by simp [lane, Nat.add_comm])))

end Cert.Proof.AttnRow

end
-- ==== Proof.AttnV.Kernel.lean ====
module

public import proofs.«01_k».proof.Proof.AttnV.State
public import proofs.«01_k».proof.Proof.AttnV.Spec
public import Idealize.ShloMosaic.Lib.Pipeline.ValueKit.Point

/-!
The attention kernel's block: the key loop followed to its end, and the block stored, element by element.
-/

@[expose] public section

set_option maxRecDepth 16384

noncomputable section

namespace Cert.Proof.KernelIdeal

open Cert.KernelIdeal Cert.KernelIdeal.Gen Cert.Proof.AttnRow Idealize.ShloMosaic Idealize.ShloMosaic.TcCoe Idealize.SL.Sem

/-- The key loop runs once for each block before the diagonal. -/
theorem trips1_eq : ∀ i : grid0.Coords, (k0_t1_loop i).trips = (i 2).val := by decide +kernel

/-- Rows loaded from row `n` on. -/
theorem rowsAt_apply (X : Vec Ideal S1x8192x128 .bf16) (off : Fin 3 → ℕ) (h) (n : ℕ) (e : off = ![0, n, 0]) (r : Fin 512) (d : Fin 128)
    (hb : n + r.val < 8192) : rowsAt X off h (ix3 0 r d) = X (ix3 0 ⟨n + r.val, hb⟩ d) := by
  subst e
  refine View.ld_unit_apply_of X _ _ _ _ _ fun a => ?_
  fin_cases a
  · rfl
  · rfl
  · exact (Nat.zero_add _).symm

variable (x0 : Vec Ideal S1x512x128 .bf16) (X1 X2 : Vec Ideal S1x8192x128 .bf16)
variable (q : Fin 512 → Fin 128 → ℝ) (key val : Fin 8192 → Fin 128 → ℝ)
variable (hq : ∀ r d, x0 (ix3 0 r d) = (q r d : EReal)) (hk : ∀ k d, X1 (ix3 0 k d) = (key k d : EReal))
  (hv : ∀ k d, X2 (ix3 0 k d) = (val k d : EReal))

include hq hk in
/-- The first map's scores, on real blocks. -/
theorem dot1_eq (off : Fin 3 → ℕ) (h) (n : ℕ) (e : off = ![0, n, 0]) (r k : Fin 512) (hb : n + k.val < 8192) :
    dot (k0_pay20 x0) (rowsAt X1 off h) r k = (score (q r) key 0 (n + k.val) : EReal) := by
  rw [score_of_lt _ _ _ _ hb, ← sum_lane0 fun d => q r d * key ⟨n + k.val, hb⟩ d, coe_sum, dot]
  refine Finset.sum_congr rfl fun d _ => ?_
  rw [pay20_apply, rowsAt_apply X1 off h n e k d hb, hq, hk]
  split
  · rw [EReal.coe_mul]
  · rw [zero_mul]; rfl

include hq hk in
/-- The second map's scores, on real blocks. -/
theorem dot2_eq (off : Fin 3 → ℕ) (h) (n : ℕ) (e : off = ![0, n, 0]) (r k : Fin 512) (hb : n + k.val < 8192) :
    dot (k0_pay21 x0) (rowsAt X1 off h) r k = (score (q r) key 1 (n + k.val) : EReal) := by
  rw [score_of_lt _ _ _ _ hb, ← sum_lane1 fun d => q r d * key ⟨n + k.val, hb⟩ d, coe_sum, dot]
  refine Finset.sum_congr rfl fun d _ => ?_
  rw [pay21_apply, rowsAt_apply X1 off h n e k d hb, hq, hk]
  split
  · rw [zero_mul]; rfl
  · rw [EReal.coe_mul]

include hv in
theorem val_eq (off : Fin 3 → ℕ) (h) (n : ℕ) (e : off = ![0, n, 0]) (k : Fin 512) (d : Fin 128) (hb : n + k.val < 8192) :
    rowsAt X2 off h (ix3 0 k d) = (value val (n + k.val) d : EReal) := by
  rw [rowsAt_apply X2 off h n e k d hb, hv, value_of_lt _ _ _ hb]

include hq hk hv in
/-- After `k` key blocks the state stands for the first `512 k` keys. -/
theorem stAt_rep (i : grid0.Coords) (r : Fin 512) : ∀ k : ℕ, k ≤ (k0_t1_loop i).trips →
    Rep (score (q r) key 0) (value val) (512 * k) (row1 (stAt i (k0_pay20 x0) (k0_pay21 x0) X1 X2 initSt k) r)
      ∧ Rep (score (q r) key 1) (value val) (512 * k) (row2 (stAt i (k0_pay20 x0) (k0_pay21 x0) X1 X2 initSt k) r)
  | 0, _ => ⟨row1_init r _ _, row2_init r _ _⟩
  | k + 1, hk' => by
    obtain ⟨h1, h2⟩ := stAt_rep i r k (by omega)
    have ht : (k0_t1_loop i).trips ≤ 15 := (k0_t1_abs i).2.1
    have hlt : k < (k0_t1_loop i).trips := by omega
    have e := k0_off1_eq i ⟨k, hlt⟩
    have hstep : stAt i (k0_pay20 x0) (k0_pay21 x0) X1 X2 initSt (k + 1) = stepSt (k0_pay20 x0) (k0_pay21 x0)
        (rowsAt X1 (k0_off1 i ⟨k, hlt⟩) (k0_off1_inb i ⟨k, hlt⟩)) (rowsAt X2 (k0_off1 i ⟨k, hlt⟩) (k0_off1_inb i ⟨k, hlt⟩))
        (stAt i (k0_pay20 x0) (k0_pay21 x0) X1 X2 initSt k) := dif_pos hlt
    rw [hstep, row1_step, row2_step]
    refine ⟨h1.step 512 (by decide) le_rfl (fun j => ?_) fun j d => ?_, h2.step 512 (by decide) le_rfl (fun j => ?_) fun j d => ?_⟩
    · rw [if_pos j.isLt]; exact dot1_eq x0 X1 q key hq hk _ _ _ e r j (by omega)
    · exact val_eq X2 val hv _ _ _ e j d (by omega)
    · rw [if_pos j.isLt]; exact dot2_eq x0 X1 q key hq hk _ _ _ e r j (by omega)
    · exact val_eq X2 val hv _ _ _ e j d (by omega)

include hq hk hv in
/-- After the diagonal block the state stands for the keys up to the row's own. -/
theorem lastSt_rep (i : grid0.Coords) (r : Fin 512) :
    Rep (score (q r) key 0) (value val) (512 * (i 2).val + (r.val + 1)) (row1 (lastSt i x0 X1 X2) r)
      ∧ Rep (score (q r) key 1) (value val) (512 * (i 2).val + (r.val + 1)) (row2 (lastSt i x0 X1 X2) r) := by
  obtain ⟨h1, h2⟩ := stAt_rep x0 X1 X2 q key val hq hk hv i r _ le_rfl
  have hi : (i 2).val < 16 := (i 2).isLt
  have e := k0_off3_eq i
  unfold lastSt
  rw [row1_diag, row2_diag]
  rw [trips1_eq] at h1 h2 ⊢
  refine ⟨h1.step (r.val + 1) (by omega) (by omega) (fun j => ?_) fun j d => ?_, h2.step (r.val + 1) (by omega) (by omega) (fun j => ?_) fun j d => ?_⟩
  · rw [dotMasked, dot1_eq x0 X1 q key hq hk _ _ _ e r j (by omega)]
  · exact val_eq X2 val hv _ _ _ e j d (by omega)
  · rw [dotMasked, dot2_eq x0 X1 q key hq hk _ _ _ e r j (by omega)]
  · exact val_eq X2 val hv _ _ _ e j d (by omega)

/-- The two maps' difference, at an element. -/
theorem pay62_apply (lam : Vec Ideal S4x64 .f32) (s : St Ideal) (r : Fin 512) (e : Fin 128) :
    k0_pay62 lam s.a1 s.l1 s.a2 s.l2 (ix2 r e)
      = Ideal.div ((row1 s r).a e) (row1 s r).l - lamOf (fun a x => lam (ix2 a x)) * Ideal.div ((row2 s r).a e) (row2 s r).l := by
  unfold row1 row2 lamOf
  pointwise [k0_pay62]

/-- The normalised block, at an element. -/
theorem pay1_apply (lam : Vec Ideal S4x64 .f32) (s : St Ideal) (g : Vec Ideal S1x128 .f32) (r : Fin 512) (e : Fin 128) :
    outOf lam g s (ix3 0 r e) = rowNorm (fun x => k0_pay62 lam s.a1 s.l1 s.a2 s.l2 (ix2 r x)) (fun x => g (ix2 0 x)) e := by
  unfold outOf rowNorm
  generalize hy : k0_pay62 lam s.a1 s.l1 s.a2 s.l2 = y
  pointwise [k0_pay1, k0_pay63, hy]

include hq hk hv in
/-- The block stored, at an element. -/
theorem out_apply (i : grid0.Coords) (lam : Vec Ideal S4x64 .f32) (g : Vec Ideal S1x128 .f32) (r : Fin 512) (e : Fin 128) :
    outOf lam g (lastSt i x0 X1 X2) (ix3 0 r e)
      = rowNorm (mixed (q r) key val (lamOf fun a x => lam (ix2 a x)) (512 * (i 2).val + (r.val + 1))) (fun x => g (ix2 0 x)) e := by
  obtain ⟨h1, h2⟩ := lastSt_rep x0 X1 X2 q key val hq hk hv i r
  rw [pay1_apply]
  congr 1
  funext x
  rw [pay62_apply, h1.div (by omega), h2.div (by omega)]
  rfl

end Cert.Proof.KernelIdeal

end
-- ==== Proof.AttnV.Ref.lean ====
module

public import proofs.«01_k».proof.Proof.Gen.ReferenceIdeal.Run
public import proofs.«01_k».proof.Proof.AttnV.Spec
public import Idealize.ShloMosaic.Lib.Pointwise
public import Idealize.ShloMosaic.Lib.WordCmp
public import Idealize.ShloMosaic.Lib.Tactic.CleanTypes

/-!
The attention reference read step by step: masked scores, exponentials, probabilities, heads, normalised heads.
-/

@[expose] public section

set_option maxRecDepth 16384

noncomputable section

namespace Cert.Proof.ReferenceIdeal

open Cert.ReferenceIdeal Cert.ReferenceIdeal.Gen Cert.Proof.AttnRow Idealize.ShloMosaic Idealize.ShloMosaic.TcCoe Idealize.SL.Sem

/-- The masked scores of every head, map, query and key. -/
def scores (X : FVec Ideal S2x8192x1536 .bf16) : FVec Ideal S2x4x2x8192x8192 .f32 :=
  select (broadcastInDim S2x4x2x8192x8192 ![3, 4] bcast_S8192x8192_S2x4x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (Host.dotGeneral dot_S2x8192x4x2x64_S2x8192x4x2x64_S2x4x2x8192x8192_4_4_1_1_023_023 none
      (shapeCast _ (extractStridedSlice S2x8192x512 ![0, 0, 0] (extf .f32 X bitsLt_bf16_f32) slices_S2x8192x1536_S2x8192x512_0_0_0) shapeCasts_S2x8192x512_S2x8192x4x2x64)
      (shapeCast _ (extractStridedSlice S2x8192x512 ![0, 0, 512] (extf .f32 X bitsLt_bf16_f32) slices_S2x8192x1536_S2x8192x512_0_0_512) shapeCasts_S2x8192x512_S2x8192x4x2x64))
    (broadcastInDim S2x4x2x8192x8192 ![] bcast_S_S2x4x2x8192x8192 (id (constant S_ .f32 0xFF800000#32)))

/-- Each row's greatest score. -/
def tops (S : FVec Ideal S2x4x2x8192x8192 .f32) : FVec Ideal S2x4x2x8192 .f32 :=
  Host.reduce FloatOps.maximumf S (constant S_ .f32 0xFF800000#32) reducesTo_S2x4x2x8192x8192_S2x4x2x8192_d4 h_S_

/-- The exponentials, each row's greatest score subtracted. -/
def exps (S : FVec Ideal S2x4x2x8192x8192 .f32) (M : FVec Ideal S2x4x2x8192 .f32) : FVec Ideal S2x4x2x8192x8192 .f32 :=
  Host.exp (subf S (broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3
      (maximumf (broadcastInDim S2x4x2x8192 ![] bcast_S_S2x4x2x8192 (constant S_ .f32 0xFF800000#32)) M))))

/-- The probabilities: each row divided by its sum. -/
def probs (E : FVec Ideal S2x4x2x8192x8192 .f32) : FVec Ideal S2x4x2x8192x8192 .f32 :=
  Host.divf E (broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3
      (Host.reduceAdd E (constant S_ .f32 0x00000000#32) reducesTo_S2x4x2x8192x8192_S2x4x2x8192_d4 h_S_)))

/-- The weight of the second map. -/
def lamArr (L : FVec Ideal S4x64 .f32) : FVec Ideal S_ .f32 :=
  addf (subf
      (Host.exp (Host.reduceAdd (mulf (shapeCast _ (extractStridedSlice S1x64 ![0, 0] L slices_S4x64_S1x64_0_0) shapeCasts_S1x64_S64)
        (shapeCast _ (extractStridedSlice S1x64 ![1, 0] L slices_S4x64_S1x64_1_0) shapeCasts_S1x64_S64)) (constant S_ .f32 0x00000000#32) reducesTo_S64_S_d0 h_S_))
      (Host.exp (Host.reduceAdd (mulf (shapeCast _ (extractStridedSlice S1x64 ![2, 0] L slices_S4x64_S1x64_2_0) shapeCasts_S1x64_S64)
        (shapeCast _ (extractStridedSlice S1x64 ![3, 0] L slices_S4x64_S1x64_3_0) shapeCasts_S1x64_S64)) (constant S_ .f32 0x00000000#32) reducesTo_S64_S_d0 h_S_)))
    (constant S_ .f32 0x3E4CCCCD#32)

/-- The heads: the values weighted by the two maps' difference. -/
def heads (X : FVec Ideal S2x8192x1536 .bf16) (P : FVec Ideal S2x4x2x8192x8192 .f32) (lam : FVec Ideal S_ .f32) : FVec Ideal S2x8192x4x128 .f32 :=
  transpose S2x8192x4x128 [0, 3, 1, 2]
    (Host.dotGeneral dot_S2x8192x4x128_S2x4x8192x8192_S2x4x128x8192_1_3_3_2_02_01 none
      (shapeCast _ (extractStridedSlice S2x8192x512 ![0, 0, 1024] (extf .f32 X bitsLt_bf16_f32) slices_S2x8192x1536_S2x8192x512_0_0_1024) shapeCasts_S2x8192x512_S2x8192x4x128)
      (subf
        (shapeCast _ (extractStridedSlice S2x4x1x8192x8192 ![0, 0, 0, 0, 0] P slices_S2x4x2x8192x8192_S2x4x1x8192x8192_0_0_0_0_0) shapeCasts_S2x4x1x8192x8192_S2x4x8192x8192)
        (mulf (broadcastInDim S2x4x8192x8192 ![] bcast_S_S2x4x8192x8192 lam)
          (shapeCast _ (extractStridedSlice S2x4x1x8192x8192 ![0, 0, 1, 0, 0] P slices_S2x4x2x8192x8192_S2x4x1x8192x8192_0_0_1_0_0) shapeCasts_S2x4x1x8192x8192_S2x4x8192x8192))))
    transposes_S2x4x128x8192_S2x8192x4x128_0_3_1_2

/-- The heads normalised. -/
def normed (T : FVec Ideal S2x8192x4x128 .f32) (G : FVec Ideal S128 .f32) : FVec Ideal S2x8192x4x128 .f32 :=
  mulf (mulf (mulf T
    (broadcastInDim S2x8192x4x128 ![0, 1, 2, 3] bcast_S2x8192x4x1_S2x8192x4x128_0_1_2_3
      (Host.rsqrt (addf (Host.divf (broadcastInDim S2x8192x4x1 ![0, 1, 2] bcast_S2x8192x4_S2x8192x4x1_0_1_2
          (Host.reduceAdd (mulf T T) (constant S_ .f32 0x00000000#32) reducesTo_S2x8192x4x128_S2x8192x4_d3 h_S_))
        (broadcastInDim S2x8192x4x1 ![] bcast_S_S2x8192x4x1 (constant S_ .f32 0x43000000#32)))
        (broadcastInDim S2x8192x4x1 ![] bcast_S_S2x8192x4x1 (constant S_ .f32 0x358637BD#32))))))
    (broadcastInDim S2x8192x4x128 ![0, 1, 2, 3] bcast_S1x1x1x128_S2x8192x4x128_0_1_2_3 (broadcastInDim S1x1x1x128 ![3] bcast_S128_S1x1x1x128_3 G)))
    (broadcastInDim S2x8192x4x128 ![] bcast_S_S2x8192x4x128 (constant S_ .f32 0x3F4CCCCD#32))

/-- The heads set side by side. -/
def joined (Y : FVec Ideal S2x8192x4x128 .f32) : FVec Ideal S2x8192x512 .bf16 :=
  truncf .bf16 (shapeCast _ Y shapeCasts_S2x8192x4x128_S2x8192x512) bitsLt_bf16_f32

/-- The reference is its steps. -/
theorem res_eq (m : (ℓ : Loc nD τ sig) → Buf (Elt Ideal) ℓ) (c : Dev nD) :
    Cert.ReferenceIdeal.Value.res_out0 m c
      = joined (normed (heads (m ((c.tc : Thread nD τ).loc main_arg0)) (probs (exps (scores (m ((c.tc : Thread nD τ).loc main_arg0))) (tops (scores (m ((c.tc : Thread nD τ).loc main_arg0))))))
          (lamArr (m ((c.tc : Thread nD τ).loc main_arg1)))) (m ((c.tc : Thread nD τ).loc main_arg2))) := by
  unfold Cert.ReferenceIdeal.Value.res_out0 Cert.ReferenceIdeal.Value.res_main_v67 joined normed heads probs exps tops scores lamArr
  rfl

theorem lamArr_apply (L : FVec Ideal S4x64 .f32) : lamArr L ix0 = lamOf fun a x => L (ix2 a x) := by
  pointwise [lamArr, lamOf]

theorem joined_apply (Y : FVec Ideal S2x8192x4x128 .f32) (b : Fin 2) (r : Fin 8192) (j : Fin 512) :
    joined Y (ix3 b r j) = Y (ix4 b r ⟨j.val / 128, by omega⟩ ⟨j.val % 128, by omega⟩) := by
  pointwise [joined]

theorem normed_apply (T : FVec Ideal S2x8192x4x128 .f32) (G : FVec Ideal S128 .f32) (b : Fin 2) (r : Fin 8192) (h : Fin 4) (e : Fin 128) :
    normed T G (ix4 b r h e) = rowNorm (fun x => T (ix4 b r h x)) (fun x => G (ix1 x)) e := by
  pointwise [normed, rowNorm]

/-- A row maximum along the last of five axes. -/
theorem reduce_max (n0 n1 n2 n3 n4 : ℕ) (S : FVec Ideal ⟨5, ![n0, n1, n2, n3, n4]⟩ .f32)
    (hr : (⟨5, ![n0, n1, n2, n3, n4]⟩ : Shape).ReducesTo [4] ⟨4, ![n0, n1, n2, n3]⟩) (hu : 0 < S_.numel)
    (b : Fin n0) (h : Fin n1) (c : Fin n2) (r : Fin n3) :
    Host.reduce FloatOps.maximumf S (constant S_ .f32 0xFF800000#32) hr hu (ix4 b h c r)
      = Finset.fold max (Ideal.ofBits .f32 0xFF800000#32) (fun j => S (ix5 b h c r j)) Finset.univ := by
  pointwise

theorem tops_apply (S : FVec Ideal S2x4x2x8192x8192 .f32) (b : Fin 2) (h : Fin 4) (c : Fin 2) (r : Fin 8192) :
    tops S (ix4 b h c r) = Finset.fold max (Ideal.ofBits .f32 0xFF800000#32) (fun j => S (ix5 b h c r j)) Finset.univ :=
  reduce_max _ _ _ _ _ S _ _ b h c r

theorem exps_apply (S : FVec Ideal S2x4x2x8192x8192 .f32) (M : FVec Ideal S2x4x2x8192 .f32) (b : Fin 2) (h : Fin 4) (c : Fin 2) (r k : Fin 8192) :
    exps S M (ix5 b h c r k) = Ideal.exp (S (ix5 b h c r k) - max (Ideal.ofBits .f32 0xFF800000#32) (M (ix4 b h c r))) := by
  pointwise [exps]

theorem probs_apply (E : FVec Ideal S2x4x2x8192x8192 .f32) (b : Fin 2) (h : Fin 4) (c : Fin 2) (r k : Fin 8192) :
    probs E (ix5 b h c r k) = Ideal.div (E (ix5 b h c r k)) (∑ j, E (ix5 b h c r j)) := by
  pointwise [probs]

theorem heads_apply (X : FVec Ideal S2x8192x1536 .bf16) (P : FVec Ideal S2x4x2x8192x8192 .f32) (lam : FVec Ideal S_ .f32)
    (b : Fin 2) (h : Fin 4) (r : Fin 8192) (e : Fin 128) :
    heads X P lam (ix4 b r h e)
      = ∑ k, X (ix3 b k ⟨1024 + (h.val * 128 + e.val), by omega⟩) * (P (ix5 b h 0 r k) - lam ix0 * P (ix5 b h 1 r k)) := by
  pointwise [heads]

theorem scores_sel (X : FVec Ideal S2x8192x1536 .bf16) (b : Fin 2) (h : Fin 4) (c : Fin 2) (r k : Fin 8192) :
    scores X (ix5 b h c r k) = Scalar.select (IntOp.cmpi .sle (BitVec.ofNat 32 k.val) (BitVec.ofNat 32 r.val))
      (∑ d : Fin 64, X (ix3 b r ⟨h.val * 128 + c.val * 64 + d.val, by omega⟩) * X (ix3 b k ⟨512 + (h.val * 128 + c.val * 64 + d.val), by omega⟩))
      (Ideal.ofBits .f32 0xFF800000#32) := by
  pointwise [scores]
  rfl

/-- The word of minus infinity is minus infinity. -/
theorem ofBits_negInf : Ideal.ofBits .f32 0xFF800000#32 = ⊥ := by
  unfold Ideal.ofBits; rfl

section Real

variable (X : FVec Ideal S2x8192x1536 .bf16) (x : Fin 2 → Fin 8192 → Fin 1536 → ℝ) (hX : ∀ b r j, X (ix3 b r j) = (x b r j : EReal))

include hX in
/-- On real arguments: the scores up to the query's own place, minus infinity after it. -/
theorem scores_apply (b : Fin 2) (h : Fin 4) (c : Fin 2) (r k : Fin 8192) :
    scores X (ix5 b h c r k) = if k.val < r.val + 1 then (score (queryOf x b r h) (keyOf x b h) c k.val : EReal) else ⊥ := by
  rw [scores_sel, ofBits_negInf, WordCmp.cmpi_sle_ofNat (by omega) (by omega), WordCmp.select_ofBool]
  simp only [decide_eq_true_eq, Nat.lt_succ_iff]
  congr 1
  rw [score_of_lt _ _ _ _ k.isLt, coe_sum]
  refine Finset.sum_congr rfl fun d _ => ?_
  rw [hX, hX, EReal.coe_mul]
  congr 3 <;> refine Fin.ext ?_ <;> simp only [lane, Nat.add_assoc]

/-- The probabilities are `AttnRow.prob` of the scores. -/
theorem probs_eq (S : FVec Ideal S2x4x2x8192x8192 .f32) (b : Fin 2) (h : Fin 4) (c : Fin 2) (r k : Fin 8192) :
    probs (exps S (tops S)) (ix5 b h c r k) = prob (fun j => S (ix5 b h c r j)) k := by
  simp only [probs_apply, exps_apply, tops_apply, ofBits_negInf, prob]

include hX in
/-- On real arguments and a real weight: the heads are the two maps' difference. -/
theorem heads_eq (lam : FVec Ideal S_ .f32) (l : ℝ) (hl : lam ix0 = (l : EReal)) (b : Fin 2) (h : Fin 4) (r : Fin 8192) (e : Fin 128) :
    heads X (probs (exps (scores X) (tops (scores X)))) lam (ix4 b r h e)
      = mixed (queryOf x b r h) (keyOf x b h) (valueOf x b h) (lam ix0) (r.val + 1) e := by
  obtain ⟨p, hp, sp⟩ := prob_eq (sm := fun j => scores X (ix5 b h 0 r j)) (n := r.val + 1) (by omega) (by omega)
    fun k => scores_apply X x hX b h 0 r k
  obtain ⟨p', hp', sp'⟩ := prob_eq (sm := fun j => scores X (ix5 b h 1 r j)) (n := r.val + 1) (by omega) (by omega)
    fun k => scores_apply X x hX b h 1 r k
  rw [heads_apply, mixed, ← sp, ← sp', hl, ← EReal.coe_mul, ← EReal.coe_sub, Finset.mul_sum, ← Finset.sum_sub_distrib, coe_sum]
  refine Finset.sum_congr rfl fun k _ => ?_
  rw [probs_eq, probs_eq, hp, hp', hX, value_of_lt _ _ _ k.isLt, ← EReal.coe_mul, ← EReal.coe_sub, ← EReal.coe_mul]
  congr 1
  show x b k _ * _ = x b k _ * _ - l * (x b k _ * _)
  ring

end Real

/-- The reference's result, at an element. -/
theorem ref_apply (m : (ℓ : Loc nD τ sig) → Buf (Elt Ideal) ℓ) (c : Dev nD) (x : Fin 2 → Fin 8192 → Fin 1536 → ℝ)
    (hX : ∀ b r j, m ((c.tc : Thread nD τ).loc main_arg0) (ix3 b r j) = (x b r j : EReal)) (l : ℝ)
    (hl : lamOf (fun a d => m ((c.tc : Thread nD τ).loc main_arg1) (ix2 a d)) = (l : EReal)) :
    Cert.ReferenceIdeal.Value.res_out0 m c
      = spec x (fun a d => m ((c.tc : Thread nD τ).loc main_arg1) (ix2 a d)) (fun e => m ((c.tc : Thread nD τ).loc main_arg2) (ix1 e)) := by
  rw [res_eq]
  funext j
  obtain ⟨b, r, i, rfl⟩ : ∃ (b : Fin 2) (r : Fin 8192) (i : Fin 512), j = ix3 b r i := ⟨j 0, j 1, j 2, eq_ix3 j⟩
  rw [joined_apply, normed_apply, spec_apply]
  congr 1
  funext e
  rw [heads_eq _ x hX _ l ((lamArr_apply _).trans hl), lamArr_apply]

end Cert.Proof.ReferenceIdeal

end
-- ==== Proof.AttnV.Value.lean ====
module

public import proofs.«01_k».proof.Pre_finite
public import proofs.«01_k».proof.Proof.AttnV.Kernel
public import proofs.«01_k».proof.Proof.AttnV.Ref
public import proofs.«01_k».proof.Proof.AttnI.Run
public import Idealize.ShloMosaic.Lib.Claim
public import Idealize.ShloMosaic.Lib.Pipeline.ValueKit.Point

/-!
The attention: the array that the kernel leaves is `AttnRow.spec` of its arguments, and what finite arguments are.
-/

@[expose] public section

set_option maxRecDepth 16384

noncomputable section

namespace Cert.Proof.KernelIdeal

open Cert.KernelIdeal Cert.KernelIdeal.Gen Cert.Proof.AttnRow Idealize.ShloMosaic Idealize.ShloMosaic.TcCoe Idealize.SL.Sem

/-- The precondition's side conditions. -/
theorem finite_facts : Cert.Pre_finite.Facts := by
  refine ⟨?_, ?_, ?_⟩ <;> decide

/-- The word of plus infinity is plus infinity. -/
theorem ofBits_posInf : Ideal.ofBits .f32 0x7F800000#32 = ⊤ := by
  unfold Ideal.ofBits; rfl

/-- A number whose absolute value is below plus infinity is real. -/
theorem real_of_lt (x : EReal) (h : BitVec.ofBool (decide (max x (-x) < Ideal.ofBits .f32 0x7F800000#32)) = 1#1) :
    x = (x.toReal : EReal) := by
  rw [ofBits_posInf] at h
  have h' : max x (-x) < ⊤ := by
    by_contra hn
    rw [decide_eq_false hn] at h
    exact absurd h (by decide)
  refine (EReal.coe_toReal (fun e => ?_) fun e => ?_).symm
  · rw [e] at h'; simp at h'
  · rw [e] at h'; simp at h'

section Finite

attribute [local instance] finite_facts

variable (X : FVec Ideal Cert.Pre_finite.S2x8192x1536 .bf16) (L : FVec Ideal Cert.Pre_finite.S4x64 .f32) (G : FVec Ideal Cert.Pre_finite.S128 .f32)

theorem fn_fst (b : Fin 2) (r : Fin 8192) (j : Fin 1536) :
    (Cert.Pre_finite.fn X L G).1 (ix3 b r j)
      = BitVec.ofBool (decide (FloatOps.absf (X (ix3 b r j)) < Ideal.ofBits .f32 0x7F800000#32)) := by
  pointwise [Cert.Pre_finite.fn]
  rfl

theorem fn_snd (a : Fin 4) (d : Fin 64) :
    (Cert.Pre_finite.fn X L G).2 (ix2 a d)
      = BitVec.ofBool (decide (FloatOps.absf (L (ix2 a d)) < Ideal.ofBits .f32 0x7F800000#32)) := by
  pointwise [Cert.Pre_finite.fn]

/-- Finite queries, keys and values are real. -/
theorem real_fst (h : (Cert.Pre_finite.fn X L G).1 = fun _ => 1#1) (b : Fin 2) (r : Fin 8192) (j : Fin 1536) :
    X (ix3 b r j) = ((X (ix3 b r j) : EReal).toReal : EReal) :=
  real_of_lt _ ((fn_fst X L G b r j).symm.trans (congrFun h _))

/-- Finite parameters are real. -/
theorem real_snd (h : (Cert.Pre_finite.fn X L G).2 = fun _ => 1#1) (a : Fin 4) (d : Fin 64) :
    L (ix2 a d) = ((L (ix2 a d) : EReal).toReal : EReal) :=
  real_of_lt _ ((fn_snd X L G a d).symm.trans (congrFun h _))

end Finite

/-- The first term of the second map's weight is real. -/
theorem lambda0_real : ∃ l : ℝ, Ideal.ofBits .f32 0x3E4CCCCD#32 = (l : EReal) := by
  unfold Ideal.ofBits
  exact ⟨_, rfl⟩

/-- Of real parameters the second map's weight is real. -/
theorem lamOf_real (p : Fin 4 → Fin 64 → EReal) (q : Fin 4 → Fin 64 → ℝ) (h : ∀ a d, p a d = (q a d : EReal)) :
    ∃ l : ℝ, lamOf p = (l : EReal) := by
  obtain ⟨l, hl⟩ := lambda0_real
  have e : ∀ a b, (∑ x, p a x * p b x) = ((∑ x, q a x * q b x : ℝ) : EReal) := fun a b => by
    rw [coe_sum]
    exact Finset.sum_congr rfl fun x _ => by rw [h, h, EReal.coe_mul]
  refine ⟨Real.exp (∑ x, q 0 x * q 1 x) - Real.exp (∑ x, q 2 x * q 3 x) + l, ?_⟩
  rw [lamOf, e, e, hl, EReal.coe_add, EReal.coe_sub]
  rfl

/-- The blocks' places: which block of each array grid point `t` reads and writes. -/
theorem idx : ∀ t : Fin cfg0.N, win0_0.index t = ![t.val / 64, t.val % 16, t.val / 16 % 4] ∧ win0_1.index t = ![t.val / 64, 0, 4 + t.val / 16 % 4]
    ∧ win0_2.index t = ![t.val / 64, 0, 8 + t.val / 16 % 4] ∧ win0_3.index t = ![0, 0] ∧ win0_4.index t = ![0, 0]
    ∧ win0_5.index t = ![t.val / 64, t.val % 16, t.val / 16 % 4] ∧ (grid0.coords t 2).val = t.val % 16 :=
  (by decide +kernel : ∀ t : Fin grid0.N, win0_0.index t = ![t.val / 64, t.val % 16, t.val / 16 % 4] ∧ win0_1.index t = ![t.val / 64, 0, 4 + t.val / 16 % 4]
    ∧ win0_2.index t = ![t.val / 64, 0, 8 + t.val / 16 % 4] ∧ win0_3.index t = ![0, 0] ∧ win0_4.index t = ![0, 0]
    ∧ win0_5.index t = ![t.val / 64, t.val % 16, t.val / 16 % 4] ∧ (grid0.coords t 2).val = t.val % 16)

/-- The array the kernel leaves, on real queries, keys and values. -/
theorem kernel_eq (m : (ℓ : Loc nD τ sig) → Buf (Elt Ideal) ℓ) (c : Dev nD) (x : Fin 2 → Fin 8192 → Fin 1536 → ℝ)
    (hX : ∀ b r j, m ((c.tc : Thread nD τ).loc main_arg0) (ix3 b r j) = (x b r j : EReal)) :
    (dats m 0 c).arrAt 5 cfg0.N
      = spec x (fun a d => m ((c.tc : Thread nD τ).loc main_arg1) (ix2 a d)) (fun e => m ((c.tc : Thread nD τ).loc main_arg2) (ix1 e)) := by
  refine (dats m 0 c).arrAt_eq_of_covers 5 _ (by decide +kernel) fun t hf y => ?_
  blk_simp
  rw [after0_5]
  obtain ⟨z, r, e, rfl⟩ : ∃ (z : Fin 1) (r : Fin 512) (e : Fin 128), y = ix3 z r e := ⟨y 0, y 1, y 2, eq_ix3 y⟩
  obtain rfl : z = 0 := Subsingleton.elim _ _
  obtain ⟨e0, e1, e2, e3, e4, e5, ec⟩ := idx t
  have ht : t.val < 128 := t.isLt
  have o : (win0_5.blk t).view.emb (ix3 0 r e)
      = ix3 ⟨t.val / 64, by omega⟩ ⟨t.val % 16 * 512 + r.val, by omega⟩ ⟨t.val / 16 % 4 * 128 + e.val, by omega⟩ := by blk_ext [idx t]
  have hq : ∀ (r : Fin 512) (d : Fin 128), iblk m c 0 t (ix3 0 r d)
      = (queryOf x ⟨t.val / 64, by omega⟩ ⟨t.val % 16 * 512 + r.val, by omega⟩ ⟨t.val / 16 % 4, by omega⟩ d : EReal) := by
    intro r d
    refine Eq.trans ?_ (hX _ _ _)
    blk_ext [iblk, V, idx t]
  have hk : ∀ (k : Fin 8192) (d : Fin 128), iblk m c 1 t (ix3 0 k d)
      = (keyOf x ⟨t.val / 64, by omega⟩ ⟨t.val / 16 % 4, by omega⟩ k d : EReal) := by
    intro k d
    refine Eq.trans ?_ (hX _ _ _)
    blk_ext [iblk, V, idx t]
  have hv : ∀ (k : Fin 8192) (d : Fin 128), iblk m c 2 t (ix3 0 k d)
      = (valueOf x ⟨t.val / 64, by omega⟩ ⟨t.val / 16 % 4, by omega⟩ k d : EReal) := by
    intro k d
    refine Eq.trans ?_ (hX _ _ _)
    blk_ext [iblk, V, idx t]
  have h3 : ∀ (a : Fin 4) (d : Fin 64), iblk m c 3 t (ix2 a d) = m ((c.tc : Thread nD τ).loc main_arg1) (ix2 a d) := by
    intro a d; blk_ext [iblk, V, idx t]
  have h4 : ∀ k : Fin 128, iblk m c 4 t (ix2 0 k) = m ((c.tc : Thread nD τ).loc main_arg2) (ix1 k) := by
    intro k
    have e : (win0_4.blk t).view.emb (ix2 0 k) = ix2 0 k := by blk_ext [idx t]
    show V m c main_v0 ((win0_4.blk t).view.emb (ix2 0 k)) = _
    rw [e]
    entry_read
    pointwise
  rw [o, spec_apply]
  unfold outAt
  rw [out_apply _ _ _ (fun r d => queryOf x ⟨t.val / 64, by omega⟩ ⟨t.val % 16 * 512 + r.val, by omega⟩ ⟨t.val / 16 % 4, by omega⟩ d)
    (keyOf x ⟨t.val / 64, by omega⟩ ⟨t.val / 16 % 4, by omega⟩) (valueOf x ⟨t.val / 64, by omega⟩ ⟨t.val / 16 % 4, by omega⟩) hq hk hv]
  rw [funext h4, funext fun a => funext fun d => h3 a d, ec]
  have a1 : (⟨(t.val / 16 % 4 * 128 + e.val) / 128, by omega⟩ : Fin 4) = ⟨t.val / 16 % 4, by omega⟩ := Fin.ext (by simp only []; omega)
  have a2 : (⟨(t.val / 16 % 4 * 128 + e.val) % 128, by omega⟩ : Fin 128) = e := Fin.ext (by simp only []; omega)
  have a3 : 512 * (t.val % 16) + (r.val + 1) = t.val % 16 * 512 + r.val + 1 := by omega
  simp only [a1, a2, a3]

/-- The run: the result holds the array of `kernel_eq`, the arguments end unchanged. -/
theorem run_array (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 5, h.2.1 c⟩) (θ_run_and (run_main m ρ) (frame_main m ρ))

end Cert.Proof.KernelIdeal

end
-- ==== Proof.EvenIn.Finite.lean ====
module

public import proofs.«01_k».proof.Proof.EvenIn.Value
public import proofs.«01_k».proof.Proof.AttnV.Value
public import proofs.«01_k».proof.Pre_finite_even_in

/-!
With finite rows, modulation, gain and projection, the projection's entries are real.
-/

@[expose] public section

set_option maxRecDepth 16384

noncomputable section

namespace Cert.Proof.EvenInIdeal

open Cert.EvenInIdeal Cert.EvenInIdeal.Gen Idealize.ShloMosaic Idealize.ShloMosaic.TcCoe Idealize.SL.Sem

/-- The word of the row's length is a positive real. -/
theorem len_word : ∃ l : ℝ, 0 < l ∧ Ideal.ofBits .f32 0x44800000#32 = (l : EReal) := by
  unfold Ideal.ofBits
  refine ⟨_, ?_, rfl⟩
  norm_num
  rw [if_neg (by decide)]
  positivity

/-- The word of the small constant is a positive real. -/
theorem eps_word : ∃ l : ℝ, 0 < l ∧ Ideal.ofBits .f32 0x358637BD#32 = (l : EReal) := by
  unfold Ideal.ofBits
  refine ⟨_, ?_, rfl⟩
  norm_num
  rw [if_neg (by decide)]
  positivity

/-- The sum of reals among the extended reals. -/
theorem coe_sum (f : Fin 1024 → ℝ) : ((∑ k, f k : ℝ) : EReal) = ∑ k, (f k : EReal) := by
  classical
  induction (Finset.univ : Finset (Fin 1024)) using Finset.induction_on with
  | empty => simp
  | insert a s ha ih => rw [Finset.sum_insert ha, Finset.sum_insert ha, EReal.coe_add, ih]

/-- A real row has a positive real mean square. -/
theorem meanSq_real (x : Fin 1024 → EReal) (y : Fin 1024 → ℝ) (hx : ∀ k, x k = (y k : EReal)) : ∃ r : ℝ, 0 < r ∧ FfnRow.meanSq x = (r : EReal) := by
  obtain ⟨l, hl, el⟩ := len_word
  obtain ⟨e, he, ee⟩ := eps_word
  refine ⟨(∑ k, y k * y k) * (1 / l) + e, ?_, ?_⟩
  · have : 0 ≤ ∑ k, y k * y k := Finset.sum_nonneg fun k _ => mul_self_nonneg _
    positivity
  · unfold FfnRow.meanSq
    rw [el, ee, Ideal.div_coe (ne_of_gt hl), EReal.coe_add, EReal.coe_mul]
    refine congrArg (fun z : EReal => z * _ + _) ?_
    rw [coe_sum]
    exact Finset.sum_congr rfl fun k _ => by rw [hx, EReal.coe_mul]

/-- A real row, normalised with real numbers, is real. -/
theorem normed_real (x sh sc g : Fin 1024 → EReal) (hx : ∀ k, ∃ r : ℝ, x k = (r : EReal)) (hh : ∀ k, ∃ r : ℝ, sh k = (r : EReal))
    (hc : ∀ k, ∃ r : ℝ, sc k = (r : EReal)) (hg : ∀ k, ∃ r : ℝ, g k = (r : EReal)) (k : Fin 1024) : ∃ r : ℝ, FfnRow.normed x sh sc g k = (r : EReal) := by
  choose y hy using hx
  obtain ⟨q, hq, eq⟩ := meanSq_real x y hy
  obtain ⟨a, ha⟩ := hh k
  obtain ⟨b, hb⟩ := hc k
  obtain ⟨d, hd⟩ := hg k
  refine ⟨y k * (Real.sqrt q)⁻¹ * d * (1 + b) + a, ?_⟩
  unfold FfnRow.normed
  rw [eq, Ideal.rsqrt_coe, if_neg (not_lt.2 hq.le), if_neg (ne_of_gt hq), hy, ha, hb, hd]
  push_cast
  rfl

/-- A product of real rows and columns is real. -/
theorem dot_real (x y : Fin 1024 → EReal) (hx : ∀ k, ∃ r : ℝ, x k = (r : EReal)) (hy : ∀ k, ∃ r : ℝ, y k = (r : EReal)) : ∃ r : ℝ, ∑ k, x k * y k = (r : EReal) := by
  choose a ha using hx
  choose b hb using hy
  refine ⟨∑ k, a k * b k, ?_⟩
  rw [coe_sum]
  exact Finset.sum_congr rfl fun k _ => by rw [ha, hb, EReal.coe_mul]

/-- The precondition's side conditions. -/
theorem even_facts : Cert.Pre_finite_even_in.Facts := by
  refine ⟨?_, ?_, ?_, ?_⟩ <;> decide

section Finite

attribute [local instance] even_facts

variable (X : FVec Ideal Cert.Pre_finite_even_in.S16384x1024 .f32) (M : FVec Ideal Cert.Pre_finite_even_in.S2x9x1024 .f32) (G : FVec Ideal Cert.Pre_finite_even_in.S1024 .f32)
  (W : FVec Ideal Cert.Pre_finite_even_in.S1024x2048 .f32) (P : FVec Ideal Cert.Pre_finite_even_in.S4x128x128 .f32) (Q : FVec Ideal Cert.Pre_finite_even_in.S512 .f32)

theorem fn_x (h : (Cert.Pre_finite_even_in.fn X M G W P Q).1 = fun _ => 1#1) (j) : ∃ r : ℝ, X j = (r : EReal) :=
  ⟨_, KernelIdeal.real_of_lt _ (congrFun h j)⟩
theorem fn_mod (h : (Cert.Pre_finite_even_in.fn X M G W P Q).2.1 = fun _ => 1#1) (j) : ∃ r : ℝ, M j = (r : EReal) :=
  ⟨_, KernelIdeal.real_of_lt _ (congrFun h j)⟩
theorem fn_g (h : (Cert.Pre_finite_even_in.fn X M G W P Q).2.2.1 = fun _ => 1#1) (j) : ∃ r : ℝ, G j = (r : EReal) :=
  ⟨_, KernelIdeal.real_of_lt _ (congrFun h j)⟩
theorem fn_w (h : (Cert.Pre_finite_even_in.fn X M G W P Q).2.2.2 = fun _ => 1#1) (j) : ∃ r : ℝ, W j = (r : EReal) :=
  ⟨_, KernelIdeal.real_of_lt _ (congrFun h j)⟩

/-- The columns to be pooled are real. -/
theorem useq_real (h0 : (Cert.Pre_finite_even_in.fn X M G W P Q).1 = fun _ => 1#1) (h1 : (Cert.Pre_finite_even_in.fn X M G W P Q).2.1 = fun _ => 1#1)
    (h2 : (Cert.Pre_finite_even_in.fn X M G W P Q).2.2.1 = fun _ => 1#1) (h3 : (Cert.Pre_finite_even_in.fn X M G W P Q).2.2.2 = fun _ => 1#1)
    (b : Fin 2) (n : Fin 512) (i : ℕ) : ∃ r : ℝ, useq X M G W b n i = (r : EReal) := by
  unfold useq
  split
  · exact dot_real _ _ (fun k => normed_real _ _ _ _ (fun _ => fn_x X M G W P Q h0 _) (fun _ => fn_mod X M G W P Q h1 _) (fun _ => fn_mod X M G W P Q h1 _) (fun _ => fn_g X M G W P Q h2 _) k)
      (fun k => fn_w X M G W P Q h3 _)
  · exact ⟨0, rfl⟩

end Finite

end Cert.Proof.EvenInIdeal
end
-- ==== Proof.EvenIn.Cumsum.lean ====
module

public import proofs.«01_k».proof.Proof.Gen.EvenInRefIdeal.Run
public import Idealize.ShloMosaic.Lib.Pointwise

/-!
The running sum over the extended reals: an entry is the sum of the entries up to it along the second axis.
-/

@[expose] public section

set_option maxRecDepth 16384

noncomputable section

namespace Cert.Proof.EvenInCumsum

open Idealize.ShloMosaic

/-- Of the terms of a window that reaches `N` places back, those inside add up to a prefix. -/
theorem sum_prefix (N t : ℕ) (ht : t ≤ N) (f : ℕ → EReal) :
    ∑ k ∈ Finset.range (N + 1), (if N ≤ t + k then f (t + k - N) else 0) = ∑ i ∈ Finset.range (t + 1), f i := by
  obtain ⟨d, rfl⟩ : ∃ d, N = d + t := ⟨N - t, by omega⟩
  rw [show d + t + 1 = d + (t + 1) by omega, Finset.sum_range_add]
  rw [Finset.sum_eq_zero (fun k hk => if_neg (by have := Finset.mem_range.1 hk; omega)), zero_add]
  refine Finset.sum_congr rfl fun i _ => ?_
  rw [if_pos (by omega), show t + (d + i) - (d + t) = i by omega]

/-- A fold of additions is the first value plus the sum of the terms. -/
theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The positions of a window that is long along the second axis only. -/
def line (N : ℕ) : (⟨4, ![1, N, 1, 1]⟩ : Shape).Idx ≃ Fin N where
  toFun p := p 1
  invFun k := fun a => match a with
    | ⟨0, _⟩ => (0 : Fin 1)
    | ⟨1, _⟩ => k
    | ⟨2, _⟩ => (0 : Fin 1)
    | ⟨3, _⟩ => (0 : Fin 1)
  left_inv p := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv k := rfl

/-- The running sum along the second axis of four, at an entry. -/
theorem cumsum_apply {B N G D : ℕ} (x : FVec Ideal ⟨4, ![B, N + 1, G, D]⟩ .f32) (init : FVec Ideal ⟨0, ![]⟩ .f32) (hi : ∀ i, init i = (0 : EReal))
    (h : (⟨4, ![B, N + 1, G, D]⟩ : Shape).ReduceWindows ![1, N + 1, 1, 1] ![1, 1, 1, 1] ![0, N, 0, 0] ![0, 0, 0, 0] ⟨4, ![B, N + 1, G, D]⟩)
    (hu : 0 < (⟨0, ![]⟩ : Shape).numel) (b : Fin B) (t : Fin (N + 1)) (g : Fin G) (d : Fin D)
    (f : ℕ → EReal) (hf : ∀ i : Fin (N + 1), x (ix4 b i g d) = f i.val) :
    Host.reduceWindowAdd ![1, N + 1, 1, 1] ![1, 1, 1, 1] ![0, N, 0, 0] ![0, 0, 0, 0] x init h hu (ix4 b t g d)
      = ∑ i ∈ Finset.range (t.val + 1), f i := by
  have ht : t.val ≤ N := by have := t.isLt; omega
  rw [← sum_prefix N t.val ht f, Finset.sum_range]
  show Ideal.hostReduceWindowAdd ![1, N + 1, 1, 1] ![1, 1, 1, 1] ![0, N, 0, 0] ![0, 0, 0, 0] h x (init _) (ix4 b t g d) = _
  unfold Ideal.hostReduceWindowAdd Host.reduceWindow
  rw [hi]
  refine (foldl_add _ _ _).trans ?_
  rw [zero_add, ← List.ofFn_eq_map, List.sum_ofFn]
  refine (Equiv.sum_comp ((line (N + 1)).symm.trans (Shape.rowMajor (⟨4, ![1, N + 1, 1, 1]⟩ : Shape))) _).symm.trans ?_
  simp only [Equiv.trans_apply, Equiv.symm_apply_apply]
  refine Finset.sum_congr rfl fun k _ => ?_
  have hk := k.isLt
  have hb := b.isLt
  have hg := g.isLt
  have hd := d.isLt
  split
  · next hin =>
    have h1 := hin 1
    change N ≤ t.val * 1 + k.val ∧ t.val * 1 + k.val - N < N + 1 at h1
    rw [if_pos (by omega)]
    refine (congrArg x (funext fun a => Fin.ext ?_)).trans (hf ⟨t.val + k.val - N, by omega⟩)
    match a with
    | ⟨0, _⟩ => show b.val * 1 + 0 - 0 = b.val; omega
    | ⟨1, _⟩ => show t.val * 1 + k.val - N = t.val + k.val - N; omega
    | ⟨2, _⟩ => show g.val * 1 + 0 - 0 = g.val; omega
    | ⟨3, _⟩ => show d.val * 1 + 0 - 0 = d.val; omega
  · next hin =>
    rw [if_neg]
    intro hle
    refine hin fun a => ?_
    match a with
    | ⟨0, _⟩ => show 0 ≤ b.val * 1 + 0 ∧ b.val * 1 + 0 - 0 < B; omega
    | ⟨1, _⟩ => show N ≤ t.val * 1 + k.val ∧ t.val * 1 + k.val - N < N + 1; omega
    | ⟨2, _⟩ => show 0 ≤ g.val * 1 + 0 ∧ g.val * 1 + 0 - 0 < G; omega
    | ⟨3, _⟩ => show 0 ≤ d.val * 1 + 0 ∧ d.val * 1 + 0 - 0 < D; omega

end Cert.Proof.EvenInCumsum
end
-- ==== Proof.EvenIn.Ref.lean ====
module

public import proofs.«01_k».proof.Proof.EvenIn.Window
public import proofs.«01_k».proof.Proof.EvenIn.Cumsum
public import Idealize.ShloMosaic.Lib.Claim
public import Idealize.ShloMosaic.Lib.Tactic.CleanTypes

/-!
The reference's two results, read down to the plain functions.
-/

@[expose] public section

set_option maxRecDepth 16384

noncomputable section

namespace Cert.Proof.EvenInRefIdeal

open Cert.EvenInRefIdeal Cert.EvenInRefIdeal.Gen Idealize.ShloMosaic Idealize.ShloMosaic.TcCoe Idealize.SL.Sem
open Cert.Proof.EvenInIdeal (row proj useq wsum pool specPool specQkv)

variable (m : (ℓ : Loc nD τ sig) → Buf (Elt Ideal) ℓ) (c : Dev nD)

/-- The normalised rows. -/
theorem normed_apply (X : FVec Ideal S16384x1024 .f32) (M : FVec Ideal S2x9x1024 .f32) (G : FVec Ideal S1024 .f32) (b : Fin 2) (i : Fin 8192) (k : Fin 1024) :
    (addf (mulf (mulf (mulf (shapeCast S2x8192x1024 X shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast S2x8192x1024 X shapeCasts_S16384x1024_S2x8192x1024) (shapeCast S2x8192x1024 X shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast S2x1024 (extractStridedSlice S2x1x1024 ![0, 4, 0] M slices_S2x9x1024_S2x1x1024_0_4_0) shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast S2x1024 (extractStridedSlice S2x1x1024 ![0, 3, 0] M slices_S2x9x1024_S2x1x1024_0_3_0) shapeCasts_S2x1x1024_S2x1024)))) (ix3 b i k) = row X M G b i k := by
  pointwise [row, FfnRow.normed, FfnRow.meanSq]

/-- The product of rows with the projection's weights. -/
theorem dot_apply (N : FVec Ideal S2x8192x1024 .f32) (W : FVec Ideal S1024x2048 .f32) (b : Fin 2) (i : Fin 8192) (n : Fin 2048) :
    (Host.dotGeneral (F := Ideal) dot_S2x8192x1024_S1024x2048_S2x8192x2048_2_0_01_1_n_n none N W : FVec Ideal S2x8192x2048 .f32) (ix3 b i n) = ∑ k : Fin 1024, N (ix3 b i k) * W (ix2 k n) := by
  pointwise

/-- The pooled result, where the projection's first columns are real. -/
theorem pool_eq (b : Fin 2) (t : Fin 8192) (n : Fin 512)
    (hreal : ∀ (n : Fin 512) (i : ℕ), ∃ r : ℝ, useq (m ((c.tc : Thread nD τ).loc main_arg0)) (m ((c.tc : Thread nD τ).loc main_arg1)) (m ((c.tc : Thread nD τ).loc main_arg2)) (m ((c.tc : Thread nD τ).loc main_arg3)) b n i = (r : EReal)) :
    Value.res_main_v104 m c (ix3 b t n) = specPool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b t n := by
  unfold Value.res_main_v104
  generalize hP : Host.dotGeneral (F := Ideal) dot_S2x8192x1024_S1024x2048_S2x8192x2048_2_0_01_1_n_n _ _ _ = P
  generalize hC : Host.reduceWindowAdd (F := Ideal) _ _ _ _ _ _ _ _ = C
  have eP : ∀ (i : Fin 8192) (n : Fin 2048), P (ix3 b i n) = proj (m ((c.tc : Thread nD τ).loc main_arg0)) (m ((c.tc : Thread nD τ).loc main_arg1)) (m ((c.tc : Thread nD τ).loc main_arg2)) (m ((c.tc : Thread nD τ).loc main_arg3)) b i n := by
    intro i n
    rw [← hP]
    refine (dot_apply _ _ b i n).trans (Finset.sum_congr rfl fun k _ => ?_)
    exact congrArg (· * _) (normed_apply _ _ _ b i k)
  have eU : ∀ (i : Fin 8192) (n : Fin 512), P (ix3 b i (⟨n.val, by omega⟩ : Fin 2048)) = useq (m ((c.tc : Thread nD τ).loc main_arg0)) (m ((c.tc : Thread nD τ).loc main_arg1)) (m ((c.tc : Thread nD τ).loc main_arg2)) (m ((c.tc : Thread nD τ).loc main_arg3)) b n i.val := by
    intro i n
    rw [eP]
    unfold useq
    rw [dif_pos i.isLt]
  clear hP eP
  unfold specPool
  generalize useq (m ((c.tc : Thread nD τ).loc main_arg0)) (m ((c.tc : Thread nD τ).loc main_arg1)) (m ((c.tc : Thread nD τ).loc main_arg2)) (m ((c.tc : Thread nD τ).loc main_arg3)) b = U at hreal eU
  have eC : ∀ (i : Fin 8192) (g : Fin 4) (d : Fin 128), C (ix4 b i g d) = ∑ k ∈ Finset.range (i.val + 1), U ⟨128 * g.val + d.val, by omega⟩ k := by
    intro i g d
    rw [← hC]
    refine EvenInCumsum.cumsum_apply (N := 8191) _ _ (fun _ => ?_) _ _ b i g d _ fun k => ?_
    · pointwise
    · pointwise
      refine (congrArg P ?_).trans (eU k ⟨128 * g.val + d.val, by omega⟩)
      refine congrArg (fun n => ix3 b k n) (Fin.ext ?_)
      show g.val * 128 + d.val = 128 * g.val + d.val
      omega
  clear hC
  have h0 : (FloatOps.sitofp .f32 0#32 : Ideal .f32) = (0 : EReal) := by show (((0 : Int) : ℝ) : EReal) = 0; simp
  have D : ∀ (g : Fin 4) (x : Fin 128) (w : ℕ) (hw : w < 8192),
      Ideal.div (C (ix4 b t g x) - if h : w ≤ t.val ∧ t.val - w < 8192 then C (ix4 b (⟨t.val - w, h.2⟩ : Fin 8192) g x) else (FloatOps.sitofp .f32 0#32 : Ideal .f32))
          (FloatOps.sitofp .f32 (IntOp.minsi (IntOp.addi (BitVec.ofNat 32 t.val) 1#32) (BitVec.ofNat 32 w)) : Ideal .f32) - U ⟨128 * g.val + x.val, by omega⟩ t.val
        = EvenInIdeal.pool (U ⟨128 * g.val + x.val, by omega⟩) w t.val := by
    intro g x w hw
    rw [EvenInIdeal.count_eq t.val w t.isLt hw]
    unfold EvenInIdeal.pool
    rw [← EvenInIdeal.sub_prefix _ (hreal _) w t.val, eC, h0]
    by_cases h : w ≤ t.val
    · rw [dif_pos ⟨h, by omega⟩, if_pos h, eC]
    · rw [dif_neg (fun q => h q.1), if_neg h]
  pointwise
  refine congrArg (· * _) (Finset.sum_congr rfl fun x _ => ?_)
  have hu : ∀ (h : n.val / 128 * 128 + x.val < 2048), P (ix3 b t (⟨n.val / 128 * 128 + x.val, h⟩ : Fin 2048)) = U ⟨128 * (n.val / 128) + x.val, by omega⟩ t.val := fun h =>
    (congrArg (fun n => P (ix3 b t n)) (Fin.ext (by show n.val / 128 * 128 + x.val = 128 * (n.val / 128) + x.val; omega))).trans (eU t ⟨128 * (n.val / 128) + x.val, by omega⟩)
  rw [mul_comm]
  refine congrArg (· * _) ?_
  rw [hu]
  obtain hq | hq | hq | hq : n.val / 128 = 0 ∨ n.val / 128 = 1 ∨ n.val / 128 = 2 ∨ n.val / 128 = 3 := by omega
  · rw [dif_pos (by omega)]
    simp only [hq]
    exact D 0 x 2 (by decide)
  · rw [dif_neg (by omega), dif_pos (by omega)]
    simp only [hq]
    exact D 1 x 4 (by decide)
  · rw [dif_neg (by omega), dif_neg (by omega), dif_pos (by omega)]
    simp only [hq]
    exact D 2 x 8 (by decide)
  · rw [dif_neg (by omega), dif_neg (by omega), dif_neg (by omega)]
    simp only [hq]
    exact D 3 x 16 (by decide)

/-- The queries, keys and values. -/
theorem qkv_eq (P : FVec Ideal S2x8192x2048 .f32) (X : FVec Ideal S16384x1024 .f32) (M : FVec Ideal S2x9x1024 .f32) (G : FVec Ideal S1024 .f32) (W : FVec Ideal S1024x2048 .f32)
    (hP : ∀ (b : Fin 2) (i : Fin 8192) (n : Fin 2048), P (ix3 b i n) = proj X M G W b i n) (b : Fin 2) (i : Fin 8192) (n : Fin 1536) :
    (truncf .bf16 (concatenate S2x8192x1536 2 [⟨S2x8192x512, (mulf (extractStridedSlice S2x8192x512 ![0, 0, 512] P slices_S2x8192x2048_S2x8192x512_0_0_512) (broadcastInDim S2x8192x512 ![] bcast_S_S2x8192x512 (constant S_ .f32 0x3E000000#32)))⟩, ⟨S2x8192x1024, (extractStridedSlice S2x8192x1024 ![0, 0, 1024] P slices_S2x8192x2048_S2x8192x1024_0_0_1024)⟩] concatenates_S2x8192x512_S2x8192x1024_S2x8192x1536_d2) bitsLt_bf16_f32 : FVec Ideal S2x8192x1536 .bf16) (ix3 b i n)
      = specQkv X M G W b i n := by
  unfold specQkv
  pointwise
  by_cases h : n.val < 512
  · rw [dif_pos h, if_pos h, hP]
  · rw [dif_neg h, if_neg h, hP]
    exact congrArg (proj X M G W b i) (Fin.ext (by show 1024 + (n.val - 512) = 512 + n.val; omega))

/-- The reference's run: its results are the plain functions of its arguments, which end unchanged. -/
theorem ref_run (m : (ℓ : Loc nD τ sig) → Buf (Elt Ideal) ℓ) (ρ : Dev nD → PrngReg)
    (hreal : ∀ (c : Dev nD) (b : Fin 2) (n : Fin 512) (i : ℕ), ∃ r : ℝ, useq (m ((c.tc : Thread nD τ).loc main_arg0)) (m ((c.tc : Thread nD τ).loc main_arg1)) (m ((c.tc : Thread nD τ).loc main_arg2)) (m ((c.tc : Thread nD τ).loc main_arg3)) b n i = (r : EReal)) :
    θ_run defs (onTc (τ := τ) (main (F := Ideal))) ⟨m, fun _ => 0, ρ⟩ (fun r => ∀ c : Dev nD,
      r.2.mem ((c.tc : Thread nD τ).loc main_v104) = (fun j : S2x8192x512.Idx => specPool (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0) (j 1) (j 2))
      ∧ r.2.mem ((c.tc : Thread nD τ).loc main_v105) = (fun j : S2x8192x1536.Idx => specQkv (m ((c.tc : Thread nD τ).loc main_arg0)) (m ((c.tc : Thread nD τ).loc main_arg1)) (m ((c.tc : Thread nD τ).loc main_arg2)) (m ((c.tc : Thread nD τ).loc main_arg3)) (j 0) (j 1) (j 2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) := by
  refine (θ_run _ _ _).mono (fun r h c => ⟨(h c).1.trans ?_, (h c).2.1.trans ?_, (h c).2.2⟩) (Value.run m ρ)
  · funext j
    obtain ⟨b, t, n, rfl⟩ : ∃ (b : Fin 2) (t : Fin 8192) (n : Fin 512), j = ix3 b t n := ⟨j 0, j 1, j 2, eq_ix3 j⟩
    exact pool_eq m c b t n (hreal c b)
  · funext j
    obtain ⟨b, t, n, rfl⟩ : ∃ (b : Fin 2) (t : Fin 8192) (n : Fin 1536), j = ix3 b t n := ⟨j 0, j 1, j 2, eq_ix3 j⟩
    refine qkv_eq _ (m ((c.tc : Thread nD τ).loc main_arg0)) (m ((c.tc : Thread nD τ).loc main_arg1)) (m ((c.tc : Thread nD τ).loc main_arg2)) (m ((c.tc : Thread nD τ).loc main_arg3)) (fun b i n => ?_) b t n
    refine (dot_apply _ _ b i n).trans (Finset.sum_congr rfl fun k _ => ?_)
    exact congrArg (· * _) (normed_apply _ _ _ b i k)

end Cert.Proof.EvenInRefIdeal
end
-- ==== Proof.Modulation.Value.lean ====
module

public import proofs.«01_k».proof.Proof.Gen.ModulationIdeal.Value
public import proofs.«01_k».proof.Proof.Gen.ModulationRefIdeal.Run
public import Idealize.ShloMosaic.Lib.Pipeline.ValueKit
public import Idealize.ShloMosaic.Lib.Pipeline.ReadBack
public import Idealize.ShloMosaic.Lib.Pipeline.ValueKit.Point
public import Idealize.ShloMosaic.Lib.Pointwise
public import Idealize.ShloMosaic.Lib.Claim
public import Idealize.ShloMosaic.Lib.Tactic.CleanTypes

/-!
The modulation rows: the array that the kernel leaves is the array that the reference computes.
-/

@[expose] public section

set_option maxRecDepth 16384

noncomputable section

namespace Cert.Proof.ModulationIdeal

open Cert.ModulationIdeal Cert.ModulationIdeal.Gen Idealize.ShloMosaic Idealize.ShloMosaic.TcCoe Idealize.SL.Sem
open Idealize.ShloMosaic.Pipeline (Dat)

/-- The activation of a conditioning entry. -/
def act (x : EReal) : EReal := x * Ideal.div 1 (1 + Ideal.exp (-x))

/-- The modulation rows of both blocks as one function of the argument arrays. -/
def spec (C : Vec Ideal S8x1024 .f32) (W : Vec Ideal S2x1024x9216 .f32) (B : Vec Ideal S2x9216 .f32) : Vec Ideal S2x8x9216 .f32 := fun j =>
  ∑ k : Fin 1024, act (C (ix2 (j 1) k)) * W (ix3 (j 0) k (j 2)) + B (ix2 (j 0) (j 2))

/-- The reference's run: its result is `spec` of its arguments, which end unchanged. -/
theorem ref_run (m : (ℓ : Loc Cert.ModulationRefIdeal.nD Cert.ModulationRefIdeal.τ Cert.ModulationRefIdeal.sig) → Buf (Elt Ideal) ℓ) (ρ : Dev Cert.ModulationRefIdeal.nD → PrngReg) :
    θ_run Cert.ModulationRefIdeal.defs (onTc (τ := Cert.ModulationRefIdeal.τ) (Cert.ModulationRefIdeal.main (F := Ideal))) ⟨m, fun _ => 0, ρ⟩ (fun r => ∀ c : Dev Cert.ModulationRefIdeal.nD,
      r.2.mem ((c.tc : Thread Cert.ModulationRefIdeal.nD Cert.ModulationRefIdeal.τ).loc Cert.ModulationRefIdeal.main_v19)
        = spec (m ((c.tc : Thread Cert.ModulationRefIdeal.nD Cert.ModulationRefIdeal.τ).loc Cert.ModulationRefIdeal.main_arg0)) (m ((c.tc : Thread Cert.ModulationRefIdeal.nD Cert.ModulationRefIdeal.τ).loc Cert.ModulationRefIdeal.main_arg1))
          (m ((c.tc : Thread Cert.ModulationRefIdeal.nD Cert.ModulationRefIdeal.τ).loc Cert.ModulationRefIdeal.main_arg2))
      ∧ r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2)) := by
  refine (θ_run _ _ _).mono (fun r h c => ⟨(h c).1.trans ?_, (h c).2⟩) (Cert.ModulationRefIdeal.Value.run m ρ)
  clean_types
  funext j
  idx_vars j
  pointwise [spec, act]
  fin_cases j0 <;> rfl

/-- The stored block at an element. -/
theorem pay1_apply (x0 : Vec Ideal S8x1024 .f32) (x1 : Vec Ideal S1x1024x1152 .f32) (x2 : Vec Ideal S1x1x1152 .f32) (b : Fin 8) (d : Fin 1152) :
    k0_pay1 x0 x1 x2 (ix3 0 b d) = ∑ k : Fin 1024, act (x0 (ix2 b k)) * x1 (ix3 0 k d) + x2 (ix3 0 0 d) := by
  pointwise [k0_pay1, act]
  simp only [zero_sub]

/-- What a grid point leaves, at an element. -/
theorem out_apply (x0 : Vec Ideal S8x1024 .f32) (x1 : Vec Ideal S1x1024x1152 .f32) (x2 : Vec Ideal S1x1x1152 .f32) (b : Fin 8) (d : Fin 1152) :
    out0_3 x0 x1 x2 (ix3 0 b d) = ∑ k : Fin 1024, act (x0 (ix2 b k)) * x1 (ix3 0 k d) + x2 (ix3 0 0 d) := by
  unfold out0_3
  frame_out
  rw [pay1_apply]

/-- The blocks' places: which block of each array grid point `t` reads and writes. -/
theorem idx : ∀ t : Fin cfg0.N, win0_0.index t = ![0, 0] ∧ win0_1.index t = ![t.val / 8, 0, t.val % 8] ∧ win0_2.index t = ![t.val / 8, 0, t.val % 8]
    ∧ win0_3.index t = ![t.val / 8, 0, t.val % 8] :=
  (by decide +kernel : ∀ t : Fin grid0.N, win0_0.index t = ![0, 0] ∧ win0_1.index t = ![t.val / 8, 0, t.val % 8] ∧ win0_2.index t = ![t.val / 8, 0, t.val % 8]
    ∧ win0_3.index t = ![t.val / 8, 0, t.val % 8])

/-- The array the kernel leaves is `spec` of its arguments. -/
theorem kernel_eq (m : (ℓ : Loc nD τ sig) → Buf (Elt Ideal) ℓ) (c : Dev nD) :
    (dats m 0 c).arrAt 3 cfg0.N
      = spec (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  obtain ⟨b, d, rfl⟩ : ∃ (b : Fin 8) (d : Fin 1152), y = ix3 0 b d := by
    refine ⟨y 1, y 2, ?_⟩
    have h := eq_ix3 y
    have h0 : y 0 = (0 : Fin 1) := Subsingleton.elim (α := Fin 1) _ _
    rw [h0] at h
    exact h
  rw [after0_3, out_apply]
  obtain ⟨e0, e1, e2, e3⟩ := idx t
  have ht : t.val < 16 := t.isLt
  have o : (win0_3.blk t).view.emb (ix3 0 b d) = ix3 ⟨t.val / 8, by omega⟩ b ⟨t.val % 8 * 1152 + d.val, by omega⟩ := by blk_ext [idx t]
  have h0 : ∀ k : Fin 1024, iblk m c 0 t (ix2 b k) = m ((c.tc : Thread nD τ).loc main_arg0) (ix2 b k) := by
    intro k; blk_ext [iblk, V, idx t]
  have h1 : ∀ k : Fin 1024, iblk m c 1 t (ix3 0 k d)
      = m ((c.tc : Thread nD τ).loc main_arg1) (ix3 ⟨t.val / 8, by omega⟩ k ⟨t.val % 8 * 1152 + d.val, by omega⟩) := by
    intro k; blk_ext [iblk, V, idx t]
  have h2 : iblk m c 2 t (ix3 0 0 d) = m ((c.tc : Thread nD τ).loc main_arg2) (ix2 ⟨t.val / 8, by omega⟩ ⟨t.val % 8 * 1152 + d.val, by omega⟩) := by
    have e : (win0_2.blk t).view.emb (ix3 0 0 d) = ix3 ⟨t.val / 8, by omega⟩ 0 ⟨t.val % 8 * 1152 + d.val, by omega⟩ := by blk_ext [idx t]
    show V m c main_v0 ((win0_2.blk t).view.emb (ix3 0 0 d)) = _
    rw [e]
    entry_read
    pointwise
  rw [o]
  simp only [h0, h1, h2]
  rfl

end Cert.Proof.ModulationIdeal
end
-- ==== Proof.lean ====
module

public import proofs.«01_k».proof.Defs
public import proofs.«01_k».proof.Proof.Gen.Ffn.Frame
public import proofs.«01_k».proof.Proof.Ffn.Value
public import proofs.«01_k».proof.Proof.Gen.FfnMid.Frame
public import proofs.«01_k».proof.Proof.FfnMid.Value
public import proofs.«01_k».proof.Proof.Gen.FfnEnd.Frame
public import proofs.«01_k».proof.Proof.FfnEnd.Value
public import proofs.«01_k».proof.Proof.Gen.OutEven.Frame
public import proofs.«01_k».proof.Proof.OutEven.Value
public import proofs.«01_k».proof.Proof.Gen.OutOdd.Frame
public import proofs.«01_k».proof.Proof.OutOdd.Value
public import proofs.«01_k».proof.Proof.Gen.OddIn.Frame
public import proofs.«01_k».proof.Proof.OddIn.Value
public import proofs.«01_k».proof.Proof.Gen.EvenIn.Frame
public import proofs.«01_k».proof.Proof.EvenIn.Finite
public import proofs.«01_k».proof.Proof.EvenIn.Ref
public import proofs.«01_k».proof.Proof.Gen.Modulation.Frame
public import proofs.«01_k».proof.Proof.Modulation.Value
public import proofs.«01_k».proof.Proof.Gen.Mlstm.Frame
public import proofs.«01_k».proof.Proof.Gen.MlstmIdeal.Frame
public import proofs.«01_k».proof.Proof.Gen.ReferenceIdeal.Run
public import proofs.«01_k».proof.Proof.Attn.Run
public import proofs.«01_k».proof.Proof.AttnI.Run
public import proofs.«01_k».proof.Proof.AttnV.Value
public import Idealize.ShloMosaic.Lib.Quiescent
public import Idealize.ShloMosaic.Adequacy
public import Idealize.ShloMosaic.Init

/-!
The claim of this directory, put together from the runs and the value equations proved in the modules beside this file.
-/

@[expose] public section

set_option maxRecDepth 16384

noncomputable section

namespace Cert.Proof

open Idealize.ShloMosaic Idealize.ShloMosaic.TcCoe Idealize.SL.Sem

/-- The first feed-forward half step's reference's own run. -/
theorem quiescent_FfnRefIdeal : Cert.quiescent_FfnRefIdeal (hFfnRefIdeal := Cert.FfnRefIdeal.Gen.facts) := by
  intro m g _
  exact (θ_run _ _ _).mono (fun r h => ⟨fun c => (h c).2, sem_eq_zero_of_no_sems (by decide) r.2⟩) (Cert.FfnRefIdeal.Value.run m g)

/-- The second feed-forward half step's reference's own run. -/
theorem quiescent_FfnMidRefIdeal : Cert.quiescent_FfnMidRefIdeal (hFfnMidRefIdeal := Cert.FfnMidRefIdeal.Gen.facts) := by
  intro m g _
  exact (θ_run _ _ _).mono (fun r h => ⟨fun c => (h c).2, sem_eq_zero_of_no_sems (by decide) r.2⟩) (Cert.FfnMidRefIdeal.Value.run m g)

/-- The last feed-forward half step's reference's own run. -/
theorem quiescent_FfnEndRefIdeal : Cert.quiescent_FfnEndRefIdeal (hFfnEndRefIdeal := Cert.FfnEndRefIdeal.Gen.facts) := by
  intro m g _
  exact (θ_run _ _ _).mono (fun r h => ⟨fun c => (h c).2, sem_eq_zero_of_no_sems (by decide) r.2⟩) (Cert.FfnEndRefIdeal.Value.run m g)

/-- The attention reference's own run. -/
theorem quiescent_ReferenceIdeal : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The attention reference's own run, from finite arguments as well. -/
theorem quiescent_ReferenceIdeal_pre_finite :
    Cert.quiescent_ReferenceIdeal_pre_finite (hReferenceIdeal := Cert.ReferenceIdeal.Gen.facts) (hPre_finite := Cert.Proof.KernelIdeal.finite_facts) := by
  intro m g _
  exact (θ_run _ _ _).mono (fun r h => ⟨fun c => (h c).2, sem_eq_zero_of_no_sems (by decide) r.2⟩) (Cert.ReferenceIdeal.Value.run m g)

/-- The attention: from finite arguments kernel and reference leave the same array. -/
theorem algebraic_Attn :
    Cert.algebraic_KernelIdeal_ReferenceIdeal_pre_finite (hKernelIdeal := Cert.KernelIdeal.Gen.facts)
      (hReferenceIdeal := Cert.ReferenceIdeal.Gen.facts) (hPre_finite := Cert.Proof.KernelIdeal.finite_facts) := by
  intro m g m' g' hfin hagree
  refine ⟨fun c => (Cert.Proof.KernelIdeal.dats m 0 c).arrAt 5 Cert.KernelIdeal.cfg0.N, Cert.Proof.KernelIdeal.run_array m g, ?_⟩
  refine (θ_run _ _ _).mono (fun r h c => ⟨(h c).1.trans ?_, (h c).2⟩) (Cert.ReferenceIdeal.Value.run m' g')
  obtain ⟨f0, f1⟩ := hfin c
  obtain ⟨h0, h1, h2⟩ := hagree c
  have hX := Cert.Proof.KernelIdeal.real_fst _ _ _ f0
  have hL := Cert.Proof.KernelIdeal.real_snd _ _ _ f1
  obtain ⟨l, hl⟩ := Cert.Proof.KernelIdeal.lamOf_real _ _ hL
  refine (Cert.Proof.ReferenceIdeal.ref_apply m' c _ (fun b r j => (congrFun h0 _).trans (hX b r j)) l ?_).trans
    (Eq.trans ?_ (Cert.Proof.KernelIdeal.kernel_eq m c _ hX).symm)
  · rw [h1]; exact hl
  · rw [h1, h2]

/-- The first feed-forward half step: kernel and reference leave the same array. -/
theorem algebraic_Ffn :
    Cert.algebraic_FfnIdeal_FfnRefIdeal (hFfnIdeal := Cert.FfnIdeal.Gen.facts) (hFfnRefIdeal := Cert.FfnRefIdeal.Gen.facts) := by
  intro m g m' g' _ hagree
  refine ⟨fun c => (Cert.FfnIdeal.Gen.dats m 0 c).arrAt 7 Cert.FfnIdeal.cfg0.N, Cert.FfnIdeal.Value.run_blocks m g, ?_⟩
  refine (θ_run _ _ _).mono (fun r h c => ⟨(h c).1.trans ?_, (h c).2⟩) (Cert.FfnRefIdeal.Value.run m' g')
  refine (Cert.Proof.FfnIdeal.ref_eq m' c).trans (Eq.trans ?_ (Cert.Proof.FfnIdeal.kernel_eq m c).symm)
  obtain ⟨h0, h1, h2, h3, h4, h5, h6⟩ := hagree c
  rw [h0, h1, h2, h3, h4, h5]

/-- The second feed-forward half step: kernel and reference leave the same array. -/
theorem algebraic_FfnMid :
    Cert.algebraic_FfnMidIdeal_FfnMidRefIdeal (hFfnMidIdeal := Cert.FfnMidIdeal.Gen.facts) (hFfnMidRefIdeal := Cert.FfnMidRefIdeal.Gen.facts) := by
  intro m g m' g' _ hagree
  refine ⟨fun c => (Cert.FfnMidIdeal.Gen.dats m 0 c).arrAt 7 Cert.FfnMidIdeal.cfg0.N, Cert.FfnMidIdeal.Value.run_blocks m g, ?_⟩
  refine (θ_run _ _ _).mono (fun r h c => ⟨(h c).1.trans ?_, (h c).2⟩) (Cert.FfnMidRefIdeal.Value.run m' g')
  refine (Cert.Proof.FfnMidIdeal.ref_eq m' c).trans (Eq.trans ?_ (Cert.Proof.FfnMidIdeal.kernel_eq m c).symm)
  obtain ⟨h0, h1, h2, h3, h4, h5, h6⟩ := hagree c
  rw [h0, h1, h2, h3, h4, h5]

/-- The last feed-forward half step: kernel and reference leave the same array. -/
theorem algebraic_FfnEnd :
    Cert.algebraic_FfnEndIdeal_FfnEndRefIdeal (hFfnEndIdeal := Cert.FfnEndIdeal.Gen.facts) (hFfnEndRefIdeal := Cert.FfnEndRefIdeal.Gen.facts) := by
  intro m g m' g' _ hagree
  refine ⟨fun c => (Cert.FfnEndIdeal.Gen.dats m 0 c).arrAt 7 Cert.FfnEndIdeal.cfg0.N, Cert.FfnEndIdeal.Value.run_blocks m g, ?_⟩
  refine (θ_run _ _ _).mono (fun r h c => ⟨(h c).1.trans ?_, (h c).2⟩) (Cert.FfnEndRefIdeal.Value.run m' g')
  refine (Cert.Proof.FfnEndIdeal.ref_eq m' c).trans (Eq.trans ?_ (Cert.Proof.FfnEndIdeal.kernel_eq m c).symm)
  obtain ⟨h0, h1, h2, h3, h4, h5, h6⟩ := hagree c
  rw [h0, h1, h2, h3, h4, h5, h6]

/-- The first block's output projection: the reference's own run. -/
theorem quiescent_OutEvenRefIdeal : Cert.quiescent_OutEvenRefIdeal (hOutEvenRefIdeal := Cert.OutEvenRefIdeal.Gen.facts) := by
  intro m g _
  exact (θ_run _ _ _).mono (fun r h => ⟨fun c => (h c).2, sem_eq_zero_of_no_sems (by decide) r.2⟩) (Cert.OutEvenRefIdeal.Value.run m g)

/-- The first block's output projection: kernel and reference leave the same array. -/
theorem algebraic_OutEven :
    Cert.algebraic_OutEvenIdeal_OutEvenRefIdeal (hOutEvenIdeal := Cert.OutEvenIdeal.Gen.facts) (hOutEvenRefIdeal := Cert.OutEvenRefIdeal.Gen.facts) := by
  intro m g m' g' _ hagree
  refine ⟨fun c => (Cert.OutEvenIdeal.Gen.dats m 0 c).arrAt 6 Cert.OutEvenIdeal.cfg0.N, Cert.OutEvenIdeal.Value.run_blocks m g, ?_⟩
  refine (θ_run _ _ _).mono (fun r h c => ⟨(h c).1.trans (Eq.trans ?_ (Cert.Proof.OutEvenIdeal.kernel_eq m c).symm), (h c).2⟩) (Cert.Proof.OutEvenIdeal.ref_run m' g')
  obtain ⟨h0, h1, h2, h3, h4⟩ := hagree c
  rw [h0, h1, h2, h3, h4]

/-- The second block's output projection: the reference's own run. -/
theorem quiescent_OutOddRefIdeal : Cert.quiescent_OutOddRefIdeal (hOutOddRefIdeal := Cert.OutOddRefIdeal.Gen.facts) := by
  intro m g _
  exact (θ_run _ _ _).mono (fun r h => ⟨fun c => (h c).2, sem_eq_zero_of_no_sems (by decide) r.2⟩) (Cert.OutOddRefIdeal.Value.run m g)

/-- The second block's output projection: kernel and reference leave the same array. -/
theorem algebraic_OutOdd :
    Cert.algebraic_OutOddIdeal_OutOddRefIdeal (hOutOddIdeal := Cert.OutOddIdeal.Gen.facts) (hOutOddRefIdeal := Cert.OutOddRefIdeal.Gen.facts) := by
  intro m g m' g' _ hagree
  refine ⟨fun c => (Cert.OutOddIdeal.Gen.dats m 0 c).arrAt 4 Cert.OutOddIdeal.cfg0.N, Cert.OutOddIdeal.Value.run_blocks m g, ?_⟩
  refine (θ_run _ _ _).mono (fun r h c => ⟨(h c).1.trans (Eq.trans ?_ (Cert.Proof.OutOddIdeal.kernel_eq m c).symm), (h c).2⟩) (Cert.Proof.OutOddIdeal.ref_run m' g')
  obtain ⟨h0, h1, h2, h3⟩ := hagree c
  rw [h0, h1, h2, h3]

/-- The second block's input projection: the reference's own run. -/
theorem quiescent_OddInRefIdeal : Cert.quiescent_OddInRefIdeal (hOddInRefIdeal := Cert.OddInRefIdeal.Gen.facts) := by
  intro m g _
  exact (θ_run _ _ _).mono (fun r h => ⟨fun c => (h c).2.2.2, sem_eq_zero_of_no_sems (by decide) r.2⟩) (Cert.OddInRefIdeal.Value.run m g)

/-- The second block's input projection: kernel and reference leave the same arrays. -/
theorem algebraic_OddIn :
    Cert.algebraic_OddInIdeal_OddInRefIdeal (hOddInIdeal := Cert.OddInIdeal.Gen.facts) (hOddInRefIdeal := Cert.OddInRefIdeal.Gen.facts) := by
  intro m g m' g' _ hagree
  refine ⟨fun c => (Cert.OddInIdeal.Gen.dats m 0 c).arrAt 6 Cert.OddInIdeal.cfg0.N, fun c => (Cert.OddInIdeal.Gen.dats m 0 c).arrAt 7 Cert.OddInIdeal.cfg0.N, fun c => (Cert.OddInIdeal.Gen.dats m 0 c).arrAt 8 Cert.OddInIdeal.cfg0.N, Cert.OddInIdeal.Value.run_blocks m g, ?_⟩
  refine (θ_run _ _ _).mono (fun r h c => ⟨(h c).1.trans (Eq.trans ?_ (Cert.Proof.OddInIdeal.kernel_eq6 m c).symm),
    (h c).2.1.trans (Eq.trans ?_ (Cert.Proof.OddInIdeal.kernel_eq7 m c).symm),
    (h c).2.2.1.trans (Eq.trans ?_ (Cert.Proof.OddInIdeal.kernel_eq8 m c).symm), (h c).2.2.2⟩) (Cert.Proof.OddInIdeal.ref_run m' g')
  all_goals obtain ⟨h0, h1, h2, h3, h4⟩ := hagree c
  · rw [h0, h1, h2, h3]
  · rw [h0, h1, h2, h3, h4]
  · rw [h0, h1, h2, h3, h4]

/-- The first block's input projection: the reference's own run. -/
theorem quiescent_EvenInRefIdeal : Cert.quiescent_EvenInRefIdeal (hEvenInRefIdeal := Cert.EvenInRefIdeal.Gen.facts) := by
  intro m g _
  exact (θ_run _ _ _).mono (fun r h => ⟨fun c => (h c).2.2, sem_eq_zero_of_no_sems (by decide) r.2⟩) (Cert.EvenInRefIdeal.Value.run m g)

/-- The first block's input projection: the reference's own run, from finite arguments as well. -/
theorem quiescent_EvenInRefIdeal_pre :
    Cert.quiescent_EvenInRefIdeal_pre_finite_even_in (hEvenInRefIdeal := Cert.EvenInRefIdeal.Gen.facts) (hPre_finite_even_in := Cert.Proof.EvenInIdeal.even_facts) := by
  intro m g _
  exact (θ_run _ _ _).mono (fun r h => ⟨fun c => (h c).2.2, sem_eq_zero_of_no_sems (by decide) r.2⟩) (Cert.EvenInRefIdeal.Value.run m g)

/-- The first block's input projection with its pooling: from finite arguments kernel and reference leave the same arrays. -/
theorem algebraic_EvenIn :
    Cert.algebraic_EvenInIdeal_EvenInRefIdeal_pre_finite_even_in (hEvenInIdeal := Cert.EvenInIdeal.Gen.facts) (hEvenInRefIdeal := Cert.EvenInRefIdeal.Gen.facts)
      (hPre_finite_even_in := Cert.Proof.EvenInIdeal.even_facts) := by
  intro m g m' g' hfin hagree
  refine ⟨fun c => (Cert.EvenInIdeal.Gen.dats m 0 c).arrAt 6 Cert.EvenInIdeal.cfg0.N, fun c => (Cert.EvenInIdeal.Gen.dats m 0 c).arrAt 7 Cert.EvenInIdeal.cfg0.N, Cert.EvenInIdeal.Value.run_blocks m g, ?_⟩
  refine (θ_run _ _ _).mono (fun r h c => ⟨(h c).1.trans (Eq.trans ?pool (Cert.Proof.EvenInIdeal.kernel_eq6 m c).symm),
    (h c).2.1.trans (Eq.trans ?qkv (Cert.Proof.EvenInIdeal.kernel_eq7 m c).symm), (h c).2.2⟩) (Cert.Proof.EvenInRefIdeal.ref_run m' g' fun c b n i => ?real)
  all_goals obtain ⟨h0, h1, h2, h3, h4, h5⟩ := hagree c
  case pool => rw [h0, h1, h2, h3, h4, h5]
  case qkv => rw [h0, h1, h2, h3]
  case real =>
    obtain ⟨f0, f1, f2, f3⟩ := hfin c
    rw [h0, h1, h2, h3]
    exact Cert.Proof.EvenInIdeal.useq_real _ _ _ _ _ _ f0 f1 f2 f3 b n i

/-- The modulation: the reference's own run. -/
theorem quiescent_ModulationRefIdeal : Cert.quiescent_ModulationRefIdeal (hModulationRefIdeal := Cert.ModulationRefIdeal.Gen.facts) := by
  intro m g _
  exact (θ_run _ _ _).mono (fun r h => ⟨fun c => (h c).2, sem_eq_zero_of_no_sems (by decide) r.2⟩) (Cert.ModulationRefIdeal.Value.run m g)

/-- The modulation: kernel and reference leave the same array. -/
theorem algebraic_Modulation :
    Cert.algebraic_ModulationIdeal_ModulationRefIdeal (hModulationIdeal := Cert.ModulationIdeal.Gen.facts) (hModulationRefIdeal := Cert.ModulationRefIdeal.Gen.facts) := by
  intro m g m' g' _ hagree
  refine ⟨fun c => (Cert.ModulationIdeal.Gen.dats m 0 c).arrAt 3 Cert.ModulationIdeal.cfg0.N, Cert.ModulationIdeal.Value.run_blocks m g, ?_⟩
  refine (θ_run _ _ _).mono (fun r h c => ⟨(h c).1.trans (Eq.trans ?_ (Cert.Proof.ModulationIdeal.kernel_eq m c).symm), (h c).2⟩) (Cert.Proof.ModulationIdeal.ref_run m' g')
  obtain ⟨h0, h1, h2⟩ := hagree c
  rw [h0, h1, h2]

/-- The claim. -/
theorem claim : Cert.Claim :=
  ⟨Cert.Ffn.Gen.facts, Cert.FfnIdeal.Gen.facts, Cert.FfnRefIdeal.Gen.facts, Cert.FfnMid.Gen.facts, Cert.FfnMidIdeal.Gen.facts, Cert.FfnMidRefIdeal.Gen.facts, Cert.FfnEnd.Gen.facts, Cert.FfnEndIdeal.Gen.facts, Cert.FfnEndRefIdeal.Gen.facts,
    Cert.OutEven.Gen.facts, Cert.OutEvenIdeal.Gen.facts, Cert.OutEvenRefIdeal.Gen.facts, Cert.OutOdd.Gen.facts, Cert.OutOddIdeal.Gen.facts, Cert.OutOddRefIdeal.Gen.facts, Cert.OddIn.Gen.facts, Cert.OddInIdeal.Gen.facts, Cert.OddInRefIdeal.Gen.facts,
    Cert.EvenIn.Gen.facts, Cert.EvenInIdeal.Gen.facts, Cert.EvenInRefIdeal.Gen.facts, Cert.Modulation.Gen.facts, Cert.ModulationIdeal.Gen.facts, Cert.ModulationRefIdeal.Gen.facts,
    Cert.Mlstm.Gen.facts, Cert.MlstmIdeal.Gen.facts,
    Cert.Kernel.Gen.facts, Cert.KernelIdeal.Gen.facts, Cert.ReferenceIdeal.Gen.facts, Cert.Proof.EvenInIdeal.even_facts, Cert.Proof.KernelIdeal.finite_facts,
    fun m ρ _ => Cert.Ffn.Gen.frame m ρ,
    fun m ρ _ => Cert.FfnIdeal.Gen.frame m ρ,
    quiescent_FfnRefIdeal,
    fun m ρ _ => Cert.FfnMid.Gen.frame m ρ,
    fun m ρ _ => Cert.FfnMidIdeal.Gen.frame m ρ,
    quiescent_FfnMidRefIdeal,
    fun m ρ _ => Cert.FfnEnd.Gen.frame m ρ,
    fun m ρ _ => Cert.FfnEndIdeal.Gen.frame m ρ,
    quiescent_FfnEndRefIdeal,
    fun m ρ _ => Cert.OutEven.Gen.frame m ρ,
    fun m ρ _ => Cert.OutEvenIdeal.Gen.frame m ρ,
    quiescent_OutEvenRefIdeal,
    fun m ρ _ => Cert.OutOdd.Gen.frame m ρ,
    fun m ρ _ => Cert.OutOddIdeal.Gen.frame m ρ,
    quiescent_OutOddRefIdeal,
    fun m ρ _ => Cert.OddIn.Gen.frame m ρ,
    fun m ρ _ => Cert.OddInIdeal.Gen.frame m ρ,
    quiescent_OddInRefIdeal,
    fun m ρ _ => Cert.EvenIn.Gen.frame m ρ,
    fun m ρ _ => Cert.EvenInIdeal.Gen.frame m ρ,
    fun m ρ _ => Cert.EvenInIdeal.Gen.frame m ρ,
    quiescent_EvenInRefIdeal,
    quiescent_EvenInRefIdeal_pre,
    fun m ρ _ => Cert.Modulation.Gen.frame m ρ,
    fun m ρ _ => Cert.ModulationIdeal.Gen.frame m ρ,
    quiescent_ModulationRefIdeal,
    fun m ρ _ => Cert.Mlstm.Gen.frame m ρ,
    fun m ρ _ => Cert.MlstmIdeal.Gen.frame m ρ,
    fun m ρ _ => Cert.Proof.Kernel.frame_main m ρ,
    fun m ρ _ => Cert.Proof.KernelIdeal.frame_main m ρ,
    fun m ρ _ => Cert.Proof.KernelIdeal.frame_main m ρ,
    quiescent_ReferenceIdeal,
    quiescent_ReferenceIdeal_pre_finite,
    trivial,
    algebraic_Ffn,
    trivial,
    algebraic_FfnMid,
    trivial,
    algebraic_FfnEnd,
    trivial,
    algebraic_OutEven,
    trivial,
    algebraic_OutOdd,
    trivial,
    algebraic_OddIn,
    trivial,
    algebraic_EvenIn,
    trivial,
    algebraic_Modulation,
    trivial,
    IdealRules.named_const.statement Cert.KernelIdeal.κ "mask" .f32 0xF149F2CA#32 ⊥ rfl,
    algebraic_Attn⟩

end Cert.Proof
end
